-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v36)) (v4 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_v37) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v26) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v24)) (v1 : (c : Dev Cert.Kernel2Ideal.nD) → Buf (Elt Ideal) ((c.tc : Thread Cert.Kernel2Ideal.nD Cert.Kernel2Ideal.τ).loc Cert.Kernel2Ideal.main_v25)) (v2 : (c : Dev Cert.Kernel2Ideal.nD) → Buf (Elt Ideal) ((c.tc : Thread Cert.Kernel2Ideal.nD Cert.Kernel2Ideal.τ).loc Cert.Kernel2Ideal.main_v29)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_v25) = v1 c
          ∧ r.2.mem ((c.tc : Thread Cert.Kernel2Ideal.nD Cert.Kernel2Ideal.τ).loc Cert.Kernel2Ideal.main_v29) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v9)) (v2 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v9) = v1 c
          ∧ r.2.mem ((c.tc : Thread Cert.Kernel3Ideal.nD Cert.Kernel3Ideal.τ).loc Cert.Kernel3Ideal.main_v10) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v57)) (v1 : (c : Dev Cert.Kernel4Ideal.nD) → Buf (Elt Ideal) ((c.tc : Thread Cert.Kernel4Ideal.nD Cert.Kernel4Ideal.τ).loc Cert.Kernel4Ideal.main_v58)) (v2 : (c : Dev Cert.Kernel4Ideal.nD) → Buf (Elt Ideal) ((c.tc : Thread Cert.Kernel4Ideal.nD Cert.Kernel4Ideal.τ).loc Cert.Kernel4Ideal.main_v60)) (v3 : (c : Dev Cert.Kernel4Ideal.nD) → Buf (Elt Ideal) ((c.tc : Thread Cert.Kernel4Ideal.nD Cert.Kernel4Ideal.τ).loc Cert.Kernel4Ideal.main_v62)) (v4 : (c : Dev Cert.Kernel4Ideal.nD) → Buf (Elt Ideal) ((c.tc : Thread Cert.Kernel4Ideal.nD Cert.Kernel4Ideal.τ).loc Cert.Kernel4Ideal.main_v64)) (v5 : (c : Dev Cert.Kernel4Ideal.nD) → Buf (Elt Ideal) ((c.tc : Thread Cert.Kernel4Ideal.nD Cert.Kernel4Ideal.τ).loc Cert.Kernel4Ideal.main_v65)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v57) = v0 c
          ∧ r.2.mem ((c.tc : Thread Cert.Kernel4Ideal.nD Cert.Kernel4Ideal.τ).loc Cert.Kernel4Ideal.main_v58) = v1 c
          ∧ r.2.mem ((c.tc : Thread Cert.Kernel4Ideal.nD Cert.Kernel4Ideal.τ).loc Cert.Kernel4Ideal.main_v60) = v2 c
          ∧ r.2.mem ((c.tc : Thread Cert.Kernel4Ideal.nD Cert.Kernel4Ideal.τ).loc Cert.Kernel4Ideal.main_v62) = v3 c
          ∧ r.2.mem ((c.tc : Thread Cert.Kernel4Ideal.nD Cert.Kernel4Ideal.τ).loc Cert.Kernel4Ideal.main_v64) = v4 c
          ∧ r.2.mem ((c.tc : Thread Cert.Kernel4Ideal.nD Cert.Kernel4Ideal.τ).loc Cert.Kernel4Ideal.main_v65) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v62) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_v65) = v2 c
          ∧ r.2.mem ((c.tc : Thread Cert.Reference4Ideal.nD Cert.Reference4Ideal.τ).loc Cert.Reference4Ideal.main_v60) = v3 c
          ∧ r.2.mem ((c.tc : Thread Cert.Reference4Ideal.nD Cert.Reference4Ideal.τ).loc Cert.Reference4Ideal.main_v56) = v4 c
          ∧ r.2.mem ((c.tc : Thread Cert.Reference4Ideal.nD Cert.Reference4Ideal.τ).loc Cert.Reference4Ideal.main_v38) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v38)) (v1 : (c : Dev Cert.Kernel7Ideal.nD) → Buf (Elt Ideal) ((c.tc : Thread Cert.Kernel7Ideal.nD Cert.Kernel7Ideal.τ).loc Cert.Kernel7Ideal.main_v1)) (v2 : (c : Dev Cert.Kernel7Ideal.nD) → Buf (Elt Ideal) ((c.tc : Thread Cert.Kernel7Ideal.nD Cert.Kernel7Ideal.τ).loc Cert.Kernel7Ideal.main_v11)) (v3 : (c : Dev Cert.Kernel7Ideal.nD) → Buf (Elt Ideal) ((c.tc : Thread Cert.Kernel7Ideal.nD Cert.Kernel7Ideal.τ).loc Cert.Kernel7Ideal.main_v14)) (v4 : (c : Dev Cert.Kernel7Ideal.nD) → Buf (Elt Ideal) ((c.tc : Thread Cert.Kernel7Ideal.nD Cert.Kernel7Ideal.τ).loc Cert.Kernel7Ideal.main_v17)) (v5 : (c : Dev Cert.Kernel7Ideal.nD) → Buf (Elt Ideal) ((c.tc : Thread Cert.Kernel7Ideal.nD Cert.Kernel7Ideal.τ).loc Cert.Kernel7Ideal.main_v39)) (v6 : (c : Dev Cert.Kernel7Ideal.nD) → Buf (Elt Ideal) ((c.tc : Thread Cert.Kernel7Ideal.nD Cert.Kernel7Ideal.τ).loc Cert.Kernel7Ideal.main_v40)) (v7 : (c : Dev Cert.Kernel7Ideal.nD) → Buf (Elt Ideal) ((c.tc : Thread Cert.Kernel7Ideal.nD Cert.Kernel7Ideal.τ).loc Cert.Kernel7Ideal.main_v32)) (v8 : (c : Dev Cert.Kernel7Ideal.nD) → Buf (Elt Ideal) ((c.tc : Thread Cert.Kernel7Ideal.nD Cert.Kernel7Ideal.τ).loc Cert.Kernel7Ideal.main_v36)) (v9 : (c : Dev Cert.Kernel7Ideal.nD) → Buf (Elt Ideal) ((c.tc : Thread Cert.Kernel7Ideal.nD Cert.Kernel7Ideal.τ).loc Cert.Kernel7Ideal.main_v20)) (v10 : (c : Dev Cert.Kernel7Ideal.nD) → Buf (Elt Ideal) ((c.tc : Thread Cert.Kernel7Ideal.nD Cert.Kernel7Ideal.τ).loc Cert.Kernel7Ideal.main_v5)) (v11 : (c : Dev Cert.Kernel7Ideal.nD) → Buf (Elt Ideal) ((c.tc : Thread Cert.Kernel7Ideal.nD Cert.Kernel7Ideal.τ).loc Cert.Kernel7Ideal.main_v41)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v38) = v0 c
          ∧ r.2.mem ((c.tc : Thread Cert.Kernel7Ideal.nD Cert.Kernel7Ideal.τ).loc Cert.Kernel7Ideal.main_v1) = v1 c
          ∧ r.2.mem ((c.tc : Thread Cert.Kernel7Ideal.nD Cert.Kernel7Ideal.τ).loc Cert.Kernel7Ideal.main_v11) = v2 c
          ∧ r.2.mem ((c.tc : Thread Cert.Kernel7Ideal.nD Cert.Kernel7Ideal.τ).loc Cert.Kernel7Ideal.main_v14) = v3 c
          ∧ r.2.mem ((c.tc : Thread Cert.Kernel7Ideal.nD Cert.Kernel7Ideal.τ).loc Cert.Kernel7Ideal.main_v17) = v4 c
          ∧ r.2.mem ((c.tc : Thread Cert.Kernel7Ideal.nD Cert.Kernel7Ideal.τ).loc Cert.Kernel7Ideal.main_v39) = v5 c
          ∧ r.2.mem ((c.tc : Thread Cert.Kernel7Ideal.nD Cert.Kernel7Ideal.τ).loc Cert.Kernel7Ideal.main_v40) = v6 c
          ∧ r.2.mem ((c.tc : Thread Cert.Kernel7Ideal.nD Cert.Kernel7Ideal.τ).loc Cert.Kernel7Ideal.main_v32) = v7 c
          ∧ r.2.mem ((c.tc : Thread Cert.Kernel7Ideal.nD Cert.Kernel7Ideal.τ).loc Cert.Kernel7Ideal.main_v36) = v8 c
          ∧ r.2.mem ((c.tc : Thread Cert.Kernel7Ideal.nD Cert.Kernel7Ideal.τ).loc Cert.Kernel7Ideal.main_v20) = v9 c
          ∧ r.2.mem ((c.tc : Thread Cert.Kernel7Ideal.nD Cert.Kernel7Ideal.τ).loc Cert.Kernel7Ideal.main_v5) = v10 c
          ∧ r.2.mem ((c.tc : Thread Cert.Kernel7Ideal.nD Cert.Kernel7Ideal.τ).loc Cert.Kernel7Ideal.main_v41) = v11 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v2) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v14) = v3 c
          ∧ r.2.mem ((c.tc : Thread Cert.Reference7Ideal.nD Cert.Reference7Ideal.τ).loc Cert.Reference7Ideal.main_v17) = v4 c
          ∧ r.2.mem ((c.tc : Thread Cert.Reference7Ideal.nD Cert.Reference7Ideal.τ).loc Cert.Reference7Ideal.main_v39) = v5 c
          ∧ r.2.mem ((c.tc : Thread Cert.Reference7Ideal.nD Cert.Reference7Ideal.τ).loc Cert.Reference7Ideal.main_v40) = v6 c
          ∧ r.2.mem ((c.tc : Thread Cert.Reference7Ideal.nD Cert.Reference7Ideal.τ).loc Cert.Reference7Ideal.main_v32) = v7 c
          ∧ r.2.mem ((c.tc : Thread Cert.Reference7Ideal.nD Cert.Reference7Ideal.τ).loc Cert.Reference7Ideal.main_v36) = v8 c
          ∧ r.2.mem ((c.tc : Thread Cert.Reference7Ideal.nD Cert.Reference7Ideal.τ).loc Cert.Reference7Ideal.main_v20) = v9 c
          ∧ r.2.mem ((c.tc : Thread Cert.Reference7Ideal.nD Cert.Reference7Ideal.τ).loc Cert.Reference7Ideal.main_v5) = v10 c
          ∧ r.2.mem ((c.tc : Thread Cert.Reference7Ideal.nD Cert.Reference7Ideal.τ).loc Cert.Reference7Ideal.main_v41) = v11 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4096x1024 : Shape := ⟨2, ![4096, 1024]⟩
abbrev S_ : Shape := ⟨0, ![]⟩
abbrev S9729x1024 : Shape := ⟨2, ![9729, 1024]⟩

class Facts : Prop where
  shapeCasts_S1024_S1x1024 : S1024.ShapeCasts S1x1024
  shapeCasts_S2x2048x1024_S4096x1024 : S2x2048x1024.ShapeCasts S4096x1024
  transposes_S1024x2816_S2816x1024_1_0 : S1024x2816.Transposes [1, 0] S2816x1024
  bcast_S_S1x1024 : S_.BroadcastsInDim S1x1024 (![] : Fin 0 → Fin S1x1024.rank)
  bcast_S_S2816x1024 : S_.BroadcastsInDim S2816x1024 (![] : Fin 0 → Fin S2816x1024.rank)
  bcast_S_S4096x1024 : S_.BroadcastsInDim S4096x1024 (![] : Fin 0 → Fin S4096x1024.rank)
  concatenates_S1x1024_S2816x1024_S4096x1024_S2816x1024_S9729x1024_d0 : Shape.Concatenates [S1x1024, S2816x1024, S4096x1024, S2816x1024] S9729x1024 0

variable [Facts]

def fn {F : FTy → Type} [FloatOps F] (main_arg0 : FVec F S2x2048x1024 .f32) (main_arg1 : FVec F S1024 .f32) (main_arg2 : FVec F S1024x2816 .f32) (main_arg3 : FVec F S1024x2816 .f32) (main_arg4 : FVec F S2816x1024 .f32) (main_arg5 : FVec F S2x2048x1024 .f32) : IVec S9729x1024 1 :=
  let main_v0 : FVec F S1x1024 .f32 := shapeCast S1x1024 main_arg1 shapeCasts_S1024_S1x1024
  let main_v1 : FVec F S4096x1024 .f32 := shapeCast S4096x1024 main_arg5 shapeCasts_S2x2048x1024_S4096x1024
  let main_v2 : FVec F S2816x1024 .f32 := (transpose S2816x1024 [1, 0] · transposes_S1024x2816_S2816x1024_1_0) main_arg3
  let main_v3 : FVec F S1x1024 .f32 := Host.absf main_v0
  let main_cst : FVec F S_ .f32 := constant S_ .f32 0x7F800000#32
  let main_v4 : FVec F S1x1024 .f32 := broadcastInDim S1x1024 ![] bcast_S_S1x1024 main_cst
  let main_v5 : IVec S1x1024 1 := cmpf .olt main_v3 main_v4
  let main_v6 : FVec F S2816x1024 .f32 := Host.absf main_arg4
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_v9 : FVec F S4096x1024 .f32 := Host.absf main_v1
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S2816x1024 .f32 := Host.absf main_v2
  let main_cst_2 : FVec F S_ .f32 := constant S_ .f32 0x7F800000#32
  let main_v13 : FVec F S2816x1024 .f32 := broadcastInDim S2816x1024 ![] bcast_S_S2816x1024 main_cst_2
  let main_v14 : IVec S2816x1024 1 := cmpf .olt main_v12 main_v13
  let main_v15 : IVec S9729x1024 1 := concatenate S9729x1024 0 [⟨S1x1024, main_v5⟩, ⟨S2816x1024, main_v8⟩, ⟨S4096x1024, main_v11⟩, ⟨S2816x1024, main_v14⟩] concatenates_S1x1024_S2816x1024_S4096x1024_S2816x1024_S9729x1024_d0
  main_v15
-- ==== Kernel.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S256x1024 : Shape := ⟨2, ![256, 1024]⟩
abbrev S512x256 : Shape := ⟨2, ![512, 256]⟩
abbrev S128x1024 : Shape := ⟨2, ![128, 1024]⟩
abbrev S512x128 : Shape := ⟨2, ![512, 128]⟩
abbrev S2816x512 : Shape := ⟨2, ![2816, 512]⟩
abbrev S4096x256 : Shape := ⟨2, ![4096, 256]⟩
abbrev S256x512 : Shape := ⟨2, ![256, 512]⟩
abbrev S256x2816 : Shape := ⟨2, ![256, 2816]⟩
abbrev S256 : Shape := ⟨1, ![256]⟩
abbrev S256x1 : Shape := ⟨2, ![256, 1]⟩

abbrev nBuf : Space → Nat
  | .hbm => 56
  | .vmem => 58
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .bf16⟩
  | .hbm, ⟨26, _⟩ => ⟨S2816x1024, .f32⟩
  | .hbm, ⟨27, _⟩ => ⟨S2816x1024, .bf16⟩
  | .hbm, ⟨28, _⟩ => ⟨S2816x1024, .f32⟩
  | .hbm, ⟨29, _⟩ => ⟨S2816x1024, .bf16⟩
  | .hbm, ⟨30, _⟩ => ⟨S2816x1024, .bf16⟩
  | .hbm, ⟨31, _⟩ => ⟨S4096x2816, .f32⟩
  | .hbm, ⟨32, _⟩ => ⟨S4096x2816, .f32⟩
  | .hbm, ⟨33, _⟩ => ⟨S4096x2816, .bf16⟩
  | .hbm, ⟨34, _⟩ => ⟨S4096x2816, .bf16⟩
  | .hbm, ⟨35, _⟩ => ⟨S4096x2816, .bf16⟩
  | .hbm, ⟨36, _⟩ => ⟨S2816x1024, .bf16⟩
  | .hbm, ⟨37, _⟩ => ⟨S2816x512, .bf16⟩
  | .hbm, ⟨38, _⟩ => ⟨S2816x512, .bf16⟩
  | .hbm, ⟨39, _⟩ => ⟨S2816x512, .bf16⟩
  | .hbm, ⟨40, _⟩ => ⟨S2816x512, .bf16⟩
  | .hbm, ⟨41, _⟩ => ⟨S1x1024, .f32⟩
  | .hbm, ⟨42, _⟩ => ⟨S4096x1024, .f32⟩
  | .hbm, ⟨43, _⟩ => ⟨S4096x1024, .bf16⟩
  | .hbm, ⟨44, _⟩ => ⟨S1x1024, .f32⟩
  | .hbm, ⟨45, _⟩ => ⟨S2x2048x1024, .f32⟩
  | .hbm, ⟨46, _⟩ => ⟨S1024, .f32⟩
  | .hbm, ⟨47, _⟩ => ⟨S2816x512, .f32⟩
  | .hbm, ⟨48, _⟩ => ⟨S2816x512, .f32⟩
  | .hbm, ⟨49, _⟩ => ⟨S2816x1024, .f32⟩
  | .hbm, ⟨50, _⟩ => ⟨S1024x2816, .f32⟩
  | .hbm, ⟨51, _⟩ => ⟨S2816x512, .f32⟩
  | .hbm, ⟨52, _⟩ => ⟨S2816x512, .f32⟩
  | .hbm, ⟨53, _⟩ => ⟨S2816x1024, .f32⟩
  | .hbm, ⟨54, _⟩ => ⟨S1024x2816, .f32⟩
  | .hbm, ⟨55, _⟩ => ⟨S2816x1024, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | .local _ .vmem, ⟨13, _⟩ => ⟨S512x1024, .bf16⟩
  | .local _ .vmem, ⟨14, _⟩ => ⟨S1408x1024, .bf16⟩
  | .local _ .vmem, ⟨15, _⟩ => ⟨S1408x1024, .bf16⟩
  | .local _ .vmem, ⟨16, _⟩ => ⟨S512x1408, .f32⟩
  | .local _ .vmem, ⟨17, _⟩ => ⟨S512x1408, .f32⟩
  | .local _ .vmem, ⟨18, _⟩ => ⟨S512x1408, .f32⟩
  | .local _ .vmem, ⟨19, _⟩ => ⟨S512x1408, .f32⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S4096x256, .bf16⟩
  | .local _ .vmem, ⟨25, _⟩ => ⟨S4096x256, .bf16⟩
  | .local _ .vmem, ⟨26, _⟩ => ⟨S4096x1024, .bf16⟩
  | .local _ .vmem, ⟨27, _⟩ => ⟨S4096x256, .bf16⟩
  | .local _ .vmem, ⟨28, _⟩ => ⟨S4096x256, .bf16⟩
  | .local _ .vmem, ⟨29, _⟩ => ⟨S4096x256, .bf16⟩
  | .local _ .vmem, ⟨30, _⟩ => ⟨S4096x256, .bf16⟩
  | .local _ .vmem, ⟨31, _⟩ => ⟨S4096x1024, .bf16⟩
  | .local _ .vmem, ⟨32, _⟩ => ⟨S256x1024, .bf16⟩
  | .local _ .vmem, ⟨33, _⟩ => ⟨S256x1024, .bf16⟩
  | .local _ .vmem, ⟨34, _⟩ => ⟨S256x512, .bf16⟩
  | .local _ .vmem, ⟨35, _⟩ => ⟨S256x512, .bf16⟩
  | .local _ .vmem, ⟨36, _⟩ => ⟨S256x512, .bf16⟩
  | .local _ .vmem, ⟨37, _⟩ => ⟨S256x512, .bf16⟩
  | .local _ .vmem, ⟨38, _⟩ => ⟨S256x512, .bf16⟩
  | .local _ .vmem, ⟨39, _⟩ => ⟨S256x512, .bf16⟩
  | .local _ .vmem, ⟨40, _⟩ => ⟨S256x512, .bf16⟩
  | .local _ .vmem, ⟨41, _⟩ => ⟨S256x512, .bf16⟩
  | .local _ .vmem, ⟨42, _⟩ => ⟨S256x2816, .bf16⟩
  | .local _ .vmem, ⟨43, _⟩ => ⟨S256x2816, .bf16⟩
  | .local _ .vmem, ⟨44, _⟩ => ⟨S256x2816, .bf16⟩
  | .local _ .vmem, ⟨45, _⟩ => ⟨S256x2816, .bf16⟩
  | .local _ .vmem, ⟨46, _⟩ => ⟨S2816x1024, .bf16⟩
  | .local _ .vmem, ⟨47, _⟩ => ⟨S2816x1024, .bf16⟩
  | .local _ .vmem, ⟨48, _⟩ => ⟨S256x1024, .f32⟩
  | .local _ .vmem, ⟨49, _⟩ => ⟨S256x1024, .f32⟩
  | .local _ .vmem, ⟨50, _⟩ => ⟨S1x1024, .f32⟩
  | .local _ .vmem, ⟨51, _⟩ => ⟨S256x1024, .f32⟩
  | .local _ .vmem, ⟨52, _⟩ => ⟨S256x1024, .f32⟩
  | .local _ .vmem, ⟨53, _⟩ => ⟨S256x1024, .f32⟩
  | .local _ .vmem, ⟨54, _⟩ => ⟨S256x1024, .f32⟩
  | .local _ .vmem, ⟨55, _⟩ => ⟨S256x1024, .bf16⟩
  | .local _ .vmem, ⟨56, _⟩ => ⟨S256x1024, .bf16⟩
  | .local _ .vmem, ⟨57, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v23_0 : Ref sig .tc := ⟨.hbm, 34, rfl⟩
abbrev main_v23_1 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_stg8_0 : Ref sig .tc := ⟨.vmem, 38, rfl⟩
abbrev cc2_stg8_1 : Ref sig .tc := ⟨.vmem, 39, rfl⟩
abbrev cc2_stg9_0 : Ref sig .tc := ⟨.vmem, 40, rfl⟩
abbrev cc2_stg9_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg4_1 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg6_1 : Ref sig .tc := ⟨.vmem, 52, rfl⟩
abbrev cc3_stg7_0 : Ref sig .tc := ⟨.vmem, 53, rfl⟩
abbrev cc3_stg7_1 : Ref sig .tc := ⟨.vmem, 54, rfl⟩
abbrev cc3_stg8_0 : Ref sig .tc := ⟨.vmem, 55, rfl⟩
abbrev cc3_stg8_1 : Ref sig .tc := ⟨.vmem, 56, rfl⟩
abbrev cc3_stg9_0 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc2_sem7_0 : DmaSem sig := 36
abbrev cc2_sem7_1 : DmaSem sig := 37
abbrev cc2_sem8_0 : DmaSem sig := 38
abbrev cc2_sem8_1 : DmaSem sig := 39
abbrev cc2_sem9_0 : DmaSem sig := 40
abbrev cc2_sem9_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem4_1 : DmaSem sig := 49
abbrev cc3_sem5_0 : DmaSem sig := 50
abbrev cc3_sem6_0 : DmaSem sig := 51
abbrev cc3_sem6_1 : DmaSem sig := 52
abbrev cc3_sem7_0 : DmaSem sig := 53
abbrev cc3_sem7_1 : DmaSem sig := 54
abbrev cc3_sem8_0 : DmaSem sig := 55
abbrev cc3_sem8_1 : DmaSem sig := 56
abbrev cc3_sem9_0 : DmaSem sig := 57

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![11, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S4096x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S4096x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S256x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S256x512 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S256x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S256x512 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S256x512 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev grid3 : Pipeline.Grid := ⟨2, ![16, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S256x2816 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S2816x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S2816x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S256x1024 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 1 → Memref sig .tc .vmem S1x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]
-- ==== ReferenceIdeal.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 90
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S4096x1024, .f32⟩
  | .hbm, ⟨45, _⟩ => ⟨S2x2048x1024, .f32⟩
  | .hbm, ⟨46, _⟩ => ⟨S4096x1024, .f32⟩
  | .hbm, ⟨47, _⟩ => ⟨S1024x2816, .f32⟩
  | .hbm, ⟨48, _⟩ => ⟨S2816x1024, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S2816x1024, .f32⟩
  | .hbm, ⟨53, _⟩ => ⟨S1024x2816, .f32⟩
  | .hbm, ⟨54, _⟩ => ⟨S4096x1024, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S2816x1024, .f32⟩
  | .hbm, ⟨60, _⟩ => ⟨S1024x2816, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Kernel2.lean ====
abbrev S2x2048x1024 : Shape := ⟨3, ![2, 2048, 1024]⟩
abbrev S1024 : Shape := ⟨1, ![1024]⟩
abbrev S1024x4864 : Shape := ⟨2, ![1024, 4864]⟩
abbrev S2x2048x4864 : Shape := ⟨3, ![2, 2048, 4864]⟩
abbrev S4096x1024 : Shape := ⟨2, ![4096, 1024]⟩
abbrev S4096x4864 : Shape := ⟨2, ![4096, 4864]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4864x1024 : Shape := ⟨2, ![4864, 1024]⟩
abbrev S4864x512 : Shape := ⟨2, ![4864, 512]⟩
abbrev S4096x256 : Shape := ⟨2, ![4096, 256]⟩
abbrev S4096x512 : Shape := ⟨2, ![4096, 512]⟩
abbrev S256x512 : Shape := ⟨2, ![256, 512]⟩
abbrev S256x4864 : Shape := ⟨2, ![256, 4864]⟩
abbrev S256x1024 : Shape := ⟨2, ![256, 1024]⟩
abbrev S256 : Shape := ⟨1, ![256]⟩
abbrev S256x1 : Shape := ⟨2, ![256, 1]⟩

abbrev nBuf : Space → Nat
  | .hbm => 40
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x4864, .f32⟩
  | .hbm, ⟨3, _⟩ => ⟨S2x2048x4864, .f32⟩
  | .hbm, ⟨4, _⟩ => ⟨S2x2048x1024, .f32⟩
  | .hbm, ⟨5, _⟩ => ⟨S4096x1024, .f32⟩
  | .hbm, ⟨6, _⟩ => ⟨S4096x4864, .f32⟩
  | .hbm, ⟨7, _⟩ => ⟨S4096x4864, .bf16⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4864x1024, .f32⟩
  | .hbm, ⟨26, _⟩ => ⟨S4864x1024, .bf16⟩
  | .hbm, ⟨27, _⟩ => ⟨S4864x512, .bf16⟩
  | .hbm, ⟨28, _⟩ => ⟨S4864x512, .bf16⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S1x1024, .f32⟩
  | .hbm, ⟨34, _⟩ => ⟨S2x2048x1024, .f32⟩
  | .hbm, ⟨35, _⟩ => ⟨S1024, .f32⟩
  | .hbm, ⟨36, _⟩ => ⟨S4864x512, .f32⟩
  | .hbm, ⟨37, _⟩ => ⟨S4864x512, .f32⟩
  | .hbm, ⟨38, _⟩ => ⟨S4864x1024, .f32⟩
  | .hbm, ⟨39, _⟩ => ⟨S1024x4864, .f32⟩
  | .local _ .vmem, ⟨0, _⟩ => ⟨S4096x256, .bf16⟩
  | .local _ .vmem, ⟨1, _⟩ => ⟨S4096x256, .bf16⟩
  | .local _ .vmem, ⟨2, _⟩ => ⟨S4096x512, .bf16⟩
  | .local _ .vmem, ⟨3, _⟩ => ⟨S256x512, .bf16⟩
  | .local _ .vmem, ⟨4, _⟩ => ⟨S256x512, .bf16⟩
  | .local _ .vmem, ⟨5, _⟩ => ⟨S4096x256, .bf16⟩
  | .local _ .vmem, ⟨6, _⟩ => ⟨S4096x256, .bf16⟩
  | .local _ .vmem, ⟨7, _⟩ => ⟨S4096x512, .bf16⟩
  | .local _ .vmem, ⟨8, _⟩ => ⟨S256x512, .bf16⟩
  | .local _ .vmem, ⟨9, _⟩ => ⟨S256x512, .bf16⟩
  | .local _ .vmem, ⟨10, _⟩ => ⟨S256x4864, .bf16⟩
  | .local _ .vmem, ⟨11, _⟩ => ⟨S256x4864, .bf16⟩
  | .local _ .vmem, ⟨12, _⟩ => ⟨S4864x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23_0 : Ref sig .tc := ⟨.hbm, 31, rfl⟩
abbrev main_v23_1 : Ref sig .tc := ⟨.hbm, 32, rfl⟩
abbrev main_v23_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19
abbrev cc2_sem6_0 : DmaSem sig := 20
abbrev cc2_sem6_1 : DmaSem sig := 21
abbrev cc2_sem7_0 : DmaSem sig := 22

abbrev nD : Nat := 1
abbrev τ : Topo := Topo.v7x

variable {F : FTy → Type} [FloatOps F]

abbrev grid0 : Pipeline.Grid := ⟨2, ![19, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![19, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x4864 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4864x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S256x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]
-- ==== Reference2Ideal.lean ====
abbrev S2x2048x1024 : Shape := ⟨3, ![2, 2048, 1024]⟩
abbrev S1024 : Shape := ⟨1, ![1024]⟩
abbrev S1024x4864 : Shape := ⟨2, ![1024, 4864]⟩
abbrev S2x2048x4864 : Shape := ⟨3, ![2, 2048, 4864]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4864 : Shape := ⟨2, ![4096, 4864]⟩
abbrev S4864x1024 : Shape := ⟨2, ![4864, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x4864, .f32⟩
  | .hbm, ⟨3, _⟩ => ⟨S2x2048x4864, .f32⟩
  | .hbm, ⟨4, _⟩ => ⟨S2x2048x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4864, .f32⟩
  | .hbm, ⟨27, _⟩ => ⟨S2x2048x4864, .f32⟩
  | .hbm, ⟨28, _⟩ => ⟨S4096x4864, .f32⟩
  | .hbm, ⟨29, _⟩ => ⟨S4864x1024, .f32⟩
  | .hbm, ⟨30, _⟩ => ⟨S1024x4864, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S2x2048x1024, .f32⟩
  | .hbm, ⟨58, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel3.lean ====
abbrev S2x2048x1024 : Shape := ⟨3, ![2, 2048, 1024]⟩
abbrev S1024 : Shape := ⟨1, ![1024]⟩
abbrev S2x2048x2816 : Shape := ⟨3, ![2, 2048, 2816]⟩
abbrev S2816x1024 : Shape := ⟨2, ![2816, 1024]⟩
abbrev S4096x2816 : Shape := ⟨2, ![4096, 2816]⟩
abbrev S4096x1024 : Shape := ⟨2, ![4096, 1024]⟩
abbrev S1x1024 : Shape := ⟨2, ![1, 1024]⟩
abbrev S8x128 : Shape := ⟨2, ![8, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S_ : Shape := ⟨0, ![]⟩

abbrev nBuf : Space → Nat
  | .hbm => 19
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x2816, .f32⟩
  | .hbm, ⟨3, _⟩ => ⟨S2816x1024, .f32⟩
  | .hbm, ⟨4, _⟩ => ⟨S2x2048x1024, .f32⟩
  | .hbm, ⟨5, _⟩ => ⟨S4096x2816, .f32⟩
  | .hbm, ⟨6, _⟩ => ⟨S4096x2816, .bf16⟩
  | .hbm, ⟨7, _⟩ => ⟨S2816x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .bf16⟩
  | .hbm, ⟨13, _⟩ => ⟨S8x128, .f32⟩
  | .hbm, ⟨14, _⟩ => ⟨S1x1024, .f32⟩
  | .hbm, ⟨15, _⟩ => ⟨S1x1, .f32⟩
  | .hbm, ⟨16, _⟩ => ⟨S_, .f32⟩
  | .hbm, ⟨17, _⟩ => ⟨S2x2048x1024, .f32⟩
  | .hbm, ⟨18, _⟩ => ⟨S1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x128, .f32⟩
  | .local _ .vmem, ⟨13, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S2x2048x1024 : Shape := ⟨3, ![2, 2048, 1024]⟩
abbrev S1024 : Shape := ⟨1, ![1024]⟩
abbrev S2x2048x2816 : Shape := ⟨3, ![2, 2048, 2816]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x2816, .f32⟩
  | .hbm, ⟨3, _⟩ => ⟨S2816x1024, .f32⟩
  | .hbm, ⟨4, _⟩ => ⟨S2x2048x1024, .f32⟩
  | .hbm, ⟨5, _⟩ => ⟨S4096x1024, .f32⟩
  | .hbm, ⟨6, _⟩ => ⟨S4096x2816, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel4.lean ====
abbrev S2x2048x256 : Shape := ⟨3, ![2, 2048, 256]⟩
abbrev S2x2048x512 : Shape := ⟨3, ![2, 2048, 512]⟩
abbrev S2x2048x2048 : Shape := ⟨3, ![2, 2048, 2048]⟩
abbrev S256x1024 : Shape := ⟨2, ![256, 1024]⟩
abbrev S512x2048 : Shape := ⟨2, ![512, 2048]⟩
abbrev S1024x1024 : Shape := ⟨2, ![1024, 1024]⟩
abbrev S2x2048x1024 : Shape := ⟨3, ![2, 2048, 1024]⟩
abbrev S4096x2048 : Shape := ⟨2, ![4096, 2048]⟩
abbrev S_ : Shape := ⟨0, ![]⟩
abbrev S4096x2x1024 : Shape := ⟨3, ![4096, 2, 1024]⟩
abbrev S4096x256 : Shape := ⟨2, ![4096, 256]⟩
abbrev S4096x1024 : Shape := ⟨2, ![4096, 1024]⟩
abbrev S4096x512 : Shape := ⟨2, ![4096, 512]⟩
abbrev S4096x1x1024 : Shape := ⟨3, ![4096, 1, 1024]⟩
abbrev S1024x256 : Shape := ⟨2, ![1024, 256]⟩
abbrev S2048x512 : Shape := ⟨2, ![2048, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x4096 : Shape := ⟨2, ![256, 4096]⟩
abbrev S256x512 : Shape := ⟨2, ![256, 512]⟩
abbrev S256x2048 : Shape := ⟨2, ![256, 2048]⟩
abbrev S64x1024 : Shape := ⟨2, ![64, 1024]⟩
abbrev S16x4096 : Shape := ⟨2, ![16, 4096]⟩
abbrev S6x256x128 : Shape := ⟨3, ![6, 256, 128]⟩
abbrev S1024x512 : Shape := ⟨2, ![1024, 512]⟩
abbrev S256x128 : Shape := ⟨2, ![256, 128]⟩
abbrev S1x256x128 : Shape := ⟨3, ![1, 256, 128]⟩
abbrev S1x64x128 : Shape := ⟨3, ![1, 64, 128]⟩
abbrev S64x128 : Shape := ⟨2, ![64, 128]⟩
abbrev S1x16x128 : Shape := ⟨3, ![1, 16, 128]⟩
abbrev S16x128 : Shape := ⟨2, ![16, 128]⟩
abbrev S512x512 : Shape := ⟨2, ![512, 512]⟩

abbrev nBuf : Space → Nat
  | .hbm => 109
  | .vmem => 54
  | .smem => 0
  | _ => 0

abbrev bufTy : (tb : Table) → Fin (tcTables nBuf tb) → BufTy
  | .hbm, ⟨0, _⟩ => ⟨S2x2048x256, .f32⟩
  | .hbm, ⟨1, _⟩ => ⟨S2x2048x512, .f32⟩
  | .hbm, ⟨2, _⟩ => ⟨S2x2048x2048, .f32⟩
  | .hbm, ⟨3, _⟩ => ⟨S256x1024, .f32⟩
  | .hbm, ⟨4, _⟩ => ⟨S512x2048, .f32⟩
  | .hbm, ⟨5, _⟩ => ⟨S1024x1024, .f32⟩
  | .hbm, ⟨6, _⟩ => ⟨S2x2048x1024, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2x1024, .f32⟩
  | .hbm, ⟨17, _⟩ => ⟨S4096x256, .f32⟩
  | .hbm, ⟨18, _⟩ => ⟨S4096x1024, .f32⟩
  | .hbm, ⟨19, _⟩ => ⟨S4096x512, .f32⟩
  | .hbm, ⟨20, _⟩ => ⟨S4096x2048, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1x1024, .f32⟩
  | .hbm, ⟨33, _⟩ => ⟨S4096x1024, .f32⟩
  | .hbm, ⟨34, _⟩ => ⟨S4096x1024, .f32⟩
  | .hbm, ⟨35, _⟩ => ⟨S4096x1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x1024, .f32⟩
  | .hbm, ⟨50, _⟩ => ⟨S4096x1024, .bf16⟩
  | .hbm, ⟨51, _⟩ => ⟨S4096x256, .f32⟩
  | .hbm, ⟨52, _⟩ => ⟨S4096x512, .f32⟩
  | .hbm, ⟨53, _⟩ => ⟨S1024x256, .f32⟩
  | .hbm, ⟨54, _⟩ => ⟨S1024x256, .bf16⟩
  | .hbm, ⟨55, _⟩ => ⟨S2048x512, .f32⟩
  | .hbm, ⟨56, _⟩ => ⟨S2048x512, .bf16⟩
  | .hbm, ⟨57, _⟩ => ⟨S1024x1024, .bf16⟩
  | .hbm, ⟨58, _⟩ => ⟨S1024x1024, .bf16⟩
  | .hbm, ⟨59, _⟩ => ⟨S_, .f32⟩
  | .hbm, ⟨60, _⟩ => ⟨S4096x256, .f32⟩
  | .hbm, ⟨61, _⟩ => ⟨S256, .i32⟩
  | .hbm, ⟨62, _⟩ => ⟨S_, .i32⟩
  | .hbm, ⟨63, _⟩ => ⟨S_, .i32⟩
  | .hbm, ⟨64, _⟩ => ⟨S256, .i32⟩
  | .hbm, ⟨65, _⟩ => ⟨S256, .i32⟩
  | .hbm, ⟨66, _⟩ => ⟨S256, .i32⟩
  | .hbm, ⟨67, _⟩ => ⟨S_, .i32⟩
  | .hbm, ⟨68, _⟩ => ⟨S256, .i32⟩
  | .hbm, ⟨69, _⟩ => ⟨S256, .i1⟩
  | .hbm, ⟨70, _⟩ => ⟨S256, .i32⟩
  | .hbm, ⟨71, _⟩ => ⟨S256, .i32⟩
  | .hbm, ⟨72, _⟩ => ⟨S_, .i32⟩
  | .hbm, ⟨73, _⟩ => ⟨S256, .i32⟩
  | .hbm, ⟨74, _⟩ => ⟨S256, .i1⟩
  | .hbm, ⟨75, _⟩ => ⟨S256, .i1⟩
  | .hbm, ⟨76, _⟩ => ⟨S_, .i32⟩
  | .hbm, ⟨77, _⟩ => ⟨S256, .i32⟩
  | .hbm, ⟨78, _⟩ => ⟨S256, .i32⟩
  | .hbm, ⟨79, _⟩ => ⟨S256, .i32⟩
  | .hbm, ⟨80, _⟩ => ⟨S256x1, .i32⟩
  | .hbm, ⟨81, _⟩ => ⟨S1x256, .i32⟩
  | .hbm, ⟨82, _⟩ => ⟨S256x256, .i32⟩
  | .hbm, ⟨83, _⟩ => ⟨S256x256, .i32⟩
  | .hbm, ⟨84, _⟩ => ⟨S256x256, .i1⟩
  | .hbm, ⟨85, _⟩ => ⟨S256x256, .f32⟩
  | .hbm, ⟨86, _⟩ => ⟨S4096x1024, .bf16⟩
  | .hbm, ⟨87, _⟩ => ⟨S4096x2048, .bf16⟩
  | .hbm, ⟨88, _⟩ => ⟨S4096x2048, .bf16⟩
  | .hbm, ⟨89, _⟩ => ⟨S4096x256, .f32⟩
  | .hbm, ⟨90, _⟩ => ⟨S4096x512, .f32⟩
  | .hbm, ⟨91, _⟩ => ⟨S4096x256, .f32⟩
  | .hbm, ⟨92, _⟩ => ⟨S1024x1024, .f32⟩
  | .hbm, ⟨93, _⟩ => ⟨S1024x1024, .f32⟩
  | .hbm, ⟨94, _⟩ => ⟨S1024x1024, .f32⟩
  | .hbm, ⟨95, _⟩ => ⟨S256x4096, .f32⟩
  | .hbm, ⟨96, _⟩ => ⟨S256x4096, .f32⟩
  | .hbm, ⟨97, _⟩ => ⟨S256x4096, .f32⟩
  | .hbm, ⟨98, _⟩ => ⟨S2048x512, .bf16⟩
  | .hbm, ⟨99, _⟩ => ⟨S1024x256, .bf16⟩
  | .hbm, ⟨100, _⟩ => ⟨S2x2048x256, .f32⟩
  | .hbm, ⟨101, _⟩ => ⟨S2x2048x512, .f32⟩
  | .hbm, ⟨102, _⟩ => ⟨S4096x2048, .f32⟩
  | .hbm, ⟨103, _⟩ => ⟨S2x2048x2048, .f32⟩
  | .hbm, ⟨104, _⟩ => ⟨S1024x256, .f32⟩
  | .hbm, ⟨105, _⟩ => ⟨S256x1024, .f32⟩
  | .hbm, ⟨106, _⟩ => ⟨S2048x512, .f32⟩
  | .hbm, ⟨107, _⟩ => ⟨S512x2048, .f32⟩
  | .hbm, ⟨108, _⟩ => ⟨S1024x1024, .f32⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x512, .f32⟩
  | .local _ .vmem, ⟨12, _⟩ => ⟨S256x512, .f32⟩
  | .local _ .vmem, ⟨13, _⟩ => ⟨S256x2048, .f32⟩
  | .local _ .vmem, ⟨14, _⟩ => ⟨S256x2048, .f32⟩
  | .local _ .vmem, ⟨15, _⟩ => ⟨S1024x256, .bf16⟩
  | .local _ .vmem, ⟨16, _⟩ => ⟨S2048x512, .bf16⟩
  | .local _ .vmem, ⟨17, _⟩ => ⟨S1024x1024, .bf16⟩
  | .local _ .vmem, ⟨18, _⟩ => ⟨S256x256, .f32⟩
  | .local _ .vmem, ⟨19, _⟩ => ⟨S256x1024, .bf16⟩
  | .local _ .vmem, ⟨20, _⟩ => ⟨S256x1024, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x256, .f32⟩
  | .local _ .vmem, ⟨26, _⟩ => ⟨S256x256, .f32⟩
  | .local _ .vmem, ⟨27, _⟩ => ⟨S256x512, .f32⟩
  | .local _ .vmem, ⟨28, _⟩ => ⟨S256x512, .f32⟩
  | .local _ .vmem, ⟨29, _⟩ => ⟨S256x256, .f32⟩
  | .local _ .vmem, ⟨30, _⟩ => ⟨S256x256, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S16x4096, .f32⟩
  | .local _ .vmem, ⟨38, _⟩ => ⟨S16x4096, .f32⟩
  | .local _ .vmem, ⟨39, _⟩ => ⟨S16x4096, .f32⟩
  | .local _ .vmem, ⟨40, _⟩ => ⟨S16x4096, .f32⟩
  | .local _ .vmem, ⟨41, _⟩ => ⟨S16x4096, .f32⟩
  | .local _ .vmem, ⟨42, _⟩ => ⟨S16x4096, .f32⟩
  | .local _ .vmem, ⟨43, _⟩ => ⟨S6x256x128, .f32⟩
  | .local _ .vmem, ⟨44, _⟩ => ⟨S4096x512, .bf16⟩
  | .local _ .vmem, ⟨45, _⟩ => ⟨S4096x512, .bf16⟩
  | .local _ .vmem, ⟨46, _⟩ => ⟨S4096x512, .f32⟩
  | .local _ .vmem, ⟨47, _⟩ => ⟨S4096x256, .bf16⟩
  | .local _ .vmem, ⟨48, _⟩ => ⟨S4096x256, .bf16⟩
  | .local _ .vmem, ⟨49, _⟩ => ⟨S4096x256, .f32⟩
  | .local _ .vmem, ⟨50, _⟩ => ⟨S512x512, .bf16⟩
  | .local _ .vmem, ⟨51, _⟩ => ⟨S512x512, .bf16⟩
  | .local _ .vmem, ⟨52, _⟩ => ⟨S256x256, .bf16⟩
  | .local _ .vmem, ⟨53, _⟩ => ⟨S256x256, .bf16⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_c : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_c : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_0 : Ref sig .tc := ⟨.hbm, 76, rfl⟩
abbrev main_call0_v12 : Ref sig .tc := ⟨.hbm, 77, rfl⟩
abbrev main_call0_v13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55_0 : Ref sig .tc := ⟨.hbm, 86, rfl⟩
abbrev main_v55_1 : Ref sig .tc := ⟨.hbm, 87, rfl⟩
abbrev main_v55_2 : Ref sig .tc := ⟨.hbm, 88, rfl⟩
abbrev main_v55_3 : Ref sig .tc := ⟨.hbm, 89, rfl⟩
abbrev main_v55_4 : Ref sig .tc := ⟨.hbm, 90, rfl⟩
abbrev main_v55_5 : Ref sig .tc := ⟨.hbm, 91, rfl⟩
abbrev main_v55_6 : Ref sig .tc := ⟨.hbm, 92, rfl⟩
abbrev main_v55_7 : Ref sig .tc := ⟨.hbm, 93, rfl⟩
abbrev main_v55_8 : Ref sig .tc := ⟨.hbm, 94, rfl⟩
abbrev main_v55_9 : Ref sig .tc := ⟨.hbm, 95, rfl⟩
abbrev main_v55_10 : Ref sig .tc := ⟨.hbm, 96, rfl⟩
abbrev main_v55_11 : Ref sig .tc := ⟨.hbm, 97, rfl⟩
abbrev main_v56_0 : Ref sig .tc := ⟨.hbm, 98, rfl⟩
abbrev main_v56_1 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc1_stg10_1 : Ref sig .tc := ⟨.vmem, 22, rfl⟩
abbrev cc1_stg11_0 : Ref sig .tc := ⟨.vmem, 23, rfl⟩
abbrev cc1_stg11_1 : Ref sig .tc := ⟨.vmem, 24, rfl⟩
abbrev cc1_stg12_0 : Ref sig .tc := ⟨.vmem, 25, rfl⟩
abbrev cc1_stg12_1 : Ref sig .tc := ⟨.vmem, 26, rfl⟩
abbrev cc1_stg13_0 : Ref sig .tc := ⟨.vmem, 27, rfl⟩
abbrev cc1_stg13_1 : Ref sig .tc := ⟨.vmem, 28, rfl⟩
abbrev cc1_stg14_0 : Ref sig .tc := ⟨.vmem, 29, rfl⟩
abbrev cc1_stg14_1 : Ref sig .tc := ⟨.vmem, 30, rfl⟩
abbrev cc1_stg15_0 : Ref sig .tc := ⟨.vmem, 31, rfl⟩
abbrev cc1_stg15_1 : Ref sig .tc := ⟨.vmem, 32, rfl⟩
abbrev cc1_stg16_0 : Ref sig .tc := ⟨.vmem, 33, rfl⟩
abbrev cc1_stg16_1 : Ref sig .tc := ⟨.vmem, 34, rfl⟩
abbrev cc1_stg17_0 : Ref sig .tc := ⟨.vmem, 35, rfl⟩
abbrev cc1_stg17_1 : Ref sig .tc := ⟨.vmem, 36, rfl⟩
abbrev cc1_stg18_0 : Ref sig .tc := ⟨.vmem, 37, rfl⟩
abbrev cc1_stg18_1 : Ref sig .tc := ⟨.vmem, 38, rfl⟩
abbrev cc1_stg19_0 : Ref sig .tc := ⟨.vmem, 39, rfl⟩
abbrev cc1_stg19_1 : Ref sig .tc := ⟨.vmem, 40, rfl⟩
abbrev cc1_stg20_0 : Ref sig .tc := ⟨.vmem, 41, rfl⟩
abbrev cc1_stg20_1 : Ref sig .tc := ⟨.vmem, 42, rfl⟩
abbrev cc1_scratch0 : Ref sig .tc := ⟨.vmem, 43, rfl⟩
abbrev cc2_stg0_0 : Ref sig .tc := ⟨.vmem, 44, rfl⟩
abbrev cc2_stg0_1 : Ref sig .tc := ⟨.vmem, 45, rfl⟩
abbrev cc2_stg1_0 : Ref sig .tc := ⟨.vmem, 46, rfl⟩
abbrev cc2_stg2_0 : Ref sig .tc := ⟨.vmem, 47, rfl⟩
abbrev cc2_stg2_1 : Ref sig .tc := ⟨.vmem, 48, rfl⟩
abbrev cc2_stg3_0 : Ref sig .tc := ⟨.vmem, 49, rfl⟩
abbrev cc2_stg4_0 : Ref sig .tc := ⟨.vmem, 50, rfl⟩
abbrev cc2_stg4_1 : Ref sig .tc := ⟨.vmem, 51, rfl⟩
abbrev cc2_stg5_0 : Ref sig .tc := ⟨.vmem, 52, rfl⟩
abbrev cc2_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc1_sem10_0 : DmaSem sig := 21
abbrev cc1_sem10_1 : DmaSem sig := 22
abbrev cc1_sem11_0 : DmaSem sig := 23
abbrev cc1_sem11_1 : DmaSem sig := 24
abbrev cc1_sem12_0 : DmaSem sig := 25
abbrev cc1_sem12_1 : DmaSem sig := 26
abbrev cc1_sem13_0 : DmaSem sig := 27
abbrev cc1_sem13_1 : DmaSem sig := 28
abbrev cc1_sem14_0 : DmaSem sig := 29
abbrev cc1_sem14_1 : DmaSem sig := 30
abbrev cc1_sem15_0 : DmaSem sig := 31
abbrev cc1_sem15_1 : DmaSem sig := 32
abbrev cc1_sem16_0 : DmaSem sig := 33
abbrev cc1_sem16_1 : DmaSem sig := 34
abbrev cc1_sem17_0 : DmaSem sig := 35
abbrev cc1_sem17_1 : DmaSem sig := 36
abbrev cc1_sem18_0 : DmaSem sig := 37
abbrev cc1_sem18_1 : DmaSem sig := 38
abbrev cc1_sem19_0 : DmaSem sig := 39
abbrev cc1_sem19_1 : DmaSem sig := 40
abbrev cc1_sem20_0 : DmaSem sig := 41
abbrev cc1_sem20_1 : DmaSem sig := 42
abbrev cc2_sem0_0 : DmaSem sig := 43
abbrev cc2_sem0_1 : DmaSem sig := 44
abbrev cc2_sem1_0 : DmaSem sig := 45
abbrev cc2_sem2_0 : DmaSem sig := 46
abbrev cc2_sem2_1 : DmaSem sig := 47
abbrev cc2_sem3_0 : DmaSem sig := 48
abbrev cc2_sem4_0 : DmaSem sig := 49
abbrev cc2_sem4_1 : DmaSem sig := 50
abbrev cc2_sem5_0 : DmaSem sig := 51
abbrev cc2_sem5_1 : DmaSem sig := 52

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_20 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1024x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2048x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S256x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S256x2048 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S256x2048 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S256x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S256x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S256x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S64x1024 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 2 → Memref sig .tc .vmem S64x1024 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]

abbrev stage1_17 : Fin 2 → Memref sig .tc .vmem S64x1024 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, false]

abbrev stage1_18 : Fin 2 → Memref sig .tc .vmem S16x4096 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, false]

abbrev stage1_19 : Fin 2 → Memref sig .tc .vmem S16x4096 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, false]

abbrev stage1_20 : Fin 2 → Memref sig .tc .vmem S16x4096 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, false]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S4096x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S4096x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S256x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== Reference4Ideal.lean ====
abbrev S2x2048x256 : Shape := ⟨3, ![2, 2048, 256]⟩
abbrev S2x2048x512 : Shape := ⟨3, ![2, 2048, 512]⟩
abbrev S2x2048x2048 : Shape := ⟨3, ![2, 2048, 2048]⟩
abbrev S256x1024 : Shape := ⟨2, ![256, 1024]⟩
abbrev S512x2048 : Shape := ⟨2, ![512, 2048]⟩
abbrev S1024x1024 : Shape := ⟨2, ![1024, 1024]⟩
abbrev S2x2048x1024 : Shape := ⟨3, ![2, 2048, 1024]⟩
abbrev S4096x2048 : Shape := ⟨2, ![4096, 2048]⟩
abbrev S_ : Shape := ⟨0, ![]⟩
abbrev S4096x2x1024 : Shape := ⟨3, ![4096, 2, 1024]⟩
abbrev S4096x256 : Shape := ⟨2, ![4096, 256]⟩
abbrev S4096x1024 : Shape := ⟨2, ![4096, 1024]⟩
abbrev S4096x512 : Shape := ⟨2, ![4096, 512]⟩
abbrev S4096x1x1024 : Shape := ⟨3, ![4096, 1, 1024]⟩
abbrev S2048x512 : Shape := ⟨2, ![2048, 512]⟩
abbrev S1024x256 : Shape := ⟨2, ![1024, 256]⟩

abbrev nBuf : Space → Nat
  | .hbm => 83
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x512, .f32⟩
  | .hbm, ⟨2, _⟩ => ⟨S2x2048x2048, .f32⟩
  | .hbm, ⟨3, _⟩ => ⟨S256x1024, .f32⟩
  | .hbm, ⟨4, _⟩ => ⟨S512x2048, .f32⟩
  | .hbm, ⟨5, _⟩ => ⟨S1024x1024, .f32⟩
  | .hbm, ⟨6, _⟩ => ⟨S2x2048x1024, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2x1024, .f32⟩
  | .hbm, ⟨21, _⟩ => ⟨S4096x256, .f32⟩
  | .hbm, ⟨22, _⟩ => ⟨S4096x1024, .f32⟩
  | .hbm, ⟨23, _⟩ => ⟨S4096x512, .f32⟩
  | .hbm, ⟨24, _⟩ => ⟨S4096x2048, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S2x2048x1024, .f32⟩
  | .hbm, ⟨49, _⟩ => ⟨S4096x1024, .f32⟩
  | .hbm, ⟨50, _⟩ => ⟨S1024x1024, .f32⟩
  | .hbm, ⟨51, _⟩ => ⟨S1024x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1x1024, .f32⟩
  | .hbm, ⟨56, _⟩ => ⟨S_, .f32⟩
  | .hbm, ⟨57, _⟩ => ⟨S4096x2x1024, .f32⟩
  | .hbm, ⟨58, _⟩ => ⟨S4096x1024, .f32⟩
  | .hbm, ⟨59, _⟩ => ⟨S4096x1024, .f32⟩
  | .hbm, ⟨60, _⟩ => ⟨S4096x1x1024, .f32⟩
  | .hbm, ⟨61, _⟩ => ⟨S_, .f32⟩
  | .hbm, ⟨62, _⟩ => ⟨S4096x2x1024, .f32⟩
  | .hbm, ⟨63, _⟩ => ⟨S4096x2x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x2048, .f32⟩
  | .hbm, ⟨69, _⟩ => ⟨S_, .f32⟩
  | .hbm, ⟨70, _⟩ => ⟨S4096x2048, .f32⟩
  | .hbm, ⟨71, _⟩ => ⟨S4096x2048, .f32⟩
  | .hbm, ⟨72, _⟩ => ⟨S2048x512, .f32⟩
  | .hbm, ⟨73, _⟩ => ⟨S512x2048, .f32⟩
  | .hbm, ⟨74, _⟩ => ⟨S4096x512, .f32⟩
  | .hbm, ⟨75, _⟩ => ⟨S2x2048x512, .f32⟩
  | .hbm, ⟨76, _⟩ => ⟨S1024x256, .f32⟩
  | .hbm, ⟨77, _⟩ => ⟨S256x1024, .f32⟩
  | .hbm, ⟨78, _⟩ => ⟨S4096x256, .f32⟩
  | .hbm, ⟨79, _⟩ => ⟨S2x2048x256, .f32⟩
  | .hbm, ⟨80, _⟩ => ⟨S4096x2048, .f32⟩
  | .hbm, ⟨81, _⟩ => ⟨S4096x2048, .f32⟩
  | .hbm, ⟨82, _⟩ => ⟨S2x2048x2048, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== Kernel5.lean ====
abbrev S8x256x512 : Shape := ⟨3, ![8, 256, 512]⟩
abbrev S512x256 : Shape := ⟨2, ![512, 256]⟩
abbrev S256x512 : Shape := ⟨2, ![256, 512]⟩
abbrev S8x128x512 : Shape := ⟨3, ![8, 128, 512]⟩
abbrev S128x512 : Shape := ⟨2, ![128, 512]⟩
abbrev S1x128x512 : Shape := ⟨3, ![1, 128, 512]⟩
abbrev S1x512x256 : Shape := ⟨3, ![1, 512, 256]⟩
abbrev S1x256x256 : Shape := ⟨3, ![1, 256, 256]⟩
abbrev S256x256 : Shape := ⟨2, ![256, 256]⟩

abbrev nBuf : Space → Nat
  | .hbm => 12
  | .vmem => 20
  | .smem => 0
  | _ => 0

abbrev bufTy : (tb : Table) → Fin (tcTables nBuf tb) → BufTy
  | .hbm, ⟨0, _⟩ => ⟨S8x256x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S8x256x512, .bf16⟩
  | .hbm, ⟨5, _⟩ => ⟨S256x512, .f32⟩
  | .hbm, ⟨6, _⟩ => ⟨S512x256, .f32⟩
  | .hbm, ⟨7, _⟩ => ⟨S1x512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S512x256, .f32⟩
  | .local _ .vmem, ⟨0, _⟩ => ⟨S8x128x512, .bf16⟩
  | .local _ .vmem, ⟨1, _⟩ => ⟨S8x128x512, .bf16⟩
  | .local _ .vmem, ⟨2, _⟩ => ⟨S128x512, .f32⟩
  | .local _ .vmem, ⟨3, _⟩ => ⟨S128x512, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference5Ideal.lean ====
abbrev S8x256x512 : Shape := ⟨3, ![8, 256, 512]⟩
abbrev S512x256 : Shape := ⟨2, ![512, 256]⟩
abbrev S_ : Shape := ⟨0, ![]⟩
abbrev S256x512 : Shape := ⟨2, ![256, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S256x512, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S_, .f32⟩
  | .hbm, ⟨15, _⟩ => ⟨S512x256, .f32⟩
  | .hbm, ⟨16, _⟩ => ⟨S512x256, .f32⟩
  | .hbm, ⟨17, _⟩ => ⟨S512x256, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S_, .f32⟩
  | .hbm, ⟨26, _⟩ => ⟨S512x256, .f32⟩
  | .hbm, ⟨27, _⟩ => ⟨S512x256, .f32⟩
  | .hbm, ⟨28, _⟩ => ⟨S512x256, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S512x256, .f32⟩
  | .hbm, ⟨33, _⟩ => ⟨S_, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S_, .f32⟩
  | .hbm, ⟨38, _⟩ => ⟨S512x256, .f32⟩
  | .hbm, ⟨39, _⟩ => ⟨S512x256, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel6.lean ====
abbrev S8x128x256 : Shape := ⟨3, ![8, 128, 256]⟩
abbrev S256x128 : Shape := ⟨2, ![256, 128]⟩
abbrev S128x256 : Shape := ⟨2, ![128, 256]⟩
abbrev S8x64x256 : Shape := ⟨3, ![8, 64, 256]⟩
abbrev S64x256 : Shape := ⟨2, ![64, 256]⟩
abbrev S1x64x256 : Shape := ⟨3, ![1, 64, 256]⟩
abbrev S1x256x128 : Shape := ⟨3, ![1, 256, 128]⟩
abbrev S1x128x128 : Shape := ⟨3, ![1, 128, 128]⟩
abbrev S128x128 : Shape := ⟨2, ![128, 128]⟩

abbrev nBuf : Space → Nat
  | .hbm => 12
  | .vmem => 20
  | .smem => 0
  | _ => 0

abbrev bufTy : (tb : Table) → Fin (tcTables nBuf tb) → BufTy
  | .hbm, ⟨0, _⟩ => ⟨S8x128x256, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S8x128x256, .bf16⟩
  | .hbm, ⟨5, _⟩ => ⟨S128x256, .f32⟩
  | .hbm, ⟨6, _⟩ => ⟨S256x128, .f32⟩
  | .hbm, ⟨7, _⟩ => ⟨S1x256x128, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S256x128, .f32⟩
  | .local _ .vmem, ⟨0, _⟩ => ⟨S8x64x256, .bf16⟩
  | .local _ .vmem, ⟨1, _⟩ => ⟨S8x64x256, .bf16⟩
  | .local _ .vmem, ⟨2, _⟩ => ⟨S64x256, .f32⟩
  | .local _ .vmem, ⟨3, _⟩ => ⟨S64x256, .f32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference6Ideal.lean ====
abbrev S8x128x256 : Shape := ⟨3, ![8, 128, 256]⟩
abbrev S256x128 : Shape := ⟨2, ![256, 128]⟩
abbrev S_ : Shape := ⟨0, ![]⟩
abbrev S128x256 : Shape := ⟨2, ![128, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S128x256, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel7.lean ====
abbrev S8x72x2048 : Shape := ⟨3, ![8, 72, 2048]⟩
abbrev S8x8x1024 : Shape := ⟨3, ![8, 8, 1024]⟩
abbrev S8x1024 : Shape := ⟨2, ![8, 1024]⟩
abbrev S1x8x1024 : Shape := ⟨3, ![1, 8, 1024]⟩
abbrev S1x1024 : Shape := ⟨2, ![1, 1024]⟩
abbrev S72x2048 : Shape := ⟨2, ![72, 2048]⟩
abbrev S1x72x2048 : Shape := ⟨3, ![1, 72, 2048]⟩
abbrev S1024 : Shape := ⟨1, ![1024]⟩
abbrev S1x2048 : Shape := ⟨2, ![1, 2048]⟩
abbrev S2048 : Shape := ⟨1, ![2048]⟩
abbrev S1x32x64 : Shape := ⟨3, ![1, 32, 64]⟩
abbrev S1x32 : Shape := ⟨2, ![1, 32]⟩
abbrev S32 : Shape := ⟨1, ![32]⟩
abbrev S1x512 : Shape := ⟨2, ![1, 512]⟩
abbrev S512 : Shape := ⟨1, ![512]⟩
abbrev S1x32x16 : Shape := ⟨3, ![1, 32, 16]⟩
abbrev S16x2048 : Shape := ⟨2, ![16, 2048]⟩
abbrev S16x32x64 : Shape := ⟨3, ![16, 32, 64]⟩
abbrev S32x16x64 : Shape := ⟨3, ![32, 16, 64]⟩
abbrev S1x32x16x64 : Shape := ⟨4, ![1, 32, 16, 64]⟩
abbrev S1x1 : Shape := ⟨2, ![1, 1]⟩
abbrev S_ : Shape := ⟨0, ![]⟩
abbrev S1x32x64x16 : Shape := ⟨4, ![1, 32, 64, 16]⟩

abbrev nBuf : Space → Nat
  | .hbm => 44
  | .vmem => 4
  | .smem => 0
  | _ => 0

abbrev bufTy : (tb : Table) → Fin (tcTables nBuf tb) → BufTy
  | .hbm, ⟨0, _⟩ => ⟨S8x72x2048, .f32⟩
  | .hbm, ⟨1, _⟩ => ⟨S8x8x1024, .f32⟩
  | .hbm, ⟨2, _⟩ => ⟨S8x1024, .f32⟩
  | .hbm, ⟨3, _⟩ => ⟨S1x1024, .f32⟩
  | .hbm, ⟨4, _⟩ => ⟨S72x2048, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x2048, .f32⟩
  | .hbm, ⟨12, _⟩ => ⟨S2048, .f32⟩
  | .hbm, ⟨13, _⟩ => ⟨S1x32x64, .f32⟩
  | .hbm, ⟨14, _⟩ => ⟨S1x2048, .f32⟩
  | .hbm, ⟨15, _⟩ => ⟨S2048, .f32⟩
  | .hbm, ⟨16, _⟩ => ⟨S1x32x64, .f32⟩
  | .hbm, ⟨17, _⟩ => ⟨S1x32, .f32⟩
  | .hbm, ⟨18, _⟩ => ⟨S32, .f32⟩
  | .hbm, ⟨19, _⟩ => ⟨S1x32, .f32⟩
  | .hbm, ⟨20, _⟩ => ⟨S1x512, .f32⟩
  | .hbm, ⟨21, _⟩ => ⟨S512, .f32⟩
  | .hbm, ⟨22, _⟩ => ⟨S1x32x16, .f32⟩
  | .hbm, ⟨23, _⟩ => ⟨S16x2048, .f32⟩
  | .hbm, ⟨24, _⟩ => ⟨S16x32x64, .f32⟩
  | .hbm, ⟨25, _⟩ => ⟨S32x16x64, .f32⟩
  | .hbm, ⟨26, _⟩ => ⟨S1x32x16x64, .f32⟩
  | .hbm, ⟨27, _⟩ => ⟨S16x2048, .f32⟩
  | .hbm, ⟨28, _⟩ => ⟨S16x32x64, .f32⟩
  | .hbm, ⟨29, _⟩ => ⟨S32x16x64, .f32⟩
  | .hbm, ⟨30, _⟩ => ⟨S1x32x16x64, .f32⟩
  | .hbm, ⟨31, _⟩ => ⟨S16x2048, .f32⟩
  | .hbm, ⟨32, _⟩ => ⟨S16x32x64, .f32⟩
  | .hbm, ⟨33, _⟩ => ⟨S32x16x64, .f32⟩
  | .hbm, ⟨34, _⟩ => ⟨S1x32x16x64, .f32⟩
  | .hbm, ⟨35, _⟩ => ⟨S16x2048, .f32⟩
  | .hbm, ⟨36, _⟩ => ⟨S16x32x64, .f32⟩
  | .hbm, ⟨37, _⟩ => ⟨S32x16x64, .f32⟩
  | .hbm, ⟨38, _⟩ => ⟨S1x32x16x64, .f32⟩
  | .hbm, ⟨39, _⟩ => ⟨S1x1, .f32⟩
  | .hbm, ⟨40, _⟩ => ⟨S_, .f32⟩
  | .hbm, ⟨41, _⟩ => ⟨S1x32x64x16, .f32⟩
  | .hbm, ⟨42, _⟩ => ⟨S1x32x64x16, .f32⟩
  | .hbm, ⟨43, _⟩ => ⟨S1024, .f32⟩
  | .local _ .vmem, ⟨0, _⟩ => ⟨S8x8x1024, .f32⟩
  | .local _ .vmem, ⟨1, _⟩ => ⟨S8x1024, .f32⟩
  | .local _ .vmem, ⟨2, _⟩ => ⟨S8x72x2048, .f32⟩
  | .local _ .vmem, ⟨3, _⟩ => ⟨S72x2048, .f32⟩
  | _, _ => ⟨S8x72x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc0_sem0_0 : DmaSem sig := 0
abbrev cc0_sem1_0 : DmaSem sig := 1
abbrev cc1_sem0_0 : DmaSem sig := 2
abbrev cc1_sem1_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8x72x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S72x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]
-- ==== Reference7Ideal.lean ====
abbrev S8x72x2048 : Shape := ⟨3, ![8, 72, 2048]⟩
abbrev S8x8x1024 : Shape := ⟨3, ![8, 8, 1024]⟩
abbrev S_ : Shape := ⟨0, ![]⟩
abbrev S72x2048 : Shape := ⟨2, ![72, 2048]⟩
abbrev S8x1024 : Shape := ⟨2, ![8, 1024]⟩
abbrev S1x1024 : Shape := ⟨2, ![1, 1024]⟩
abbrev S1024 : Shape := ⟨1, ![1024]⟩
abbrev S1x2048 : Shape := ⟨2, ![1, 2048]⟩
abbrev S2048 : Shape := ⟨1, ![2048]⟩
abbrev S1x32x64 : Shape := ⟨3, ![1, 32, 64]⟩
abbrev S1x32 : Shape := ⟨2, ![1, 32]⟩
abbrev S32 : Shape := ⟨1, ![32]⟩
abbrev S1x512 : Shape := ⟨2, ![1, 512]⟩
abbrev S512 : Shape := ⟨1, ![512]⟩
abbrev S1x32x16 : Shape := ⟨3, ![1, 32, 16]⟩
abbrev S16x2048 : Shape := ⟨2, ![16, 2048]⟩
abbrev S16x32x64 : Shape := ⟨3, ![16, 32, 64]⟩
abbrev S32x16x64 : Shape := ⟨3, ![32, 16, 64]⟩
abbrev S1x32x16x64 : Shape := ⟨4, ![1, 32, 16, 64]⟩
abbrev S1x1 : Shape := ⟨2, ![1, 1]⟩
abbrev S1x32x64x16 : Shape := ⟨4, ![1, 32, 64, 16]⟩

abbrev nBuf : Space → Nat
  | .hbm => 46
  | .vmem => 0
  | .smem => 0
  | _ => 0

abbrev bufTy : (tb : Table) → Fin (tcTables nBuf tb) → BufTy
  | .hbm, ⟨0, _⟩ => ⟨S8x72x2048, .f32⟩
  | .hbm, ⟨1, _⟩ => ⟨S8x8x1024, .f32⟩
  | .hbm, ⟨2, _⟩ => ⟨S_, .f32⟩
  | .hbm, ⟨3, _⟩ => ⟨S72x2048, .f32⟩
  | .hbm, ⟨4, _⟩ => ⟨S_, .f32⟩
  | .hbm, ⟨5, _⟩ => ⟨S8x1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x2048, .f32⟩
  | .hbm, ⟨14, _⟩ => ⟨S2048, .f32⟩
  | .hbm, ⟨15, _⟩ => ⟨S1x32x64, .f32⟩
  | .hbm, ⟨16, _⟩ => ⟨S1x2048, .f32⟩
  | .hbm, ⟨17, _⟩ => ⟨S2048, .f32⟩
  | .hbm, ⟨18, _⟩ => ⟨S1x32x64, .f32⟩
  | .hbm, ⟨19, _⟩ => ⟨S1x32, .f32⟩
  | .hbm, ⟨20, _⟩ => ⟨S32, .f32⟩
  | .hbm, ⟨21, _⟩ => ⟨S1x32, .f32⟩
  | .hbm, ⟨22, _⟩ => ⟨S1x512, .f32⟩
  | .hbm, ⟨23, _⟩ => ⟨S512, .f32⟩
  | .hbm, ⟨24, _⟩ => ⟨S1x32x16, .f32⟩
  | .hbm, ⟨25, _⟩ => ⟨S16x2048, .f32⟩
  | .hbm, ⟨26, _⟩ => ⟨S16x32x64, .f32⟩
  | .hbm, ⟨27, _⟩ => ⟨S32x16x64, .f32⟩
  | .hbm, ⟨28, _⟩ => ⟨S1x32x16x64, .f32⟩
  | .hbm, ⟨29, _⟩ => ⟨S16x2048, .f32⟩
  | .hbm, ⟨30, _⟩ => ⟨S16x32x64, .f32⟩
  | .hbm, ⟨31, _⟩ => ⟨S32x16x64, .f32⟩
  | .hbm, ⟨32, _⟩ => ⟨S1x32x16x64, .f32⟩
  | .hbm, ⟨33, _⟩ => ⟨S16x2048, .f32⟩
  | .hbm, ⟨34, _⟩ => ⟨S16x32x64, .f32⟩
  | .hbm, ⟨35, _⟩ => ⟨S32x16x64, .f32⟩
  | .hbm, ⟨36, _⟩ => ⟨S1x32x16x64, .f32⟩
  | .hbm, ⟨37, _⟩ => ⟨S16x2048, .f32⟩
  | .hbm, ⟨38, _⟩ => ⟨S16x32x64, .f32⟩
  | .hbm, ⟨39, _⟩ => ⟨S32x16x64, .f32⟩
  | .hbm, ⟨40, _⟩ => ⟨S1x32x16x64, .f32⟩
  | .hbm, ⟨41, _⟩ => ⟨S1x1, .f32⟩
  | .hbm, ⟨42, _⟩ => ⟨S_, .f32⟩
  | .hbm, ⟨43, _⟩ => ⟨S1x32x64x16, .f32⟩
  | .hbm, ⟨44, _⟩ => ⟨S1x32x64x16, .f32⟩
  | .hbm, ⟨45, _⟩ => ⟨S1024, .f32⟩
  | _, _ => ⟨S8x72x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩

abbrev nD : Nat := 1
abbrev τ : Topo := Topo.v7x

variable {F : FTy → Type} [FloatOps F]
-- ==== Proof.ProjRun.lean ====
/- The run of the whole program, at the contents its last boundary states. -/
module

public import proofs.«01_k».proof.Proof.Gen.Kernel2Ideal.Frame
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel2Ideal.Proj

open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs, and every buffer ends at the contents of its last boundary. -/
theorem run_all : θ_run defs (onTc (τ := τ) (main (F := Ideal))) ⟨m, fun _ => 0, ρ⟩ (fun r => ∀ c : Dev nD,
      ∀ b ∈ Pipeline.ucRefs τ sig, r.2.mem ((c : Thread nD τ).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

end Cert.Kernel2Ideal.Proj

end
-- ==== Proof.ProjCalls.lean ====
/- What the three calls of the projection's gradient leave: the weight gradient in column halves, and the norm backward. -/
module

public import proofs.«01_k».proof.Proof.Gen.Kernel2Ideal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen

variable (V : (c : Dev nD) → (b : Ref sig .tc) → Buf (Elt Ideal) ((c : Thread nD τ).loc b))

/-- The first call's windows over its grid: blocks of 256 columns against the left half. -/
theorem idx0 : ∀ t : Fin cfg0.N, win0_0.index t = ![0, t.val] ∧ win0_1.index t = ![0, 0] ∧ win0_2.index t = ![t.val, 0] :=
  (by decide +kernel : ∀ t : Fin grid0.N, _)

/-- The second call's windows over its grid: blocks of 256 columns against the right half. -/
theorem idx1 : ∀ t : Fin cfg1.N, win1_0.index t = ![0, t.val] ∧ win1_1.index t = ![0, 1] ∧ win1_2.index t = ![t.val, 0] :=
  (by decide +kernel : ∀ t : Fin grid1.N, _)

/-- The third call's windows over its grid: blocks of 256 rows. -/
theorem idx2 : ∀ t : Fin cfg2.N, win2_0.index t = ![t.val, 0] ∧ win2_1.index t = ![0, 0] ∧ win2_2.index t = ![t.val, 0]
    ∧ win2_3.index t = ![0, 0] ∧ win2_4.index t = ![t.val, 0] ∧ win2_5.index t = ![t.val, 0] ∧ win2_7.index t = ![0, 0] :=
  (by decide +kernel : ∀ t : Fin grid2.N, _)

/-- The left 512 columns of the weight gradient, transposed: `ctᵀ · h`. -/
def leftW (y : FVec Ideal S4096x4864 .bf16) (h : FVec Ideal S4096x1024 .bf16) : FVec Ideal S4864x512 .bf16 :=
  fun j => ∑ k : Fin 4096, y (ix2 k (j 0)) * h (ix2 k ⟨(j 1 : ℕ), lt_trans (j 1).isLt (by decide)⟩)

/-- The right 512 columns of the weight gradient, transposed. -/
def rightW (y : FVec Ideal S4096x4864 .bf16) (h : FVec Ideal S4096x1024 .bf16) : FVec Ideal S4864x512 .bf16 :=
  fun j => ∑ k : Fin 4096, y (ix2 k (j 0)) * h (ix2 k ⟨512 + (j 1 : ℕ), Nat.add_lt_add_left (j 1).isLt 512⟩)

/-- The block stored at a point of the first call is the array's block. -/
theorem point0 (c : Dev nD) (t : Fin cfg0.N) (y) :
    k0_pay1 (iblk0 V c 0 t) (iblk0 V c 1 t) y = leftW (V c main_v2) (V c main_v16) (((cfg0.win 2).blk t).view.emb y) := by
  pointwise [k0_pay1, leftW]
  blk_point [iblk0, idx0 t]

/-- The array after the first call. -/
theorem final0 (c : Dev nD) : (dat0 V c).arrAt 2 cfg0.N = leftW (V c main_v2) (V c main_v16) := by
  refine (dat0 V c).arrAt_eq_of_covers 2 _ (by decide +kernel) fun t _ y => ?_
  blk_simp
  rw [after0_2]; frame_out
  exact point0 V c t y

/-- The block stored at a point of the second call is the array's block. -/
theorem point1 (c : Dev nD) (t : Fin cfg1.N) (y) :
    k1_pay1 (iblk1 V c 0 t) (iblk1 V c 1 t) y = rightW (V c main_v2) (V c main_v16) (((cfg1.win 2).blk t).view.emb y) := by
  pointwise [k1_pay1, rightW]
  blk_point [iblk1, idx1 t]

/-- The array after the second call. -/
theorem final1 (c : Dev nD) : (dat1 V c).arrAt 2 cfg1.N = rightW (V c main_v2) (V c main_v16) := by
  refine (dat1 V c).arrAt_eq_of_covers 2 _ (by decide +kernel) fun t _ y => ?_
  blk_simp
  rw [after1_2]; frame_out
  exact point1 V c t y

/-- The gradient of the normalised rows: the projection's gradient times the transposed weight. -/
def dhOf (dp : FVec Ideal S4096x4864 .bf16) (w : FVec Ideal S4864x1024 .bf16) : FVec Ideal S4096x1024 .f32 :=
  fun j => ∑ k : Fin 4864, dp (ix2 (j 0) k) * w (ix2 k (j 1))

/-- The mean square of a row, plus the small constant. -/
def ms (x : FVec Ideal S4096x1024 .f32) (i : Fin 4096) : EReal :=
  Ideal.div (∑ k : Fin 1024, x (ix2 i k) * x (ix2 i k)) (Ideal.ofBits .f32 0x44800000#32) + Ideal.ofBits .f32 0x358637BD#32

/-- The gradient of the rows through the norm, added to the residual's gradient. -/
def dxOf (dh x : FVec Ideal S4096x1024 .f32) (g : FVec Ideal S1x1024 .f32) (res : FVec Ideal S4096x1024 .f32) :
    FVec Ideal S4096x1024 .f32 := fun j =>
  res j + Ideal.rsqrt (ms x (j 0)) * (dh j * g (ix2 0 (j 1)) - x j * Ideal.rsqrt (ms x (j 0))
    * Ideal.div (∑ k : Fin 1024, dh (ix2 (j 0) k) * g (ix2 0 k) * (x (ix2 (j 0) k) * Ideal.rsqrt (ms x (j 0)))) (Ideal.ofBits .f32 0x44800000#32))

/-- The gradient of the norm weight. -/
def ggOf (dh x : FVec Ideal S4096x1024 .f32) : FVec Ideal S1x1024 .f32 :=
  fun j => ∑ i : Fin 4096, dh (ix2 i (j 1)) * (x (ix2 i (j 1)) * Ideal.rsqrt (ms x i))

/-- At a point of the third call the block stored for the rows' gradient is the array's block. -/
theorem point2_5 (c : Dev nD) (t : Fin cfg2.N) (y) :
    k2_pay2 (k2_pay7 (iblk2 V c 2 t)) (k2_pay8 (iblk2 V c 2 t)) (k2_pay10 (iblk2 V c 0 t) (iblk2 V c 1 t) (iblk2 V c 3 t))
      (k2_pay11 (iblk2 V c 4 t)) (k2_pay12 (iblk2 V c 0 t) (iblk2 V c 1 t) (iblk2 V c 2 t) (iblk2 V c 3 t)) y
      = dxOf (dhOf (V c main_v2) (V c main_v18)) (V c main_v0) (V c main_v21) (V c main_v22) (((cfg2.win 5).blk t).view.emb y) := by
  pointwise [k2_pay1, k2_pay2, k2_pay5, k2_pay6, k2_pay7, k2_pay8, k2_pay10, k2_pay11, k2_pay12, dxOf, dhOf, ms]
  blk_point [iblk2, idx2 t]

/-- The array of the rows' gradient after the third call. -/
theorem final2_5 (c : Dev nD) : (dat2 V c).arrAt 5 cfg2.N
    = dxOf (dhOf (V c main_v2) (V c main_v18)) (V c main_v0) (V c main_v21) (V c main_v22) := by
  refine (dat2 V c).arrAt_eq_of_covers 5 _ (by decide +kernel) fun t _ y => ?_
  blk_simp
  rw [after2_5]
  by_cases h : t.val % 16 = 0
  · rw [outsAt2_A V c t h]; frame_out
    exact point2_5 V c t y
  · rw [outsAt2_B V c t h]; frame_out
    exact point2_5 V c t y

/-- One row block's part of the norm weight's gradient. -/
def ggPart (dp : FVec Ideal S256x4864 .bf16) (w : FVec Ideal S4864x1024 .bf16) (x : FVec Ideal S256x1024 .f32) (n : Fin 1024)
    (k : Fin 256) : EReal :=
  (∑ l : Fin 4864, dp (ix2 k l) * w (ix2 l n))
    * (x (ix2 k n) * Ideal.rsqrt (Ideal.div (∑ l : Fin 1024, x (ix2 k l) * x (ix2 k l)) (Ideal.ofBits .f32 0x44800000#32)
      + Ideal.ofBits .f32 0x358637BD#32))

/-- The first store of the accumulator is zero. -/
theorem zero2_7 (j) : k2_pay4 (F := Ideal) j = 0 := by pointwise [k2_pay4]

/-- A point adds its row block's part to the accumulator. -/
theorem add2_7 (dp w x acc j) : k2_pay9 (F := Ideal) dp w x acc j = acc j + ∑ k : Fin 256, ggPart dp w x (j 1) k := by
  pointwise [k2_pay5, k2_pay6, k2_pay7, k2_pay8, k2_pay9, ggPart]

/-- The array of the norm weight's gradient after the third call. -/
theorem final2_7 (c : Dev nD) : (dat2 V c).arrAt 7 cfg2.N = ggOf (dhOf (V c main_v2) (V c main_v18)) (V c main_v0) := by
  refine (dat2 V c).arrAt_eq_of_after_last 7 t2_15 (by decide +kernel) _ fun j => ?_
  blk_simp
  rw [after2_7, Pipeline.eq_sum_fin_of_reset_step_apply_last (fun n h => (outsAt2 V c n h).2.2) 16 (fun _ => 0) _
    (fun t h j => by rw [outsAt2_A V c t h]; frame_out; rw [add2_7, zero2_7])
    (fun t h j => by rw [outsAt2_B V c t h]; frame_out; rw [add2_7])
    (le_of_eq N_2) t2_15 rfl j, zero_add]
  unfold ggOf
  refine Fin.sum_mul_add_congr fun t k hl => ?_
  pointwise [ggPart, dhOf, ms]
  blk_point [iblk2, idx2 t]

end Cert.Kernel2Ideal.Proj

end
-- ==== Proof.ProjOut.lean ====
/- The results of the projection's gradient in terms of the arguments. -/
module

public import proofs.«01_k».proof.Proof.ProjCalls

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen

variable (m : (ℓ : Loc nD τ sig) → Buf (Elt Ideal) ℓ) (ρ : Dev nD → PrngReg)

/-- The rows of a [2, 2048, 1024] array, one after another. -/
def kX (x : FVec Ideal S2x2048x1024 .f32) : FVec Ideal S4096x1024 .f32 :=
  shapeCast S4096x1024 x shapeCasts_S2x2048x1024_S4096x1024

/-- The rows of a [2, 2048, 4864] array, one after another. -/
def kY (y : FVec Ideal S2x2048x4864 .f32) : FVec Ideal S4096x4864 .f32 :=
  shapeCast S4096x4864 y shapeCasts_S2x2048x4864_S4096x4864

/-- The rows normalised and scaled by the norm weight. -/
def kH (x : FVec Ideal S2x2048x1024 .f32) (g : FVec Ideal S1024 .f32) : FVec Ideal S4096x1024 .bf16 :=
  fun j => kX x j * Ideal.rsqrt (ms (kX x) (j 0)) * g (ix1 (j 1))

/-- The weight with its axes exchanged. -/
def kT (w : FVec Ideal S1024x4864 .f32) : FVec Ideal S4864x1024 .bf16 := fun j => w (ix2 (j 1) (j 0))

/-- The norm weight as one row. -/
def kG (g : FVec Ideal S1024 .f32) : FVec Ideal S1x1024 .f32 := fun j => g (ix1 (j 1))

/-- The one row of a [1, 1024] array. -/
def kRow (v : FVec Ideal S1x1024 .f32) : FVec Ideal S1024 .f32 := shapeCast S1024 v shapeCasts_S1x1024_S1024

/-- The rows of a [4096, 1024] array as a [2, 2048, 1024] array. -/
def kUn (v : FVec Ideal S4096x1024 .f32) : FVec Ideal S2x2048x1024 .f32 :=
  shapeCast S2x2048x1024 v shapeCasts_S4096x1024_S2x2048x1024

/-- The weight gradient: the normalised rows' columns against the projection's gradient's columns. -/
def kW (y : FVec Ideal S4096x4864 .bf16) (h : FVec Ideal S4096x1024 .bf16) : FVec Ideal S1024x4864 .f32 :=
  fun j => ∑ k : Fin 4096, y (ix2 k (j 1)) * h (ix2 k (j 0))

/-- The two halves of the columns side by side, transposed, are the whole product. -/
theorem halves (y : FVec Ideal S4096x4864 .bf16) (h : FVec Ideal S4096x1024 .bf16) :
    transpose S1024x4864 [1, 0] (concatenate S4864x1024 1 [⟨S4864x512, extf (F := Ideal) .f32 (leftW y h) bitsLt_bf16_f32⟩,
      ⟨S4864x512, extf (F := Ideal) .f32 (rightW y h) bitsLt_bf16_f32⟩] concatenates_S4864x512_S4864x512_S4864x1024_d1)
      transposes_S4864x1024_S1024x4864_1_0 = kW y h := by
  funext j
  pointwise [kW, leftW, rightW]
  split_ifs with hlt
  · rfl
  · refine Finset.sum_congr rfl fun k _ => ?_
    refine congrArg (fun i : Fin 1024 => y (ix2 k (j 1)) * h (ix2 k i)) (Fin.ext ?_)
    show 512 + ((j 0 : ℕ) - 512) = (j 0 : ℕ)
    omega
  · exact absurd rfl ‹¬_›

/-- The host's `v0`. -/
theorem entry_v0 (c : Dev nD) : V1 m ρ c main_v0 = kX (m ((c : Thread nD τ).loc main_arg0)) := by
  unfold V1 W1; after_results; rfl

/-- The host's `v2`. -/
theorem entry_v2 (c : Dev nD) : V1 m ρ c main_v2 = kY (m ((c : Thread nD τ).loc main_arg3)) := by
  unfold V1 W1; after_results; rfl

/-- The host's `v16`. -/
theorem entry_v16 (c : Dev nD) : V1 m ρ c main_v16 = kH (m ((c : Thread nD τ).loc main_arg0)) (m ((c : Thread nD τ).loc main_arg1)) := by
  unfold V1 W1; after_results
  funext j
  pointwise [kH, ms, kX]

/-- The host's `v18`. -/
theorem entry_v18 (c : Dev nD) : V1 m ρ c main_v18 = kT (m ((c : Thread nD τ).loc main_arg2)) := by
  unfold V1 W1; after_results
  funext j
  pointwise [kT]

/-- `v2` is unchanged by the first call. -/
theorem two_v2 (c : Dev nD) : V2 m ρ c main_v2 = kY (m ((c : Thread nD τ).loc main_arg3)) :=
  (W2_of m ρ c main_v2 (by decide)).trans (entry_v2 m ρ c)

/-- `v16` is unchanged by the first call. -/
theorem two_v16 (c : Dev nD) : V2 m ρ c main_v16 = kH (m ((c : Thread nD τ).loc main_arg0)) (m ((c : Thread nD τ).loc main_arg1)) :=
  (W2_of m ρ c main_v16 (by decide)).trans (entry_v16 m ρ c)

/-- `v0` is unchanged before the third call. -/
theorem four_v0 (c : Dev nD) : V4 m ρ c main_v0 = kX (m ((c : Thread nD τ).loc main_arg0)) :=
  (W4_of m ρ c main_v0 (by decide)).trans ((W3_of m ρ c main_v0 (by decide)).trans ((W2_of m ρ c main_v0 (by decide)).trans (entry_v0 m ρ c)))

/-- `v2` is unchanged before the third call. -/
theorem four_v2 (c : Dev nD) : V4 m ρ c main_v2 = kY (m ((c : Thread nD τ).loc main_arg3)) :=
  (W4_of m ρ c main_v2 (by decide)).trans ((W3_of m ρ c main_v2 (by decide)).trans ((W2_of m ρ c main_v2 (by decide)).trans (entry_v2 m ρ c)))

/-- `v18` is unchanged before the third call. -/
theorem four_v18 (c : Dev nD) : V4 m ρ c main_v18 = kT (m ((c : Thread nD τ).loc main_arg2)) :=
  (W4_of m ρ c main_v18 (by decide)).trans ((W3_of m ρ c main_v18 (by decide)).trans ((W2_of m ρ c main_v18 (by decide)).trans (entry_v18 m ρ c)))

/-- The norm weight that the host prepares for the third call. -/
theorem four_v21 (c : Dev nD) : V4 m ρ c main_v21 = kG (m ((c : Thread nD τ).loc main_arg1)) := by
  rw [← show V3 m ρ c main_arg1 = _ from W3_args m ρ c main_arg1 (by decide)]
  unfold V4 W4; after_results
  funext j
  pointwise [kG]

/-- The residual's gradient that the host prepares for the third call. -/
theorem four_v22 (c : Dev nD) : V4 m ρ c main_v22 = kX (m ((c : Thread nD τ).loc main_arg4)) := by
  rw [← show V3 m ρ c main_arg4 = _ from W3_args m ρ c main_arg4 (by decide)]
  unfold V4 W4; after_results; rfl

/-- The left half before the last host stretch. -/
theorem five_v19 (c : Dev nD) : V5 m ρ c main_v19 = leftW (kY (m ((c : Thread nD τ).loc main_arg3))) (kH (m ((c : Thread nD τ).loc main_arg0)) (m ((c : Thread nD τ).loc main_arg1))) := by
  refine (W5_of m ρ c main_v19 (by decide)).trans ((W4_of m ρ c main_v19 (by decide)).trans ((W3_of m ρ c main_v19 (by decide)).trans
    ((W2_arr m ρ c 2).trans ((final0 (V1 m ρ) c).trans ?_))))
  rw [entry_v2, entry_v16]

/-- The right half before the last host stretch. -/
theorem five_v20 (c : Dev nD) : V5 m ρ c main_v20 = rightW (kY (m ((c : Thread nD τ).loc main_arg3))) (kH (m ((c : Thread nD τ).loc main_arg0)) (m ((c : Thread nD τ).loc main_arg1))) := by
  refine (W5_of m ρ c main_v20 (by decide)).trans ((W4_of m ρ c main_v20 (by decide)).trans
    ((W3_arr m ρ c 2).trans ((final1 (V2 m ρ) c).trans ?_)))
  rw [two_v2, two_v16]

/-- The rows' gradient after the third call. -/
theorem five_dx (c : Dev nD) : V5 m ρ c main_v23_0 = dxOf (dhOf (kY (m ((c : Thread nD τ).loc main_arg3))) (kT (m ((c : Thread nD τ).loc main_arg2)))) (kX (m ((c : Thread nD τ).loc main_arg0))) (kG (m ((c : Thread nD τ).loc main_arg1))) (kX (m ((c : Thread nD τ).loc main_arg4))) := by
  refine (W5_arr m ρ c 5).trans ((final2_5 (V4 m ρ) c).trans ?_)
  rw [four_v0, four_v2, four_v18, four_v21, four_v22]

/-- The norm weight's gradient after the third call. -/
theorem five_gg (c : Dev nD) : V5 m ρ c main_v23_2 = ggOf (dhOf (kY (m ((c : Thread nD τ).loc main_arg3))) (kT (m ((c : Thread nD τ).loc main_arg2)))) (kX (m ((c : Thread nD τ).loc main_arg0))) := by
  refine (W5_arr m ρ c 7).trans ((final2_7 (V4 m ρ) c).trans ?_)
  rw [four_v0, four_v2, four_v18]

/-- The first result: the input's gradient. -/
theorem out_x (c : Dev nD) : W6 m ρ c main_v24 = kUn (dxOf (dhOf (kY (m ((c : Thread nD τ).loc main_arg3))) (kT (m ((c : Thread nD τ).loc main_arg2)))) (kX (m ((c : Thread nD τ).loc main_arg0))) (kG (m ((c : Thread nD τ).loc main_arg1))) (kX (m ((c : Thread nD τ).loc main_arg4)))) := by
  have e : W6 m ρ c main_v24 = kUn (V5 m ρ c main_v23_0) := by
    unfold W6; after_results; rfl
  exact e.trans (congrArg kUn (five_dx m ρ c))

/-- The second result: the norm weight's gradient. -/
theorem out_g (c : Dev nD) : W6 m ρ c main_v25 = kRow (ggOf (dhOf (kY (m ((c : Thread nD τ).loc main_arg3))) (kT (m ((c : Thread nD τ).loc main_arg2)))) (kX (m ((c : Thread nD τ).loc main_arg0)))) := by
  have e : W6 m ρ c main_v25 = kRow (V5 m ρ c main_v23_2) := by
    unfold W6; after_results; rfl
  exact e.trans (congrArg kRow (five_gg m ρ c))

/-- The third result: the projection weight's gradient. -/
theorem out_w (c : Dev nD) : W6 m ρ c main_v29 = kW (kY (m ((c : Thread nD τ).loc main_arg3))) (kH (m ((c : Thread nD τ).loc main_arg0)) (m ((c : Thread nD τ).loc main_arg1))) := by
  rw [← halves, ← five_v19 m ρ c, ← five_v20 m ρ c]
  unfold W6; after_results

end Cert.Kernel2Ideal.Proj

end
-- ==== Proof.Products.lean ====
/- The matrix products and the gate that the four calls compute, as plain sums over extended reals. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

/-- Row times row: `x · wᵀ` of a [4096, 1024] and a [2816, 1024] array. -/
def rowsNT (x : FVec Ideal S4096x1024 .bf16) (w : FVec Ideal S2816x1024 .bf16) : FVec Ideal S4096x2816 .f32 :=
  fun j => ∑ k : Fin 1024, x (ix2 (j 0) k) * w (ix2 (j 1) k)

/-- Column times column: `xᵀ · y` of a [4096, 2816] and a [4096, 1024] array. -/
def colsTN (x : FVec Ideal S4096x2816 .bf16) (y : FVec Ideal S4096x1024 .bf16) : FVec Ideal S2816x1024 .f32 :=
  fun j => ∑ k : Fin 4096, x (ix2 k (j 0)) * y (ix2 k (j 1))

/-- The logistic function, spelled as the kernel spells it. -/
def sg (a : EReal) : EReal := Ideal.div 1 (1 + Ideal.exp (0 - a))

/-- The gradient of `silu a * b` in `a`, for the incoming gradient `d`. -/
def gradA (d a b : EReal) : EReal := d * b * sg a * (1 + a * (1 - sg a))

/-- The gradient of `silu a * b` in `b`, for the incoming gradient `d`. -/
def gradB (d a : EReal) : EReal := d * a * sg a

end Cert.KernelIdeal.Ffn

end
-- ==== Proof.Scalars.lean ====
/- The laws of the extended reals that the equation of the two programs rests on. -/
module

public import proofs.«01_k».proof.Proof.Products

@[expose] public section

noncomputable section

open Idealize.ShloMosaic

namespace Cert.KernelIdeal.Ffn

open Cert.KernelIdeal

/-- The number of columns, as the constant both programs divide by. -/
theorem const_1024 : Ideal.ofBits .f32 0x44800000#32 = ((1024 : ℝ) : EReal) := by
  simp [Ideal.ofBits, Ideal.ieee, -EReal.coe_mul]; norm_num

/-- Minus a half. -/
theorem const_half : Ideal.ofBits .f32 0xBF000000#32 = ((-(1 / 2) : ℝ) : EReal) := by
  simp [Ideal.ofBits, Ideal.ieee, -EReal.coe_mul]; norm_num

/-- The small constant under the root is a positive real. -/
theorem const_eps : ∃ e : ℝ, 0 < e ∧ Ideal.ofBits .f32 0x358637BD#32 = (e : EReal) := by
  refine ⟨_, ?_, by simp only [Ideal.ofBits, Ideal.ieee]; rw [if_neg (by decide), if_neg (by decide)]⟩
  rw [if_neg (by decide)]
  positivity

/-- A sum of reals is a real. -/
theorem coe_sum {ι : Type} [Fintype ι] (f : ι → ℝ) : ∑ i, (f i : EReal) = ((∑ i, f i : ℝ) : EReal) := by
  classical
  refine Finset.induction_on (motive := fun s : Finset ι => ∑ i ∈ s, (f i : EReal) = ((∑ i ∈ s, f i : ℝ) : EReal)) Finset.univ (by simp) ?_
  intro a s ha ih
  rw [Finset.sum_insert ha, Finset.sum_insert ha, ih, EReal.coe_add]

/-- A sum of products of reals is a real. -/
theorem real_dot {ι : Type} [Fintype ι] (x y : ι → EReal) (hx : ∀ i, ∃ r : ℝ, x i = r) (hy : ∀ i, ∃ r : ℝ, y i = r) :
    ∃ r : ℝ, ∑ i, x i * y i = r := by
  choose u hu using hx
  choose v hv using hy
  refine ⟨∑ i, u i * v i, ?_⟩
  rw [← coe_sum]
  exact Finset.sum_congr rfl fun i _ => by rw [hu, hv, EReal.coe_mul]

/-- A real factor that is not negative moves out of a sum. -/
theorem sum_mul_real {ι : Type} [Fintype ι] (f : ι → EReal) {r : ℝ} (hr : 0 ≤ r) :
    ∑ i, f i * (r : EReal) = (∑ i, f i) * (r : EReal) := by
  classical
  refine Finset.induction_on (motive := fun s : Finset ι => ∑ i ∈ s, f i * (r : EReal) = (∑ i ∈ s, f i) * (r : EReal)) Finset.univ (by simp) ?_
  intro a s ha ih
  rw [Finset.sum_insert ha, Finset.sum_insert ha, ih,
    EReal.right_distrib_of_nonneg_of_ne_top (by exact_mod_cast hr) (EReal.coe_ne_top r)]

/-- A square is not negative. -/
theorem sq_nonneg' (a : EReal) : 0 ≤ a * a := by
  induction a with
  | bot => rw [EReal.bot_mul_bot]; exact le_top
  | top => rw [EReal.top_mul_top]; exact le_top
  | coe r => rw [← EReal.coe_mul]; exact_mod_cast mul_self_nonneg r

/-- The square of an infinity is `⊤`. -/
theorem sq_top {a : EReal} (h : ¬∃ r : ℝ, a = r) : a * a = ⊤ := by
  induction a with
  | bot => exact EReal.bot_mul_bot
  | top => exact EReal.top_mul_top
  | coe r => exact absurd ⟨r, rfl⟩ h

/-- A sum of squares with an infinite term is `⊤`. -/
theorem sum_sq_top {ι : Type} [Fintype ι] (x : ι → EReal) (h : ¬∀ i, ∃ r : ℝ, x i = r) : ∑ i, x i * x i = ⊤ := by
  classical
  obtain ⟨i, hi⟩ := not_forall.mp h
  rw [← Finset.add_sum_erase _ _ (Finset.mem_univ i), sq_top hi]
  refine EReal.top_add_of_ne_bot ?_
  exact ne_of_gt (lt_of_lt_of_le EReal.bot_lt_zero (Finset.sum_nonneg fun j _ => sq_nonneg' (x j)))

/-- The reciprocal root of a row's mean square, either of a row of reals or of one with an infinity. -/
theorem root_cases {ι : Type} [Fintype ι] (x : ι → EReal) (M : EReal)
    (hM : M = Ideal.div (∑ k, x k * x k) (Ideal.ofBits .f32 0x44800000#32) + Ideal.ofBits .f32 0x358637BD#32) :
    (∃ (u : ι → ℝ) (v : ℝ), 0 < v ∧ (∀ k, x k = u k) ∧ M = v ∧ Ideal.rsqrt M = (((Real.sqrt v)⁻¹ : ℝ) : EReal))
      ∨ (Ideal.rsqrt M = 0 ∧ M = ⊤) := by
  obtain ⟨e, he, hc⟩ := const_eps
  rw [const_1024, hc, Ideal.div_coe (by norm_num)] at hM
  by_cases h : ∀ k, ∃ r : ℝ, x k = r
  · choose u hu using h
    have hs : ∑ k, x k * x k = ((∑ k, u k * u k : ℝ) : EReal) := by
      rw [← coe_sum]
      exact Finset.sum_congr rfl fun k _ => by rw [hu, EReal.coe_mul]
    have hv : 0 < (∑ k, u k * u k) * (1 / 1024) + e :=
      add_pos_of_nonneg_of_pos (mul_nonneg (Finset.sum_nonneg fun k _ => mul_self_nonneg (u k)) (by norm_num)) he
    rw [hs, ← EReal.coe_mul, ← EReal.coe_add] at hM
    refine .inl ⟨u, _, hv, hu, hM, ?_⟩
    rw [hM, Ideal.rsqrt_coe, if_neg hv.not_gt, if_neg hv.ne']
  · have hM' : M = ⊤ := by
      rw [hM, sum_sq_top x h, EReal.top_mul_coe_of_pos (by norm_num), EReal.top_add_coe]
    exact .inr ⟨by rw [hM', Ideal.rsqrt_top], hM'⟩

/-- The sigmoid of a real is a real. -/
theorem sg_real (a : ℝ) : ∃ s : ℝ, sg (a : EReal) = s := by
  have h : (1 : EReal) + Ideal.exp (0 - (a : EReal)) = ((1 + Real.exp (0 - a) : ℝ) : EReal) := by
    rw [EReal.coe_add, ← Ideal.exp_coe, EReal.coe_sub]; rfl
  refine ⟨1 * (1 / (1 + Real.exp (0 - a))), ?_⟩
  unfold sg
  rw [h, Ideal.div_coe (by positivity), EReal.coe_mul]; rfl

/-- The sigmoid at `⊤`. -/
theorem sg_top : sg ⊤ = 1 := by
  unfold sg
  rw [zero_sub, EReal.neg_top, Ideal.exp_bot, add_zero, Ideal.div, if_neg one_ne_zero, one_mul, ← EReal.coe_one,
    ← EReal.coe_inv, inv_one]

/-- The sigmoid at `⊥`. -/
theorem sg_bot : sg ⊥ = 0 := by
  unfold sg
  rw [zero_sub, EReal.neg_bot, Ideal.exp_top, EReal.add_top_of_ne_bot (show (1 : EReal) ≠ ⊥ from EReal.coe_ne_bot 1),
    Ideal.div, if_neg EReal.top_ne_zero, EReal.inv_top, mul_zero]

/-- The derivative of `a · sg a`, in the kernel's form and in the reference's, times a real. -/
theorem silu_grad (z : ℝ) (a : EReal) : (z : EReal) * sg a * (1 + a * (1 - sg a))
    = (z : EReal) * sg a + (a * (z : EReal)) * (sg a * (1 - sg a)) := by
  have one_one : (1 : EReal) - 1 = 0 := by rw [← EReal.coe_one, ← EReal.coe_sub, sub_self, EReal.coe_zero]
  induction a with
  | bot => rw [sg_bot]; simp only [mul_zero, zero_mul, add_zero]
  | top => rw [sg_top, one_one]; simp only [mul_zero, zero_mul, add_zero, mul_one]
  | coe r =>
    obtain ⟨s, hs⟩ := sg_real r
    rw [hs]
    norm_cast
    ring

/-- A number doubled. -/
theorem twice (y : EReal) (t : ℝ) : y * (t : EReal) + y * (t : EReal) = y * ((2 * t : ℝ) : EReal) := by
  have h : ∀ w : EReal, w + w = w * ((2 : ℝ) : EReal) := by
    intro w
    induction w with
    | bot => rw [EReal.bot_mul_coe_of_pos (by norm_num)]; rfl
    | top => rw [EReal.top_mul_coe_of_pos (by norm_num)]; rfl
    | coe r => norm_cast; ring
  rw [h, mul_assoc, ← EReal.coe_mul, mul_comm t 2]

/-- The gradient through the norm at one element: the kernel's form and the reference's, over a row of reals or a row
    with an infinity. -/
theorem norm_grad {ι : Type} [Fintype ι] (x dn : ι → EReal) (M res : EReal) (j : ι)
    (hM : M = Ideal.div (∑ k, x k * x k) (Ideal.ofBits .f32 0x44800000#32) + Ideal.ofBits .f32 0x358637BD#32) :
    res + Ideal.rsqrt M * (dn j - x j * Ideal.rsqrt M
        * Ideal.div (∑ k, dn k * (x k * Ideal.rsqrt M)) (Ideal.ofBits .f32 0x44800000#32))
      = res + dn j * Ideal.rsqrt M
        + x j * Ideal.div ((∑ k, x k * dn k) * (Ideal.ofBits .f32 0xBF000000#32 * Ideal.div (Ideal.rsqrt M) M))
            (Ideal.ofBits .f32 0x44800000#32)
        + Ideal.div ((∑ k, x k * dn k) * (Ideal.ofBits .f32 0xBF000000#32 * Ideal.div (Ideal.rsqrt M) M))
            (Ideal.ofBits .f32 0x44800000#32) * x j := by
  rw [const_1024, const_half, Ideal.div_coe (by norm_num), Ideal.div_coe (by norm_num)]
  rcases root_cases x M hM with ⟨u, v, hv, hu, hMv, hr⟩ | ⟨hr, hMt⟩
  · have hs : 0 < Real.sqrt v := Real.sqrt_pos.mpr hv
    have hss : Real.sqrt v * Real.sqrt v = v := Real.mul_self_sqrt hv.le
    have e1 : ∑ k, dn k * (x k * Ideal.rsqrt M) = (∑ k, x k * dn k) * (((Real.sqrt v)⁻¹ : ℝ) : EReal) := by
      rw [← sum_mul_real _ (inv_nonneg.mpr hs.le)]
      exact Finset.sum_congr rfl fun k _ => by rw [hr, ← mul_assoc, mul_comm (dn k)]
    rw [e1, hr, hMv, hu j, Ideal.div_coe hv.ne']
    generalize ∑ k, x k * dn k = S
    generalize dn j = D
    set r := (Real.sqrt v)⁻¹ with hrdef
    have k1 : ((u j : ℝ) : EReal) * (r : EReal) * (S * (r : EReal) * ((1 / 1024 : ℝ) : EReal))
        = S * ((u j * r * r * (1 / 1024) : ℝ) : EReal) := by
      rw [EReal.coe_mul, EReal.coe_mul, EReal.coe_mul]; ac_rfl
    have k2 : S * (((-(1 / 2) : ℝ) : EReal) * ((r : EReal) * ((1 / v : ℝ) : EReal))) * ((1 / 1024 : ℝ) : EReal)
        = S * ((-(1 / 2) * (r * (1 / v)) * (1 / 1024) : ℝ) : EReal) := by
      rw [EReal.coe_mul, EReal.coe_mul, EReal.coe_mul, mul_assoc]
    rw [k1, k2, sub_eq_add_neg, EReal.left_distrib_of_nonneg_of_ne_top (show (0 : EReal) ≤ (r : EReal) by exact_mod_cast inv_nonneg.mpr hs.le) (EReal.coe_ne_top r), mul_neg, add_assoc, add_assoc]
    rw [mul_comm (r : EReal) D]
    refine congrArg (res + ·) ?_
    refine congrArg (D * (r : EReal) + ·) ?_
    have k3 : ∀ p q : ℝ, (p : EReal) * (S * (q : EReal)) = S * ((p * q : ℝ) : EReal) := fun p q => by
      rw [EReal.coe_mul]; ac_rfl
    rw [mul_comm _ ((u j : ℝ) : EReal), k3, k3, twice, ← mul_neg, ← EReal.coe_neg]
    refine congrArg (fun t : ℝ => S * (t : EReal)) ?_
    rw [hrdef]
    field_simp
    rw [Real.sq_sqrt hv.le, mul_comm]
  · rw [hr, hMt]
    have e : Ideal.div 0 ⊤ = 0 := by rw [Ideal.div, if_neg EReal.top_ne_zero, zero_mul]
    rw [e]
    simp only [mul_zero, zero_mul, add_zero]

end Cert.KernelIdeal.Ffn

end
-- ==== Proof.ProjEq.lean ====
/- The reference of the projection's gradient, and the equation of the two programs, result by result. -/
module

public import proofs.«01_k».proof.Proof.ProjOut
public import proofs.«01_k».proof.Proof.Scalars
public import proofs.«01_k».proof.Proof.Gen.Reference2Ideal.Read

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen

open Cert.Reference2Ideal.Read
open Cert.KernelIdeal.Ffn (norm_grad)

variable (x : FVec Ideal S2x2048x1024 .f32) (g : FVec Ideal S1024 .f32) (w : FVec Ideal S1024x4864 .f32)
  (ct : FVec Ideal S2x2048x4864 .f32) (dr : FVec Ideal S2x2048x1024 .f32)

/-- The reference's rows of the input. -/
theorem ref_x : val_main_v0 (F := Ideal) x = kX x := rfl

/-- The reference's rows of the projection's gradient. -/
theorem ref_y : val_main_v19 (F := Ideal) ct = kY ct := rfl

/-- The reference's mean square. -/
theorem ref_ms (i : Fin 4096) : val_main_v7 (F := Ideal) x (ix2 i 0) = ms (kX x) i := by
  rw [← ref_x]
  pointwise [val_main_v7, val_main_v6, val_main_v5, val_main_v4, val_main_v3, val_main_v2, val_main_v1, val_main_cst, val_main_cst_0, val_main_cst_1, ms]

/-- The reference's reciprocal root. -/
theorem ref_r (i : Fin 4096) : val_main_v8 (F := Ideal) x (ix2 i 0) = Ideal.rsqrt (ms (kX x) i) := by
  have e : val_main_v8 (F := Ideal) x (ix2 i 0) = Ideal.rsqrt (val_main_v7 (F := Ideal) x (ix2 i 0)) := rfl
  rw [e, ref_ms]

/-- The reference's normalised rows before the weight. -/
theorem ref_n (j : S4096x1024.Idx) : val_main_v13 (F := Ideal) x j = kX x j * Ideal.rsqrt (ms (kX x) (j 0)) := by
  rw [show Ideal.rsqrt (ms (kX x) (j 0)) = _ from (ref_r x (j 0)).symm, ← ref_x]
  pointwise [val_main_v13, val_main_v12]

/-- The reference's normalised rows. -/
theorem ref_h : val_main_v16 (F := Ideal) x g = kH x g := by
  funext j
  have e : val_main_v16 (F := Ideal) x g j = val_main_v13 (F := Ideal) x j * val_main_v15 (F := Ideal) g j := rfl
  rw [e, ref_n]
  pointwise [val_main_v15, val_main_v14, kH]

/-- The projection weight's gradient. -/
theorem eq_w : val_main_v21 (F := Ideal) x g ct = kW (kY ct) (kH x g) := by
  funext j
  have e : val_main_v21 (F := Ideal) x g ct j
      = ∑ k : Fin 4096, val_main_v19 (F := Ideal) ct (ix2 k (j 1)) * val_main_v16 (F := Ideal) x g (ix2 k (j 0)) := by
    generalize hy : val_main_v19 (F := Ideal) ct = y
    generalize hc : val_main_v16 (F := Ideal) x g = y'
    pointwise [val_main_v21, val_main_v20, hy, hc]
  rw [e, ref_y, ref_h]; rfl

/-- The gradient of the normalised rows. -/
theorem eq_dh : val_main_v22 (F := Ideal) w ct = dhOf (kY ct) (kT w) := by
  funext j
  rw [← ref_y]
  pointwise [val_main_v22, dhOf, kT]

/-- The norm weight's gradient. -/
theorem eq_g : val_main_v28 (F := Ideal) x w ct = kRow (ggOf (dhOf (kY ct) (kT w)) (kX x)) := by
  funext j
  have e : val_main_v28 (F := Ideal) x w ct j
      = ∑ i : Fin 4096, val_main_v13 (F := Ideal) x (ix2 i (j 0)) * val_main_v22 (F := Ideal) w ct (ix2 i (j 0)) := by
    generalize hy : val_main_v13 (F := Ideal) x = y
    generalize hc : val_main_v22 (F := Ideal) w ct = y'
    pointwise [val_main_v28, val_main_cst_4, val_main_v25, val_main_v24, val_main_cst_3, val_main_v23, hy, hc]
    simp only [Fin.sum_univ_one]
  have e' : kRow (ggOf (dhOf (kY ct) (kT w)) (kX x)) j = ggOf (dhOf (kY ct) (kT w)) (kX x) (ix2 0 (j 0)) := by
    generalize ggOf (dhOf (kY ct) (kT w)) (kX x) = y
    pointwise [kRow]
  rw [e, e', eq_dh]
  refine Finset.sum_congr rfl fun i _ => ?_
  rw [ref_n]
  exact mul_comm _ _

/-- The rows' gradient, the residual's included. -/
theorem eq_rows (j : S4096x1024.Idx) : kX dr j + val_main_v42 (F := Ideal) x g w ct j
    = dxOf (dhOf (kY ct) (kT w)) (kX x) (kG g) (kX dr) j := by
  obtain ⟨p, q, rfl⟩ : ∃ (p : Fin 4096) (q : Fin 1024), j = ix2 p q :=
    ⟨j 0, j 1, by funext a; match a with | ⟨0, _⟩ => rfl | ⟨1, _⟩ => rfl⟩
  have e : val_main_v42 (F := Ideal) x g w ct (ix2 p q)
      = val_main_v22 (F := Ideal) w ct (ix2 p q) * g (ix1 q) * val_main_v8 (F := Ideal) x (ix2 p 0)
        + val_main_v0 (F := Ideal) x (ix2 p q) * Ideal.div ((∑ k : Fin 1024, val_main_v0 (F := Ideal) x (ix2 p k) * (val_main_v22 (F := Ideal) w ct (ix2 p k) * g (ix1 k)))
            * (Ideal.ofBits .f32 0xBF000000#32 * Ideal.div (val_main_v8 (F := Ideal) x (ix2 p 0)) (val_main_v7 (F := Ideal) x (ix2 p 0)))) (Ideal.ofBits .f32 0x44800000#32)
        + Ideal.div ((∑ k : Fin 1024, val_main_v0 (F := Ideal) x (ix2 p k) * (val_main_v22 (F := Ideal) w ct (ix2 p k) * g (ix1 k)))
            * (Ideal.ofBits .f32 0xBF000000#32 * Ideal.div (val_main_v8 (F := Ideal) x (ix2 p 0)) (val_main_v7 (F := Ideal) x (ix2 p 0)))) (Ideal.ofBits .f32 0x44800000#32)
          * val_main_v0 (F := Ideal) x (ix2 p q) := by
    generalize h0 : val_main_v0 (F := Ideal) x = y0
    generalize h7 : val_main_v7 (F := Ideal) x = y7
    generalize h8 : val_main_v8 (F := Ideal) x = y8
    generalize h22 : val_main_v22 (F := Ideal) w ct = y22
    pointwise [val_main_v42, val_main_v41, val_main_v40, val_main_v39, val_main_v38, val_main_v37, val_main_cst_7, val_main_v36,
      val_main_v35, val_main_cst_6, val_main_v34, val_main_v33, val_main_v32, val_main_v31, val_main_v30, val_main_v29,
      val_main_cst_5, val_main_v27, val_main_v26, val_main_v14, val_main_v11, val_main_v10, val_main_cst_2,
      val_main_v9, h0, h7, h8, h22]
    simp only [Fin.sum_univ_one]
  refine (congrArg (kX dr (ix2 p q) + ·) e).trans ?_
  rw [eq_dh, ref_x]
  generalize dhOf (kY ct) (kT w) = dh
  rw [show val_main_v8 (F := Ideal) x (ix2 p 0) = Ideal.rsqrt (ms (kX x) p) from ref_r x p,
    show val_main_v7 (F := Ideal) x (ix2 p 0) = ms (kX x) p from ref_ms x p]
  have key := norm_grad (fun k : Fin 1024 => kX x (ix2 p k)) (fun k => dh (ix2 p k) * g (ix1 k)) (ms (kX x) p)
    (kX dr (ix2 p q)) q rfl
  refine Eq.trans ?_ key.symm
  simp only [add_assoc]

/-- The input's gradient. -/
theorem eq_x : val_main_v44 (F := Ideal) x g w ct dr = kUn (dxOf (dhOf (kY ct) (kT w)) (kX x) (kG g) (kX dr)) := by
  rw [← show (fun j => kX dr j + val_main_v42 (F := Ideal) x g w ct j) = _ from funext (eq_rows x g w ct dr)]
  have e : kUn (kX dr) = dr := shapeCast_shapeCast dr _ _
  exact congrArg (fun z : FVec Ideal S2x2048x1024 .f32 => addf z (kUn (val_main_v42 (F := Ideal) x g w ct))) e.symm

end Cert.Kernel2Ideal.Proj

end
-- ==== Proof.LossCall.lean ====
/- What the call of the loss head leaves: the loss, the gradient of its rows and of the norm weight. -/
module

public import proofs.«01_k».proof.Proof.Gen.Kernel3Ideal.Frame
public import Idealize.ShloMosaic.Lib.Pipeline.ValueKit
public import proofs.«01_k».proof.Proof.Scalars

@[expose] public section

set_option maxRecDepth 16384

noncomputable section

open Idealize.ShloMosaic Idealize.ShloMosaic.TcCoe Idealize.SL.Sem
open Idealize.ShloMosaic.Pipeline (Dat)

namespace Cert.Kernel3Ideal.Loss

open Cert.Kernel3Ideal Cert.Kernel3Ideal.Gen
open Cert.KernelIdeal.Ffn (sum_mul_real)

variable (m : (ℓ : Loc nD τ sig) → Buf (Elt Ideal) ℓ)

/-- The call's windows over its grid: blocks of 256 rows, and the accumulators. -/
theorem idx0 : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_7.index t = ![0, 0]
    ∧ win0_8.index t = ![0, 0] :=
  (by decide +kernel : ∀ t : Fin grid0.N, _)

/-- The constant one half. -/
theorem const_pos_half : Ideal.ofBits .f32 0x3F000000#32 = ((1 / 2 : ℝ) : EReal) := by
  simp [Ideal.ofBits, Ideal.ieee, -EReal.coe_mul]; norm_num

/-- The rows before the last norm: the residual plus the down projection. -/
def xOf (x : FVec Ideal S4096x1024 .f32) (f : FVec Ideal S4096x2816 .bf16) (w : FVec Ideal S2816x1024 .bf16) : FVec Ideal S4096x1024 .f32 :=
  fun j => x j + ∑ k : Fin 2816, f (ix2 (j 0) k) * w (ix2 k (j 1))

/-- The mean square of a row, plus the small constant. -/
def ms (x : FVec Ideal S4096x1024 .f32) (i : Fin 4096) : EReal :=
  Ideal.div (∑ k : Fin 1024, x (ix2 i k) * x (ix2 i k)) (Ideal.ofBits .f32 0x44800000#32) + Ideal.ofBits .f32 0x358637BD#32

/-- The normalised rows less the target. -/
def dfOf (x : FVec Ideal S4096x1024 .f32) (g : FVec Ideal S1x1024 .f32) (t : FVec Ideal S4096x1024 .f32) : FVec Ideal S4096x1024 .f32 :=
  fun j => x j * Ideal.rsqrt (ms x (j 0)) * g (ix2 0 (j 1)) - t j

/-- The gradient of the loss in the normalised rows. -/
def dyOf (x : FVec Ideal S4096x1024 .f32) (g : FVec Ideal S1x1024 .f32) (t : FVec Ideal S4096x1024 .f32) : FVec Ideal S4096x1024 .f32 :=
  fun j => Ideal.div (dfOf x g t j) (Ideal.ofBits .f32 0x44800000#32)

/-- A row's mean squared difference, halved. -/
def tokOf (d : FVec Ideal S4096x1024 .f32) (i : Fin 4096) : EReal :=
  Ideal.div (∑ k : Fin 1024, d (ix2 i k) * d (ix2 i k)) (Ideal.ofBits .f32 0x44800000#32) * ((1 / 2 : ℝ) : EReal)

/-- The gradient of the rows through the norm. -/
def dxOf (dy x : FVec Ideal S4096x1024 .f32) (g : FVec Ideal S1x1024 .f32) : FVec Ideal S4096x1024 .f32 := fun j =>
  Ideal.rsqrt (ms x (j 0)) * (dy j * g (ix2 0 (j 1)) - x j * Ideal.rsqrt (ms x (j 0))
    * Ideal.div (∑ k : Fin 1024, dy (ix2 (j 0) k) * g (ix2 0 k) * (x (ix2 (j 0) k) * Ideal.rsqrt (ms x (j 0)))) (Ideal.ofBits .f32 0x44800000#32))

/-- The gradient of the norm weight. -/
def ggOf (dy x : FVec Ideal S4096x1024 .f32) : FVec Ideal S1x1024 .f32 :=
  fun j => ∑ i : Fin 4096, dy (ix2 i (j 1)) * (x (ix2 i (j 1)) * Ideal.rsqrt (ms x i))

/-- The rows before the last norm, of the call's arrays. -/
def aX (c : Dev nD) : FVec Ideal S4096x1024 .f32 := xOf (V m c main_v3) (V m c main_v1) (V m c main_v2)

/-- At a grid point the block stored for the rows' gradient is the array's block. -/
theorem point_5 (c : Dev nD) (t : Fin cfg0.N) (y) :
    k0_pay5 (k0_pay10 (iblk m c 4 t)) (k0_pay11 (iblk m c 2 t) (iblk m c 0 t) (iblk m c 1 t)) (k0_pay12 (iblk m c 2 t) (iblk m c 0 t) (iblk m c 1 t))
      (k0_pay13 (iblk m c 2 t) (iblk m c 0 t) (iblk m c 1 t) (iblk m c 4 t) (iblk m c 3 t)) y
      = dxOf (dyOf (aX m c) (V m c main_v5) (V m c main_v4)) (aX m c) (V m c main_v5) (((cfg0.win 5).blk t).view.emb y) := by
  pointwise [k0_pay2, k0_pay4, k0_pay5, k0_pay9, k0_pay10, k0_pay11, k0_pay12, k0_pay13, dxOf, dyOf, dfOf, aX, xOf, ms]
  blk_point [iblk, idx0 t]

/-- The array of the rows' gradient after the call. -/
theorem final_5 (c : Dev nD) : (dats m 0 c).arrAt 5 cfg0.N
    = dxOf (dyOf (aX m c) (V m c main_v5) (V m c main_v4)) (aX m c) (V m c main_v5) := by
  refine (dats m 0 c).arrAt_eq_of_covers 5 _ (by decide +kernel) fun t _ y => ?_
  blk_simp
  rw [after0_5]
  by_cases h : t.val % 16 = 0
  · rw [outsAt0_A m c t h]; frame_out
    exact point_5 m c t y
  · rw [outsAt0_B m c t h]; frame_out
    exact point_5 m c t y

/-- A row of a block before the last norm. -/
def xP (x : FVec Ideal S256x1024 .f32) (f : FVec Ideal S256x2816 .bf16) (w : FVec Ideal S2816x1024 .bf16) (k : Fin 256) (n : Fin 1024) : EReal :=
  x (ix2 k n) + ∑ l : Fin 2816, f (ix2 k l) * w (ix2 l n)

/-- A block row's normalised entry. -/
def nP (x : FVec Ideal S256x1024 .f32) (f : FVec Ideal S256x2816 .bf16) (w : FVec Ideal S2816x1024 .bf16) (k : Fin 256) (n : Fin 1024) : EReal :=
  xP x f w k n * Ideal.rsqrt (Ideal.div (∑ l : Fin 1024, xP x f w k l * xP x f w k l) (Ideal.ofBits .f32 0x44800000#32)
    + Ideal.ofBits .f32 0x358637BD#32)

/-- A block row's difference from the target. -/
def dP (x : FVec Ideal S256x1024 .f32) (f : FVec Ideal S256x2816 .bf16) (w : FVec Ideal S2816x1024 .bf16) (g : FVec Ideal S1x1024 .f32)
    (t : FVec Ideal S256x1024 .f32) (k : Fin 256) (n : Fin 1024) : EReal := nP x f w k n * g (ix2 0 n) - t (ix2 k n)

/-- The first store of the loss is zero. -/
theorem zero_7 (j) : k0_pay7 (F := Ideal) j = 0 := by pointwise [k0_pay7]

/-- The first store of the norm weight's gradient is zero. -/
theorem zero_8 (j) : k0_pay8 (F := Ideal) j = 0 := by pointwise [k0_pay8]

/-- A point adds its rows' parts to the loss. -/
theorem add_7 (x f w g t acc j) : k0_pay1 (F := Ideal) acc (k0_pay14 x f w g t) j
    = acc j + ∑ k : Fin 256, Ideal.div (∑ n : Fin 1024, dP x f w g t k n * dP x f w g t k n) (Ideal.ofBits .f32 0x44800000#32) * ((1 / 2 : ℝ) : EReal) := by
  rw [sum_mul_real _ (by norm_num), ← const_pos_half, mul_comm]
  pointwise [k0_pay1, k0_pay9, k0_pay10, k0_pay11, k0_pay12, k0_pay13, k0_pay14, dP, nP, xP]

/-- A point adds its rows' parts to the norm weight's gradient. -/
theorem add_8 (x f w g t acc j) : k0_pay3 (F := Ideal) (k0_pay12 x f w) (k0_pay13 x f w g t) acc j
    = acc j + ∑ k : Fin 256, Ideal.div (dP x f w g t k (j 1)) (Ideal.ofBits .f32 0x44800000#32) * nP x f w k (j 1) := by
  pointwise [k0_pay2, k0_pay3, k0_pay9, k0_pay10, k0_pay11, k0_pay12, k0_pay13, dP, nP, xP]

/-- The loss after the call, in every entry. -/
theorem final_7 (c : Dev nD) : (dats m 0 c).arrAt 7 cfg0.N
    = fun _ => ∑ i : Fin 4096, tokOf (dfOf (aX m c) (V m c main_v5) (V m c main_v4)) i := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) _
    (fun t h j => by rw [outsAt0_A m c t h]; frame_out; rw [add_7, zero_7])
    (fun t h j => by rw [outsAt0_B m c t h]; frame_out; rw [add_7])
    (le_of_eq N_0) t0_15 rfl j, zero_add]
  refine Fin.sum_mul_add_congr fun t k hl => ?_
  pointwise [dP, nP, xP, tokOf, dfOf, aX, xOf, ms]
  blk_point [iblk, idx0 t]

/-- The array of the norm weight's gradient after the call. -/
theorem final_8 (c : Dev nD) : (dats m 0 c).arrAt 8 cfg0.N
    = ggOf (dyOf (aX m c) (V m c main_v5) (V m c main_v4)) (aX m c) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0) _
    (fun t h j => by rw [outsAt0_A m c t h]; frame_out; rw [add_8, zero_8])
    (fun t h j => by rw [outsAt0_B m c t h]; frame_out; rw [add_8])
    (le_of_eq N_0) t0_15 rfl j, zero_add]
  unfold ggOf
  refine Fin.sum_mul_add_congr fun t k hl => ?_
  pointwise [dP, nP, xP, dyOf, dfOf, aX, xOf, ms]
  blk_point [iblk, idx0 t]

end Cert.Kernel3Ideal.Loss

end
-- ==== Proof.LossOut.lean ====
/- The results of the loss head in terms of the arguments. -/
module

public import proofs.«01_k».proof.Proof.LossCall

@[expose] public section

set_option maxRecDepth 16384

noncomputable section

open Idealize.ShloMosaic Idealize.ShloMosaic.TcCoe Idealize.SL.Sem
open Idealize.ShloMosaic.Pipeline (Dat)

namespace Cert.Kernel3Ideal.Loss

open Cert.Kernel3Ideal Cert.Kernel3Ideal.Gen

variable (m : (ℓ : Loc nD τ sig) → Buf (Elt Ideal) ℓ)

/-- The rows of a [2, 2048, 1024] array, one after another. -/
def kX (x : FVec Ideal S2x2048x1024 .f32) : FVec Ideal S4096x1024 .f32 :=
  shapeCast S4096x1024 x shapeCasts_S2x2048x1024_S4096x1024

/-- The rows of a [2, 2048, 2816] array, one after another. -/
def kF (f : FVec Ideal S2x2048x2816 .f32) : FVec Ideal S4096x2816 .f32 :=
  shapeCast S4096x2816 f shapeCasts_S2x2048x2816_S4096x2816

/-- The norm weight as one row. -/
def kG (g : FVec Ideal S1024 .f32) : FVec Ideal S1x1024 .f32 := fun j => g (ix1 (j 1))

/-- The one row of a [1, 1024] array. -/
def kRow (v : FVec Ideal S1x1024 .f32) : FVec Ideal S1024 .f32 := shapeCast S1024 v shapeCasts_S1x1024_S1024

/-- The rows of a [4096, 1024] array as a [2, 2048, 1024] array. -/
def kUn (v : FVec Ideal S4096x1024 .f32) : FVec Ideal S2x2048x1024 .f32 :=
  shapeCast S2x2048x1024 v shapeCasts_S4096x1024_S2x2048x1024

/-- The first entry of an [8, 128] array, as a scalar. -/
def kAt (v : FVec Ideal S8x128 .f32) : FVec Ideal S_ .f32 :=
  shapeCast S_ (extractStridedSlice S1x1 ![0, 0] v slices_S8x128_S1x1_0_0) shapeCasts_S1x1_S_

/-- The rows before the last norm, of the arguments. -/
def kZ (x : FVec Ideal S2x2048x1024 .f32) (f : FVec Ideal S2x2048x2816 .f32) (w : FVec Ideal S2816x1024 .f32) : FVec Ideal S4096x1024 .f32 :=
  xOf (kX x) (kF f) w

/-- The host's `v1`. -/
theorem entry_v1 (c : Dev nD) : V m c main_v1 = kF (m ((c : Thread nD τ).loc main_arg2)) := by
  show StableHlo.after hostOps0 (fun b => m (c, b)) (Proc.devRef .tc main_v1) = _
  after_results; rfl

/-- The host's `v2`. -/
theorem entry_v2 (c : Dev nD) : V m c main_v2 = (m ((c : Thread nD τ).loc main_arg3)) := by
  show StableHlo.after hostOps0 (fun b => m (c, b)) (Proc.devRef .tc main_v2) = _
  after_results; rfl

/-- The host's `v3`. -/
theorem entry_v3 (c : Dev nD) : V m c main_v3 = kX (m ((c : Thread nD τ).loc main_arg0)) := by
  show StableHlo.after hostOps0 (fun b => m (c, b)) (Proc.devRef .tc main_v3) = _
  after_results; rfl

/-- The host's `v4`. -/
theorem entry_v4 (c : Dev nD) : V m c main_v4 = kX (m ((c : Thread nD τ).loc main_arg4)) := by
  show StableHlo.after hostOps0 (fun b => m (c, b)) (Proc.devRef .tc main_v4) = _
  after_results; rfl

/-- The host's `v5`. -/
theorem entry_v5 (c : Dev nD) : V m c main_v5 = kG (m ((c : Thread nD τ).loc main_arg1)) := by
  show StableHlo.after hostOps0 (fun b => m (c, b)) (Proc.devRef .tc main_v5) = _
  after_results
  funext j
  pointwise [kG]

/-- The rows before the last norm. -/
theorem entry_x (c : Dev nD) : aX m c = kZ (m ((c : Thread nD τ).loc main_arg0)) (m ((c : Thread nD τ).loc main_arg2)) (m ((c : Thread nD τ).loc main_arg3)) := by
  unfold aX
  rw [entry_v1, entry_v2, entry_v3]; rfl

/-- The contents after the last host stretch. -/
abbrev Wend (c : Dev nD) (b : Ref sig .tc) : Buf (Elt Ideal) ((c : Thread nD τ).loc b) :=
  Pipeline.afterTail₀ cfgs (dats m) 0 (V0 m) [hostOps1] c b

/-- An array of the call after it. -/
theorem mid (c : Dev nD) (w : Fin cfg0.W) : Pipeline.withArrays spec0 c (V0 m c) (fun w => (dats m 0 c).arrAt w cfg0.N)
    (Proc.devRef .tc (Pipeline.arrRef spec0 w)) = (dats m 0 c).arrAt w cfg0.N :=
  Pipeline.withArrays_arr spec0 launch0.win.arr_inj c _ _ w

/-- The first result: the loss. -/
theorem out_l (c : Dev nD) : Wend m c main_v8 = fun _ => ∑ i : Fin 4096, tokOf (dfOf (kZ (m ((c : Thread nD τ).loc main_arg0)) (m ((c : Thread nD τ).loc main_arg2)) (m ((c : Thread nD τ).loc main_arg3))) (kG (m ((c : Thread nD τ).loc main_arg1))) (kX (m ((c : Thread nD τ).loc main_arg4)))) i := by
  have e : Wend m c main_v8 = kAt ((dats m 0 c).arrAt 7 cfg0.N) := by
    rw [← mid m c 7]
    unfold Wend Pipeline.afterTail₀; after_results; rfl
  rw [e, final_7, entry_x, entry_v5, entry_v4]
  funext j
  generalize ∑ i : Fin 4096, tokOf _ i = y
  pointwise [kAt]

/-- The second result: the rows' gradient. -/
theorem out_x (c : Dev nD) : Wend m c main_v9 = kUn (dxOf (dyOf (kZ (m ((c : Thread nD τ).loc main_arg0)) (m ((c : Thread nD τ).loc main_arg2)) (m ((c : Thread nD τ).loc main_arg3))) (kG (m ((c : Thread nD τ).loc main_arg1))) (kX (m ((c : Thread nD τ).loc main_arg4)))) (kZ (m ((c : Thread nD τ).loc main_arg0)) (m ((c : Thread nD τ).loc main_arg2)) (m ((c : Thread nD τ).loc main_arg3))) (kG (m ((c : Thread nD τ).loc main_arg1)))) := by
  have e : Wend m c main_v9 = kUn ((dats m 0 c).arrAt 5 cfg0.N) := by
    rw [← mid m c 5]
    unfold Wend Pipeline.afterTail₀; after_results; rfl
  refine e.trans (congrArg kUn ?_)
  rw [final_5, entry_x, entry_v5, entry_v4]

/-- The third result: the norm weight's gradient. -/
theorem out_g (c : Dev nD) : Wend m c main_v10 = kRow (ggOf (dyOf (kZ (m ((c : Thread nD τ).loc main_arg0)) (m ((c : Thread nD τ).loc main_arg2)) (m ((c : Thread nD τ).loc main_arg3))) (kG (m ((c : Thread nD τ).loc main_arg1))) (kX (m ((c : Thread nD τ).loc main_arg4)))) (kZ (m ((c : Thread nD τ).loc main_arg0)) (m ((c : Thread nD τ).loc main_arg2)) (m ((c : Thread nD τ).loc main_arg3)))) := by
  have e : Wend m c main_v10 = kRow ((dats m 0 c).arrAt 8 cfg0.N) := by
    rw [← mid m c 8]
    unfold Wend Pipeline.afterTail₀; after_results; rfl
  refine e.trans (congrArg kRow ?_)
  rw [final_8, entry_x, entry_v5, entry_v4]

end Cert.Kernel3Ideal.Loss

end
-- ==== Proof.LossEq.lean ====
/- The reference of the loss head, and the equation of the two programs, result by result. -/
module

public import proofs.«01_k».proof.Proof.LossOut
public import proofs.«01_k».proof.Proof.Gen.Reference3Ideal.Read

@[expose] public section

set_option maxRecDepth 16384

noncomputable section

open Idealize.ShloMosaic Idealize.ShloMosaic.TcCoe Idealize.SL.Sem
open Idealize.ShloMosaic.Pipeline (Dat)

namespace Cert.Kernel3Ideal.Loss

open Cert.Kernel3Ideal Cert.Kernel3Ideal.Gen

open Cert.Reference3Ideal.Read
open Cert.KernelIdeal.Ffn (norm_grad sum_mul_real const_1024)

variable (x : FVec Ideal S2x2048x1024 .f32) (g : FVec Ideal S1024 .f32) (f : FVec Ideal S2x2048x2816 .f32)
  (w : FVec Ideal S2816x1024 .f32) (t : FVec Ideal S2x2048x1024 .f32)

/-- The reference's rows before the last norm. -/
theorem ref_x : val_main_v3 (F := Ideal) x f w = kZ x f w := by
  funext j
  have e : val_main_v3 (F := Ideal) x f w j = val_main_v0 (F := Ideal) x j + ∑ k : Fin 2816, val_main_v1 (F := Ideal) f (ix2 (j 0) k) * w (ix2 k (j 1)) := by
    generalize h0 : val_main_v0 (F := Ideal) x = y0
    generalize h1 : val_main_v1 (F := Ideal) f = y1
    pointwise [val_main_v3, val_main_v2, h0, h1]
  exact e

/-- The reference's mean square. -/
theorem ref_ms (i : Fin 4096) : val_main_v10 (F := Ideal) x f w (ix2 i 0) = ms (kZ x f w) i := by
  rw [← ref_x]
  generalize hy : val_main_v3 (F := Ideal) x f w = y
  pointwise [val_main_v10, val_main_v9, val_main_v8, val_main_v7, val_main_v6, val_main_v5, val_main_v4, val_main_cst, val_main_cst_0, val_main_cst_1, ms, hy]

/-- The reference's reciprocal root. -/
theorem ref_r (i : Fin 4096) : val_main_v11 (F := Ideal) x f w (ix2 i 0) = Ideal.rsqrt (ms (kZ x f w) i) := by
  have e : val_main_v11 (F := Ideal) x f w (ix2 i 0) = Ideal.rsqrt (val_main_v10 (F := Ideal) x f w (ix2 i 0)) := rfl
  rw [e, ref_ms]

/-- The reference's normalised rows before the weight. -/
theorem ref_n (j : S4096x1024.Idx) : val_main_v16 (F := Ideal) x f w j = kZ x f w j * Ideal.rsqrt (ms (kZ x f w) (j 0)) := by
  rw [show Ideal.rsqrt (ms (kZ x f w) (j 0)) = _ from (ref_r x f w (j 0)).symm, ← ref_x]
  generalize hy : val_main_v3 (F := Ideal) x f w = y
  generalize hr : val_main_v11 (F := Ideal) x f w = r
  pointwise [val_main_v16, val_main_v15, hy, hr]

/-- The reference's difference from the target. -/
theorem ref_d : val_main_v21 (F := Ideal) x g f w t = dfOf (kZ x f w) (kG g) (kX t) := by
  funext j
  have e : val_main_v21 (F := Ideal) x g f w t j = val_main_v16 (F := Ideal) x f w j * val_main_v18 (F := Ideal) g j - val_main_v20 (F := Ideal) t j := rfl
  have e' : val_main_v18 (F := Ideal) g j = kG g (ix2 0 (j 1)) := by pointwise [val_main_v18, val_main_v17, kG]
  rw [e, ref_n, e']; rfl

/-- The loss. -/
theorem eq_l : val_main_v29 (F := Ideal) x g f w t = fun _ => ∑ i : Fin 4096, tokOf (dfOf (kZ x f w) (kG g) (kX t)) i := by
  funext j
  have e : val_main_v29 (F := Ideal) x g f w t j = Ideal.ofBits .f32 0x3F000000#32
      * ∑ i : Fin 4096, Ideal.div (∑ k : Fin 1024, val_main_v21 (F := Ideal) x g f w t (ix2 i k) * val_main_v21 (F := Ideal) x g f w t (ix2 i k)) (Ideal.ofBits .f32 0x44800000#32) := by
    generalize hy : val_main_v21 (F := Ideal) x g f w t = y
    pointwise [val_main_v29, val_main_cst_7, val_main_v28, val_main_cst_6, val_main_v27, val_main_v26, val_main_cst_5, val_main_v25, val_main_cst_4, val_main_v22, hy]
  rw [e, ref_d, const_pos_half, mul_comm]
  exact (sum_mul_real _ (by norm_num)).symm

/-- The constant two. -/
theorem const_two : Ideal.ofBits .f32 0x40000000#32 = ((2 : ℝ) : EReal) := by
  simp [Ideal.ofBits, Ideal.ieee, -EReal.coe_mul]; norm_num

/-- The constant one. -/
theorem const_one : Ideal.ofBits .f32 0x3F800000#32 = ((1 : ℝ) : EReal) := by
  simp [Ideal.ofBits, Ideal.ieee, -EReal.coe_mul]; norm_num

/-- The reference's gradient of the normalised rows. -/
theorem ref_dy : val_main_v35 (F := Ideal) x g f w t = dyOf (kZ x f w) (kG g) (kX t) := by
  funext j
  have e : val_main_v35 (F := Ideal) x g f w t j = Ideal.div (Ideal.ofBits .f32 0x3F000000#32 * Ideal.ofBits .f32 0x3F800000#32) (Ideal.ofBits .f32 0x44800000#32)
      * (Ideal.ofBits .f32 0x40000000#32 * val_main_v21 (F := Ideal) x g f w t j) := by
    generalize hy : val_main_v21 (F := Ideal) x g f w t = y
    pointwise [val_main_v35, val_main_v34, val_main_v33, val_main_v32, val_main_cst_10, val_main_v31, val_main_v30, val_main_cst_9, val_main_cst_8, val_main_v24, val_main_v23, val_main_cst_3, hy]
  rw [e, ref_d]
  unfold dyOf
  rw [const_1024, const_pos_half, const_one, const_two, Ideal.div_coe (by norm_num), Ideal.div_coe (by norm_num), ← mul_assoc,
    ← EReal.coe_mul, ← EReal.coe_mul, ← EReal.coe_mul, mul_comm]
  congr 2
  norm_num

/-- The norm weight's gradient. -/
theorem eq_g : val_main_v41 (F := Ideal) x g f w t = kRow (ggOf (dyOf (kZ x f w) (kG g) (kX t)) (kZ x f w)) := by
  funext j
  have e : val_main_v41 (F := Ideal) x g f w t j
      = ∑ i : Fin 4096, val_main_v16 (F := Ideal) x f w (ix2 i (j 0)) * val_main_v35 (F := Ideal) x g f w t (ix2 i (j 0)) := by
    generalize hy : val_main_v16 (F := Ideal) x f w = y
    generalize hc : val_main_v35 (F := Ideal) x g f w t = y'
    pointwise [val_main_v41, val_main_cst_12, val_main_v38, val_main_v37, val_main_cst_11, val_main_v36, hy, hc]
    simp only [Fin.sum_univ_one]
  have e' : kRow (ggOf (dyOf (kZ x f w) (kG g) (kX t)) (kZ x f w)) j = ggOf (dyOf (kZ x f w) (kG g) (kX t)) (kZ x f w) (ix2 0 (j 0)) := by
    generalize ggOf (dyOf (kZ x f w) (kG g) (kX t)) (kZ x f w) = y
    pointwise [kRow]
  rw [e, e', ref_dy]
  refine Finset.sum_congr rfl fun i _ => ?_
  rw [ref_n]
  exact mul_comm _ _

/-- The rows' gradient, row by row. -/
theorem eq_rows (j : S4096x1024.Idx) : val_main_v55 (F := Ideal) x g f w t j
    = dxOf (dyOf (kZ x f w) (kG g) (kX t)) (kZ x f w) (kG g) j := by
  obtain ⟨p, q, rfl⟩ : ∃ (p : Fin 4096) (q : Fin 1024), j = ix2 p q :=
    ⟨j 0, j 1, by funext a; match a with | ⟨0, _⟩ => rfl | ⟨1, _⟩ => rfl⟩
  have e : val_main_v55 (F := Ideal) x g f w t (ix2 p q)
      = val_main_v35 (F := Ideal) x g f w t (ix2 p q) * g (ix1 q) * val_main_v11 (F := Ideal) x f w (ix2 p 0)
        + val_main_v3 (F := Ideal) x f w (ix2 p q) * Ideal.div ((∑ k : Fin 1024, val_main_v3 (F := Ideal) x f w (ix2 p k) * (val_main_v35 (F := Ideal) x g f w t (ix2 p k) * g (ix1 k)))
            * (Ideal.ofBits .f32 0xBF000000#32 * Ideal.div (val_main_v11 (F := Ideal) x f w (ix2 p 0)) (val_main_v10 (F := Ideal) x f w (ix2 p 0)))) (Ideal.ofBits .f32 0x44800000#32)
        + Ideal.div ((∑ k : Fin 1024, val_main_v3 (F := Ideal) x f w (ix2 p k) * (val_main_v35 (F := Ideal) x g f w t (ix2 p k) * g (ix1 k)))
            * (Ideal.ofBits .f32 0xBF000000#32 * Ideal.div (val_main_v11 (F := Ideal) x f w (ix2 p 0)) (val_main_v10 (F := Ideal) x f w (ix2 p 0)))) (Ideal.ofBits .f32 0x44800000#32)
          * val_main_v3 (F := Ideal) x f w (ix2 p q) := by
    generalize h3 : val_main_v3 (F := Ideal) x f w = y3
    generalize h10 : val_main_v10 (F := Ideal) x f w = y10
    generalize h11 : val_main_v11 (F := Ideal) x f w = y11
    generalize h35 : val_main_v35 (F := Ideal) x g f w t = y35
    pointwise [val_main_v55, val_main_v54, val_main_v53, val_main_v52, val_main_v51, val_main_v50, val_main_cst_15, val_main_v49,
      val_main_v48, val_main_cst_14, val_main_v47, val_main_v46, val_main_v45, val_main_v44, val_main_v43, val_main_cst_13, val_main_v42,
      val_main_v40, val_main_v39, val_main_v17, val_main_v14, val_main_v13, val_main_cst_2, val_main_v12, h3, h10, h11, h35]
    simp only [Fin.sum_univ_one]
  refine e.trans ?_
  rw [ref_dy, ref_x]
  generalize dyOf (kZ x f w) (kG g) (kX t) = dy
  rw [show val_main_v11 (F := Ideal) x f w (ix2 p 0) = Ideal.rsqrt (ms (kZ x f w) p) from ref_r x f w p,
    show val_main_v10 (F := Ideal) x f w (ix2 p 0) = ms (kZ x f w) p from ref_ms x f w p]
  have key := norm_grad (fun k : Fin 1024 => kZ x f w (ix2 p k)) (fun k => dy (ix2 p k) * g (ix1 k)) (ms (kZ x f w) p) 0 q rfl
  simp only [zero_add] at key
  exact key.symm

/-- The rows' gradient. -/
theorem eq_x : val_main_v56 (F := Ideal) x g f w t = kUn (dxOf (dyOf (kZ x f w) (kG g) (kX t)) (kZ x f w) (kG g)) :=
  congrArg kUn (a₁ := val_main_v55 (F := Ideal) x g f w t) (funext (eq_rows x g f w t))

end Cert.Kernel3Ideal.Loss

end
-- ==== Proof.MixIdealFrame1.lean ====
/- The frame of the idealized kernel of the gradient of the gated merge, first half: the calls of the output weight gradient and of the merge. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_mm_g_out` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4096x256 := Rect.unit (s := S4096x256) ![0, 0] S4096x256.size inb_S4096x256_S4096x256_0_0
abbrev r0_1 : Rect S4096x1024 := Rect.unit (s := S4096x1024) ![0, 0] S4096x1024.size inb_S4096x1024_S4096x1024_0_0
abbrev r0_2 : Rect S256x1024 := Rect.unit (s := S256x1024) ![0, 0] S256x1024.size inb_S256x1024_S256x1024_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S4096x256 .bf16) (x1 : Vec F S4096x1024 .bf16) : Vec F S256x1024 .bf16 :=
  View.canon [⟨r0_2, k0_pay1 (View.ld x0 r0_0) (View.ld x1 r0_1)⟩]

/-- Its stores tile the buffer (checked by evaluation), so they cover it. -/
theorem cover0_2 (p0 : Vec F S256x1024 .bf16) (y : S256x1024.Idx) :
    ∃ pc ∈ ([⟨r0_2, p0⟩] : List (View.Piece (Elt F) S256x1024 .bf16)), y ∈ pc.1.set :=
  View.cover_of_tiled [⟨r0_2, p0⟩] S256x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S4096x256 .bf16) (harg2 : arg2.IsWhole) (arg3 : Memref sig .tc .vmem S4096x1024 .bf16) (harg3 : arg3.IsWhole) (arg4 : Memref sig .tc .vmem S256x1024 .bf16) (harg4 : arg4.IsWhole)
    (x0 : Vec F S4096x256 .bf16) (x1 : Vec F S4096x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0_mm_g_out i arg2 harg2 arg3 harg3 arg4 harg4) K := by
  simp only [cc0_mm_g_out_eq_skeleton]; unfold cc0_mm_g_out_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_mix_bwd` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 9, through which its contents are stated (`View.read_writes_of_cover`: the
    choice does not matter). -/
abbrev VO1_9 : View sig .tc .vmem S256x1024 .bf16 := (Memref.whole cc1_stg9_0 : Memref sig .tc .vmem S256x1024 .bf16).view
/-- One staging buffer of output window 10, through which its contents are stated (`View.read_writes_of_cover`: the
    choice does not matter). -/
abbrev VO1_10 : View sig .tc .vmem S256x2048 .bf16 := (Memref.whole cc1_stg10_0 : Memref sig .tc .vmem S256x2048 .bf16).view
/-- One staging buffer of output window 11, through which its contents are stated (`View.read_writes_of_cover`: the
    choice does not matter). -/
abbrev VO1_11 : View sig .tc .vmem S256x2048 .bf16 := (Memref.whole cc1_stg11_0 : Memref sig .tc .vmem S256x2048 .bf16).view
/-- One staging buffer of output window 12, through which its contents are stated (`View.read_writes_of_cover`: the
    choice does not matter). -/
abbrev VO1_12 : View sig .tc .vmem S256x256 .f32 := (Memref.whole cc1_stg12_0 : Memref sig .tc .vmem S256x256 .f32).view
/-- One staging buffer of output window 13, through which its contents are stated (`View.read_writes_of_cover`: the
    choice does not matter). -/
abbrev VO1_13 : View sig .tc .vmem S256x512 .f32 := (Memref.whole cc1_stg13_0 : Memref sig .tc .vmem S256x512 .f32).view
/-- One staging buffer of output window 14, through which its contents are stated (`View.read_writes_of_cover`: the
    choice does not matter). -/
abbrev VO1_14 : View sig .tc .vmem S256x256 .f32 := (Memref.whole cc1_stg14_0 : Memref sig .tc .vmem S256x256 .f32).view
/-- One staging buffer of output window 15, through which its contents are stated (`View.read_writes_of_cover`: the
    choice does not matter). -/
abbrev VO1_15 : View sig .tc .vmem S64x1024 .f32 := (Memref.whole cc1_stg15_0 : Memref sig .tc .vmem S64x1024 .f32).view
/-- One staging buffer of output window 16, through which its contents are stated (`View.read_writes_of_cover`: the
    choice does not matter). -/
abbrev VO1_16 : View sig .tc .vmem S64x1024 .f32 := (Memref.whole cc1_stg16_0 : Memref sig .tc .vmem S64x1024 .f32).view
/-- One staging buffer of output window 17, through which its contents are stated (`View.read_writes_of_cover`: the
    choice does not matter). -/
abbrev VO1_17 : View sig .tc .vmem S64x1024 .f32 := (Memref.whole cc1_stg17_0 : Memref sig .tc .vmem S64x1024 .f32).view
/-- One staging buffer of output window 18, through which its contents are stated (`View.read_writes_of_cover`: the
    choice does not matter). -/
abbrev VO1_18 : View sig .tc .vmem S16x4096 .f32 := (Memref.whole cc1_stg18_0 : Memref sig .tc .vmem S16x4096 .f32).view
/-- One staging buffer of output window 19, through which its contents are stated (`View.read_writes_of_cover`: the
    choice does not matter). -/
abbrev VO1_19 : View sig .tc .vmem S16x4096 .f32 := (Memref.whole cc1_stg19_0 : Memref sig .tc .vmem S16x4096 .f32).view
/-- One staging buffer of output window 20, through which its contents are stated (`View.read_writes_of_cover`: the
    choice does not matter). -/
abbrev VO1_20 : View sig .tc .vmem S16x4096 .f32 := (Memref.whole cc1_stg20_0 : Memref sig .tc .vmem S16x4096 .f32).view
/-- Each window's current staging memref at point `t`, spelled as the pipeline passes it (`bodyAt1`), and its wholeness. -/
abbrev ms1_0 (t : Fin cfg1.N) : Memref sig .tc .vmem S256x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x1024 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x2048 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S256x2048 .bf16 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S256x256 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S256x512 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S256x256 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S64x1024 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S64x1024 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S64x1024 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S16x4096 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S16x4096 .f32 := win1_19.stage (cfg1.slots t 19)
abbrev hs1_19 (t : Fin cfg1.N) : (ms1_19 t).IsWhole := hstage1_19 ((cfg1.slots t 19).cast nbuf1_19)
abbrev ms1_20 (t : Fin cfg1.N) : Memref sig .tc .vmem S16x4096 .f32 := win1_20.stage (cfg1.slots t 20)
abbrev hs1_20 (t : Fin cfg1.N) : (ms1_20 t).IsWhole := hstage1_20 ((cfg1.slots t 20).cast nbuf1_20)
/-- The scratch operands: whole scoped buffers of the kernel's own, passed beside the windows. -/
abbrev scM1_0 : Memref sig .tc .vmem S6x256x128 .f32 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f)) ∗ (∃ r, prngReg c r)) := by
  unfold Pipeline.ΦA; rw [scopedRest1_eq]; simp only [scM1_0, owns_whole]; try rfl

set_option maxHeartbeats 2356000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) :
    Σ' (L9 : List (View.Piece (Elt F) S256x1024 .bf16)), Σ' (L10 : List (View.Piece (Elt F) S256x2048 .bf16)), Σ' (L11 : List (View.Piece (Elt F) S256x2048 .bf16)), Σ' (L12 : List (View.Piece (Elt F) S256x256 .f32)), Σ' (L13 : List (View.Piece (Elt F) S256x512 .f32)), Σ' (L14 : List (View.Piece (Elt F) S256x256 .f32)), Σ' (L15 : List (View.Piece (Elt F) S64x1024 .f32)), Σ' (L16 : List (View.Piece (Elt F) S64x1024 .f32)), Σ' (L17 : List (View.Piece (Elt F) S64x1024 .f32)), Σ' (L18 : List (View.Piece (Elt F) S16x4096 .f32)), Σ' (L19 : List (View.Piece (Elt F) S16x4096 .f32)), Σ' (L20 : List (View.Piece (Elt F) S16x4096 .f32)), { LT0 : List (View.Piece (Elt F) S6x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f LT0)) -∗ K ⟨⟩))
          ⊢ wp frame (wpE (defs₀ (F := F)) Variants.none c none) E (cc1_mix_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, ?_, ?_, fun E K => ?run⟩
  case run =>
    simp only [cc1_mix_bwd_eq_skeleton]; unfold cc1_mix_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact HS0

/-- The run's pieces for output 9 tile its block (1 store of `S256x1024`, checked by the kernel's evaluation: Lib/Ring.lean `Piece.tiledL`, linear in the pieces, through a loop's `@[irreducible]` trip theorem too), so they cover it. -/
theorem cover1_A_9 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S256x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).1 S256x1024.size (by sl_kernel_rfl) y

/-- What the run leaves in output 9's staging buffer: its pieces read back over junk. -/
def out1_A_9 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S256x1024 .bf16 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).1)

/-- The run's pieces for output 10 tile its block (2 stores of `S256x1024`, checked by the kernel's evaluation: Lib/Ring.lean `Piece.tiledL`, linear in the pieces, through a loop's `@[irreducible]` trip theorem too), so they cover it. -/
theorem cover1_A_10 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S256x2048.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.1 S256x1024.size (by sl_kernel_rfl) y

/-- What the run leaves in output 10's staging buffer: its pieces read back over junk. -/
def out1_A_10 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S256x2048 .bf16 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.1)

/-- The run's pieces for output 11 tile its block (2 stores of `S256x1024`, checked by the kernel's evaluation: Lib/Ring.lean `Piece.tiledL`, linear in the pieces, through a loop's `@[irreducible]` trip theorem too), so they cover it. -/
theorem cover1_A_11 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S256x2048.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.1 S256x1024.size (by sl_kernel_rfl) y

/-- What the run leaves in output 11's staging buffer: its pieces read back over junk. -/
def out1_A_11 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S256x2048 .bf16 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.1)

/-- The run's pieces for output 12 tile its block (1 store of `S256x256`, checked by the kernel's evaluation: Lib/Ring.lean `Piece.tiledL`, linear in the pieces, through a loop's `@[irreducible]` trip theorem too), so they cover it. -/
theorem cover1_A_12 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S256x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.1 S256x256.size (by sl_kernel_rfl) y

/-- What the run leaves in output 12's staging buffer: its pieces read back over junk. -/
def out1_A_12 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S256x256 .f32 :=
  VO1_12.read (Elt F) (VO1_12.writes (Elt F) VO1_12.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.1)

/-- The run's pieces for output 13 tile its block (1 store of `S256x512`, checked by the kernel's evaluation: Lib/Ring.lean `Piece.tiledL`, linear in the pieces, through a loop's `@[irreducible]` trip theorem too), so they cover it. -/
theorem cover1_A_13 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S256x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.1 S256x512.size (by sl_kernel_rfl) y

/-- What the run leaves in output 13's staging buffer: its pieces read back over junk. -/
def out1_A_13 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S256x512 .f32 :=
  VO1_13.read (Elt F) (VO1_13.writes (Elt F) VO1_13.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.1)

/-- The run's pieces for output 14 tile its block (1 store of `S256x256`, checked by the kernel's evaluation: Lib/Ring.lean `Piece.tiledL`, linear in the pieces, through a loop's `@[irreducible]` trip theorem too), so they cover it. -/
theorem cover1_A_14 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S256x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.1 S256x256.size (by sl_kernel_rfl) y

/-- What the run leaves in output 14's staging buffer: its pieces read back over junk. -/
def out1_A_14 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S256x256 .f32 :=
  VO1_14.read (Elt F) (VO1_14.writes (Elt F) VO1_14.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.1)

/-- The run's pieces for output 15 tile its block (8 stores of `S64x128`, checked by the kernel's evaluation: Lib/Ring.lean `Piece.tiledL`, linear in the pieces, through a loop's `@[irreducible]` trip theorem too), so they cover it. -/
theorem cover1_A_15 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S64x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.1 S64x128.size (by sl_kernel_rfl) y

/-- What the run leaves in output 15's staging buffer: its pieces read back over junk. -/
def out1_A_15 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S64x1024 .f32 :=
  VO1_15.read (Elt F) (VO1_15.writes (Elt F) VO1_15.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.1)

/-- The run's pieces for output 16 tile its block (8 stores of `S64x128`, checked by the kernel's evaluation: Lib/Ring.lean `Piece.tiledL`, linear in the pieces, through a loop's `@[irreducible]` trip theorem too), so they cover it. -/
theorem cover1_A_16 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S64x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.1 S64x128.size (by sl_kernel_rfl) y

/-- What the run leaves in output 16's staging buffer: its pieces read back over junk. -/
def out1_A_16 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S64x1024 .f32 :=
  VO1_16.read (Elt F) (VO1_16.writes (Elt F) VO1_16.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.1)

/-- The run's pieces for output 17 tile its block (8 stores of `S64x128`, checked by the kernel's evaluation: Lib/Ring.lean `Piece.tiledL`, linear in the pieces, through a loop's `@[irreducible]` trip theorem too), so they cover it. -/
theorem cover1_A_17 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S64x1024.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.1 S64x128.size (by sl_kernel_rfl) y

/-- What the run leaves in output 17's staging buffer: its pieces read back over junk. -/
def out1_A_17 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S64x1024 .f32 :=
  VO1_17.read (Elt F) (VO1_17.writes (Elt F) VO1_17.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.1)

/-- The run's pieces for output 18 tile its block (32 stores of `S16x128`, checked by the kernel's evaluation: Lib/Ring.lean `Piece.tiledL`, linear in the pieces, through a loop's `@[irreducible]` trip theorem too), so they cover it. -/
theorem cover1_A_18 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S16x4096.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.1 S16x128.size (by sl_kernel_rfl) y

/-- What the run leaves in output 18's staging buffer: its pieces read back over junk. -/
def out1_A_18 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S16x4096 .f32 :=
  VO1_18.read (Elt F) (VO1_18.writes (Elt F) VO1_18.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.1)

/-- The run's pieces for output 19 tile its block (32 stores of `S16x128`, checked by the kernel's evaluation: Lib/Ring.lean `Piece.tiledL`, linear in the pieces, through a loop's `@[irreducible]` trip theorem too), so they cover it. -/
theorem cover1_A_19 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S16x4096.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.1 S16x128.size (by sl_kernel_rfl) y

/-- What the run leaves in output 19's staging buffer: its pieces read back over junk. -/
def out1_A_19 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S16x4096 .f32 :=
  VO1_19.read (Elt F) (VO1_19.writes (Elt F) VO1_19.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.1)

/-- The run's pieces for output 20 tile its block (32 stores of `S16x128`, checked by the kernel's evaluation: Lib/Ring.lean `Piece.tiledL`, linear in the pieces, through a loop's `@[irreducible]` trip theorem too), so they cover it. -/
theorem cover1_A_20 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) (y : S16x4096.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.2.1 S16x128.size (by sl_kernel_rfl) y

/-- What the run leaves in output 20's staging buffer: its pieces read back over junk. -/
def out1_A_20 (c : Dev nD) (i : grid1.Coords) (arg2 : Memref sig .tc .vmem S256x1024 .bf16) (harg2 : arg2.IsWhole) (arg3 : Memref sig .tc .vmem S256x256 .f32) (harg3 : arg3.IsWhole) (arg4 : Memref sig .tc .vmem S256x256 .f32) (harg4 : arg4.IsWhole) (arg5 : Memref sig .tc .vmem S256x512 .f32) (harg5 : arg5.IsWhole) (arg6 : Memref sig .tc .vmem S256x2048 .f32) (harg6 : arg6.IsWhole) (arg7 : Memref sig .tc .vmem S1024x256 .bf16) (harg7 : arg7.IsWhole) (arg8 : Memref sig .tc .vmem S2048x512 .bf16) (harg8 : arg8.IsWhole) (arg9 : Memref sig .tc .vmem S1024x1024 .bf16) (harg9 : arg9.IsWhole) (arg10 : Memref sig .tc .vmem S256x256 .f32) (harg10 : arg10.IsWhole) (arg11 : Memref sig .tc .vmem S256x1024 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x256 .f32) (harg14 : arg14.IsWhole) (arg15 : Memref sig .tc .vmem S256x512 .f32) (harg15 : arg15.IsWhole) (arg16 : Memref sig .tc .vmem S256x256 .f32) (harg16 : arg16.IsWhole) (arg17 : Memref sig .tc .vmem S64x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S16x4096 .f32) (harg20 : arg20.IsWhole) (arg21 : Memref sig .tc .vmem S16x4096 .f32) (harg21 : arg21.IsWhole) (arg22 : Memref sig .tc .vmem S16x4096 .f32) (harg22 : arg22.IsWhole) (arg23 : Memref sig .tc .vmem S6x256x128 .f32) (harg23 : arg23.IsWhole)
    (x0 : Vec F S256x1024 .bf16) (x1 : Vec F S256x256 .f32) (x2 : Vec F S256x256 .f32) (x3 : Vec F S256x512 .f32) (x4 : Vec F S256x2048 .f32) (x5 : Vec F S1024x256 .bf16) (x6 : Vec F S2048x512 .bf16) (x7 : Vec F S1024x1024 .bf16) (x8 : Vec F S256x256 .f32) : Vec F S16x4096 .f32 :=
  VO1_20.read (Elt F) (VO1_20.writes (Elt F) VO1_20.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8).2.2.2.2.2.2.2.2.2.2.2.1)

/-! ## What the outputs hold after each point -/

/-- What the outputs' staging buffers hold after the body at point `t` (as a tuple, in window order): the run's contents at
    the point's memrefs and input blocks. -/
def outsAt1 (c : Dev nD) (t : Fin cfg1.N) : Vec F S256x1024 .bf16 × Vec F S256x2048 .bf16 × Vec F S256x2048 .bf16 × Vec F S256x256 .f32 × Vec F S256x512 .f32 × Vec F S256x256 .f32 × Vec F S64x1024 .f32 × Vec F S64x1024 .f32 × Vec F S64x1024 .f32 × Vec F S16x4096 .f32 × Vec F S16x4096 .f32 × Vec F S16x4096 .f32 :=
  (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t), out1_A_13 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t), out1_A_14 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t), out1_A_15 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t), out1_A_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t), out1_A_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t), out1_A_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t), out1_A_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t), out1_A_20 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (iblk1 V c 8 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t).1
    | ⟨10, _⟩ => (outsAt1 V c t).2.1
    | ⟨11, _⟩ => (outsAt1 V c t).2.2.1
    | ⟨12, _⟩ => (outsAt1 V c t).2.2.2.1
    | ⟨13, _⟩ => (outsAt1 V c t).2.2.2.2.1
    | ⟨14, _⟩ => (outsAt1 V c t).2.2.2.2.2.1
    | ⟨15, _⟩ => (outsAt1 V c t).2.2.2.2.2.2.1
    | ⟨16, _⟩ => (outsAt1 V c t).2.2.2.2.2.2.2.1
    | ⟨17, _⟩ => (outsAt1 V c t).2.2.2.2.2.2.2.2.1
    | ⟨18, _⟩ => (outsAt1 V c t).2.2.2.2.2.2.2.2.2.1
    | ⟨19, _⟩ => (outsAt1 V c t).2.2.2.2.2.2.2.2.2.2.1
    | ⟨20, _⟩ => (outsAt1 V c t).2.2.2.2.2.2.2.2.2.2.2
    | ⟨_ + 21, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t).1 := by dsimp only [dat1]
theorem after1_10 (c : Dev nD) (t : Fin cfg1.N) : (dat1 V c).after 10 t = (outsAt1 V c t).2.1 := by dsimp only [dat1]
theorem after1_11 (c : Dev nD) (t : Fin cfg1.N) : (dat1 V c).after 11 t = (outsAt1 V c t).2.2.1 := by dsimp only [dat1]
theorem after1_12 (c : Dev nD) (t : Fin cfg1.N) : (dat1 V c).after 12 t = (outsAt1 V c t).2.2.2.1 := by dsimp only [dat1]
theorem after1_13 (c : Dev nD) (t : Fin cfg1.N) : (dat1 V c).after 13 t = (outsAt1 V c t).2.2.2.2.1 := by dsimp only [dat1]
theorem after1_14 (c : Dev nD) (t : Fin cfg1.N) : (dat1 V c).after 14 t = (outsAt1 V c t).2.2.2.2.2.1 := by dsimp only [dat1]
theorem after1_15 (c : Dev nD) (t : Fin cfg1.N) : (dat1 V c).after 15 t = (outsAt1 V c t).2.2.2.2.2.2.1 := by dsimp only [dat1]
theorem after1_16 (c : Dev nD) (t : Fin cfg1.N) : (dat1 V c).after 16 t = (outsAt1 V c t).2.2.2.2.2.2.2.1 := by dsimp only [dat1]
theorem after1_17 (c : Dev nD) (t : Fin cfg1.N) : (dat1 V c).after 17 t = (outsAt1 V c t).2.2.2.2.2.2.2.2.1 := by dsimp only [dat1]
theorem after1_18 (c : Dev nD) (t : Fin cfg1.N) : (dat1 V c).after 18 t = (outsAt1 V c t).2.2.2.2.2.2.2.2.2.1 := by dsimp only [dat1]
theorem after1_19 (c : Dev nD) (t : Fin cfg1.N) : (dat1 V c).after 19 t = (outsAt1 V c t).2.2.2.2.2.2.2.2.2.2.1 := by dsimp only [dat1]
theorem after1_20 (c : Dev nD) (t : Fin cfg1.N) : (dat1 V c).after 20 t = (outsAt1 V c t).2.2.2.2.2.2.2.2.2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t)
    ∗ owns (c : Thread nD τ) (ms1_20 t) fullShare ((dat1 V c).after 20 t))

set_option maxHeartbeats 2000000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20]
  rw [show (dat1 V c).Φ t.castSucc = Pipeline.ΦA spec1 c from rfl, PhiA1_eq]
  unfold outsAt1
  unfold out1_A_9 out1_A_10 out1_A_11 out1_A_12 out1_A_13 out1_A_14 out1_A_15 out1_A_16 out1_A_17 out1_A_18 out1_A_19 out1_A_20; (try dsimp only)
  iintro ⟨⟨⟨HR0, HR1, HR2, HR3, HR4, HS0, HR6, HR7, HR8, HR9, HR10, HR11, HR12, HR13, HR14, HR15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun1_A c (grid1.coords t) _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t)).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%fT0, HS0⟩⟩
  isplitl [HR0 HR1 HR2 HR3 HR4 HS0 HR6 HR7 HR8 HR9 HR10 HR11 HR12 HR13 HR14 HR15 Hg]
  · isplitl [HR0 HR1 HR2 HR3 HR4 HS0 HR6 HR7 HR8 HR9 HR10 HR11 HR12 HR13 HR14 HR15]
    · isplitl [HR0]
      · iexact HR0
      isplitl [HR1]
      · iexact HR1
      isplitl [HR2]
      · iexact HR2
      isplitl [HR3]
      · iexact HR3
      isplitl [HR4]
      · iexact HR4
      isplitl [HS0]
      · iexists _; unfold owns; iexists _; isplitr
        swap; · iexact HS0
        ipureintro; rfl
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      iexact HR15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover1_A_9 c _ _ _ _ _ _ _ _ _ _ _ _ _ _ _ _ _ _ _ _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover1_A_10 c _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover1_A_11 c _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover1_A_12 c _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover1_A_13 c _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover1_A_14 c _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover1_A_15 c _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover1_A_16 c _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover1_A_17 c _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover1_A_18 c _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover1_A_19 c _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover1_A_20 c _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 8000000 in
/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel4Ideal.Gen

end
-- ==== Proof.MixIdealFrame2.lean ====
/- The frame of the idealized kernel of the gradient of the gated merge, second half: the call of the branch weight gradients, and the whole run. -/
module

public import proofs.«01_k».proof.Proof.MixIdealFrame1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_mm_g_branches` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S4096x512 := Rect.unit (s := S4096x512) ![0, 0] S4096x512.size inb_S4096x512_S4096x512_0_0
abbrev r2_1 : Rect S512x512 := Rect.unit (s := S512x512) ![0, 0] S512x512.size inb_S512x512_S512x512_0_0
abbrev r2_2 : Rect S4096x256 := Rect.unit (s := S4096x256) ![0, 0] S4096x256.size inb_S4096x256_S4096x256_0_0
abbrev r2_3 : Rect S256x256 := Rect.unit (s := S256x256) ![0, 0] S256x256.size inb_S256x256_S256x256_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S4096x512 .bf16) (x1 : Vec F S4096x512 .f32) (x2 : Vec F S4096x256 .bf16) (x3 : Vec F S4096x256 .f32) : Vec F S512x512 .bf16 :=
  View.canon [⟨r2_1, k2_pay1 (View.ld x0 r2_0) (View.ld x1 r2_0)⟩]

/-- Its stores tile the buffer (checked by evaluation), so they cover it. -/
theorem cover2_4 (p0 : Vec F S512x512 .bf16) (y : S512x512.Idx) :
    ∃ pc ∈ ([⟨r2_1, p0⟩] : List (View.Piece (Elt F) S512x512 .bf16)), y ∈ pc.1.set :=
  View.cover_of_tiled [⟨r2_1, p0⟩] S512x512.size (by rfl) y

/-- Window 5's staging buffer after the body, from the input windows' blocks: its 1 store as pieces, LAST
    FIRST (Lib/Pipeline/FrameBody.lean `View.canon`; the payloads are the skeleton's). -/
def out2_5 (x0 : Vec F S4096x512 .bf16) (x1 : Vec F S4096x512 .f32) (x2 : Vec F S4096x256 .bf16) (x3 : Vec F S4096x256 .f32) : Vec F S256x256 .bf16 :=
  View.canon [⟨r2_3, k2_pay2 (View.ld x2 r2_2) (View.ld x3 r2_2)⟩]

/-- Its stores tile the buffer (checked by evaluation), so they cover it. -/
theorem cover2_5 (p0 : Vec F S256x256 .bf16) (y : S256x256.Idx) :
    ∃ pc ∈ ([⟨r2_3, p0⟩] : List (View.Piece (Elt F) S256x256 .bf16)), y ∈ pc.1.set :=
  View.cover_of_tiled [⟨r2_3, p0⟩] S256x256.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S4096x512 .bf16) (harg2 : arg2.IsWhole) (arg3 : Memref sig .tc .vmem S4096x512 .f32) (harg3 : arg3.IsWhole) (arg4 : Memref sig .tc .vmem S4096x256 .bf16) (harg4 : arg4.IsWhole) (arg5 : Memref sig .tc .vmem S4096x256 .f32) (harg5 : arg5.IsWhole) (arg6 : Memref sig .tc .vmem S512x512 .bf16) (harg6 : arg6.IsWhole) (arg7 : Memref sig .tc .vmem S256x256 .bf16) (harg7 : arg7.IsWhole)
    (x0 : Vec F S4096x512 .bf16) (x1 : Vec F S4096x512 .f32) (x2 : Vec F S4096x256 .bf16) (x3 : Vec F S4096x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3) ∗ owns (c : Thread nD τ) arg7 fullShare (out2_5 x0 x1 x2 x3)) -∗ K ⟨⟩))
      ⊢ wp frame (wpE (defs₀ (F := F)) Variants.none c none) E (cc2_mm_g_branches i arg2 harg2 arg3 harg3 arg4 harg4 arg5 harg5 arg6 harg6 arg7 harg7) K := by
  simp only [cc2_mm_g_branches_eq_skeleton]; unfold cc2_mm_g_branches_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_v4, main_cst_0, main_v5, main_v6, main_v7, main_v8, main_v9, main_v10, main_v11, main_v12, main_v13, main_v14, main_v15, main_cst_1, main_v16, main_v17, main_cst_2, main_v18, main_v19, main_v20, main_v21, main_v22, main_v23, main_v24, main_v25, main_v26, main_v27, main_v28, main_v29, main_v30, main_v31, main_cst_3, main_v32, main_v33, main_cst_4, main_v34, main_v35, main_v36, main_v37, main_v38, main_v39, main_v40, main_v41, main_v42, main_v43, main_v44]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_cst_5, main_v46, main_v47, main_c]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v48]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_v49, main_v50, main_v51, main_v52, main_v53, main_v54]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v57, main_v58, main_v59, main_v60, main_v61, main_v62, main_v63, main_v64, main_v65]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2` (region 1's entry). -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered (Lib/Pipeline/FrameSuffix.lean `withArrays`) (region 2's entry). -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
/-- A reference that is none of region 2's OUTPUT arrays keeps its entry contents across it: an input window's
    array is never written back (`Dat.arrAt_in`, `A_eq2`); any other buffer is left as is. -/
theorem W7_of (c : Dev nD) (r : Ref sig .tc) (h : ∀ w : Fin cfg2.W, Pipeline.arrRef spec2 w = r → (cfg2.win w).isOut = false) :
    W7 m ρ c (Proc.devRef .tc r) = W6 m ρ c (Proc.devRef .tc r) := by
  by_cases hw : ∃ w : Fin cfg2.W, Pipeline.arrRef spec2 w = r
  · obtain ⟨w, rfl⟩ := hw
    exact (W7_arr m ρ c w).trans (((dat2 (V6 m ρ) c).arrAt_in w (h w rfl) _).trans (A_eq2 (V6 m ρ) c w))
  · exact W7_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn2 a ha)).trans (W6_args m ρ c a ha)
/-- The same read at the TensorCore's references (region 2's exit contents). -/
abbrev V7 : (c : Dev nD) → (b : Ref sig .tc) → Buf (Elt F) ((c : Thread nD τ).loc b) := fun c b => W7 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After `hostOps3`. -/
abbrev W8 : Dev nD → Valuation τ sig (Elt F) := fun c => StableHlo.after hostOps3 (W7 m ρ c)
/-- A reference `hostOps3` does not write keeps its contents across it. -/
theorem W8_of (c : Dev nD) (r : Ref sig .tc) (h : r ∉ hostOps3_W) : W8 m ρ c (Proc.devRef .tc r) = W7 m ρ c (Proc.devRef .tc r) :=
  StableHlo.after_of_writes_sub hostOps3 _ hostOps3_writes h
theorem W8_args (c : Dev nD) : ∀ a ∈ argRefs, W8 m ρ c (Proc.devRef .tc a) = m ((c : Thread nD τ).loc a) :=
  fun a ha => (W8_of m ρ c a (hostOps3_args a ha)).trans (W7_args m ρ c a ha)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) (A_eq2 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .region (reg2 m ρ),
    .host (hseg hostOps3 hostOps3_sub hostOps3_fresh (W7 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel4Ideal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W8_<arg>`;
    the kit shows every counter at zero except the TensorCores' unscoped ones, of which there are none. Proof.lean cites it at `Bits`:
    `theorem Cert.Proof.claim : Cert.Claim := ⟨Cert.Kernel4Ideal.Gen.facts, fun m ρ _ => Cert.Kernel4Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨(h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h => h.1) (frame m ρ)

end Cert.Kernel4Ideal.Gen

end
-- ==== Proof.MergeRun.lean ====
/- The run of the whole program, at the contents its last boundary states. -/
module

public import proofs.«01_k».proof.Proof.MixIdealFrame2
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel4Ideal.Merge

open Cert.Kernel4Ideal Cert.Kernel4Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs, and every buffer ends at the contents of its last boundary. -/
theorem run_all : θ_run defs (onTc (τ := τ) (main (F := Ideal))) ⟨m, fun _ => 0, ρ⟩ (fun r => ∀ c : Dev nD,
      ∀ b ∈ Pipeline.ucRefs τ sig, r.2.mem ((c : Thread nD τ).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.Kernel4Ideal.Merge

end
-- ==== Proof.MergeCalls.lean ====
/- What the call of the output weight gradient and the call of the merge's gradient leave. -/
module

public import proofs.«01_k».proof.Proof.MixIdealFrame1
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen

variable (V : (c : Dev nD) → (b : Ref sig .tc) → Buf (Elt Ideal) ((c : Thread nD τ).loc b))

/-- The first call's windows over its grid: blocks of 256 columns. -/
theorem idx0 : ∀ t : Fin cfg0.N, win0_0.index t = ![0, t.val] ∧ win0_1.index t = ![0, 0] ∧ win0_2.index t = ![t.val, 0] :=
  (by decide +kernel : ∀ t : Fin grid0.N, _)

/-- The second call's windows over its grid: blocks of 256 rows, and the matrices whole. -/
theorem idx1 : ∀ t : Fin cfg1.N, win1_0.index t = ![t.val, 0] ∧ win1_1.index t = ![t.val, 0] ∧ win1_3.index t = ![t.val, 0]
    ∧ win1_4.index t = ![t.val, 0] ∧ win1_5.index t = ![0, 0] ∧ win1_6.index t = ![0, 0] ∧ win1_7.index t = ![0, 0]
    ∧ win1_9.index t = ![t.val, 0] ∧ win1_10.index t = ![t.val, 0] ∧ win1_11.index t = ![t.val, 0]
    ∧ win1_12.index t = ![t.val, 0] ∧ win1_13.index t = ![t.val, 0] :=
  (by decide +kernel : ∀ t : Fin grid1.N, _)

/-- The gradient of the output weight: `mergedᵀ · ct`. -/
def outW (a : FVec Ideal S4096x1024 .bf16) (d : FVec Ideal S4096x1024 .bf16) : FVec Ideal S1024x1024 .bf16 :=
  fun j => ∑ k : Fin 4096, a (ix2 k (j 0)) * d (ix2 k (j 1))

/-- The block stored at a point of the first call is the array's block. -/
theorem point0 (c : Dev nD) (t : Fin cfg0.N) (y) :
    k0_pay1 (iblk0 V c 0 t) (iblk0 V c 1 t) y = outW (V c main_v28) (V c main_v37) (((cfg0.win 2).blk t).view.emb y) := by
  pointwise [k0_pay1, outW]
  blk_point [iblk0, idx0 t]

/-- The array after the first call. -/
theorem final0 (c : Dev nD) : (dat0 V c).arrAt 2 cfg0.N = outW (V c main_v28) (V c main_v37) := by
  refine (dat0 V c).arrAt_eq_of_covers 2 _ (by decide +kernel) fun t _ y => ?_
  blk_simp
  rw [after0_2]; frame_out
  exact point0 V c t y

/-- A column in the left half. -/
def lo (n : Fin 1024) : Fin 2048 := ⟨n, lt_trans n.isLt (by decide)⟩

/-- A column in the right half. -/
def hi (n : Fin 1024) : Fin 2048 := ⟨1024 + n, Nat.add_lt_add_left n.isLt 1024⟩

/-- The logistic function, spelled as the kernel spells it. -/
def sg (a : EReal) : EReal := Ideal.div 1 (1 + Ideal.exp (0 - a))

/-- One entry of a row times a matrix given by its rows. -/
def prod {n k : ℕ} (a : Fin k → EReal) (w : Fin n → Fin k → EReal) (i : Fin n) : EReal := ∑ l : Fin k, a l * w i l

/-- A [256, n] or [4096, n] array's row. -/
def row {r n : ℕ} (a : (⟨2, ![r, n]⟩ : Shape).Idx → EReal) (i : Fin r) : Fin n → EReal := fun k => a (ix2 i k)

/-- The gradient of the attention branch's output at one entry, from the rows of the incoming gradient and of the gates. -/
def dad (d : Fin 1024 → EReal) (g : Fin 2048 → EReal) (wo : Fin 1024 → Fin 1024 → EReal) (n : Fin 1024) : EReal :=
  prod d wo n * g (lo n)

/-- The gradient of the left half of the gated branch's product at one entry. -/
def dza (d : Fin 1024 → EReal) (g : Fin 2048 → EReal) (y : Fin 512 → EReal) (wo : Fin 1024 → Fin 1024 → EReal)
    (wg : Fin 2048 → Fin 512 → EReal) (n : Fin 1024) : EReal :=
  prod d wo n * g (hi n) * sg (prod y wg (hi n))

/-- The gradient of the right half of the gated branch's product at one entry. -/
def dzb (d : Fin 1024 → EReal) (g : Fin 2048 → EReal) (y : Fin 512 → EReal) (wo : Fin 1024 → Fin 1024 → EReal)
    (wg : Fin 2048 → Fin 512 → EReal) (n : Fin 1024) : EReal :=
  prod d wo n * g (hi n) * prod y wg (lo n) * sg (prod y wg (hi n)) * (1 - sg (prod y wg (hi n)))

/-- The gradient of the first gate's argument at one entry. -/
def dpa (d : Fin 1024 → EReal) (g : Fin 2048 → EReal) (a : Fin 256 → EReal) (wo : Fin 1024 → Fin 1024 → EReal)
    (wa : Fin 1024 → Fin 256 → EReal) (n : Fin 1024) : EReal :=
  prod d wo n * prod a wa n * g (lo n) * (1 - g (lo n))

/-- The gradient of the second gate's argument at one entry. -/
def dpb (d : Fin 1024 → EReal) (g : Fin 2048 → EReal) (y : Fin 512 → EReal) (wo : Fin 1024 → Fin 1024 → EReal)
    (wg : Fin 2048 → Fin 512 → EReal) (n : Fin 1024) : EReal :=
  prod d wo n * (prod y wg (lo n) * sg (prod y wg (hi n))) * g (hi n) * (1 - g (hi n))

/-- Two functions side by side. -/
def side (f g : Fin 1024 → EReal) (n : Fin 2048) : EReal :=
  if h : (n : ℕ) < 1024 then f ⟨n, h⟩ else g ⟨n - 1024, by omega⟩

/-- Side by side, at a column of the left half. -/
theorem side_lo (f g : Fin 1024 → EReal) (n : Fin 2048) (k : Fin 1024) (h : (n : ℕ) = k) : side f g n = f k := by
  unfold side
  rw [dif_pos (h ▸ k.isLt)]
  exact congrArg f (Fin.ext h)

/-- Side by side, at a column of the right half. -/
theorem side_hi (f g : Fin 1024 → EReal) (n : Fin 2048) (k : Fin 1024) (h : (n : ℕ) = 1024 + k) : side f g n = g k := by
  unfold side
  rw [dif_neg (by omega)]
  exact congrArg g (Fin.ext (by simp only; omega))

/-- The stored block of the attention branch's gradient. -/
theorem tile1_9 (c : Dev nD) (t : Fin cfg1.N) (y : S256x1024.Idx) : (outsAt1 V c t).1 y
    = dad (row (iblk1 V c 0 t) (y 0)) (row (iblk1 V c 4 t) (y 0)) (row (iblk1 V c 7 t)) (y 1) := by
  unfold outsAt1; frame_out
  pointwise [k1_pay12, k1_pay11, k1_pay9, k1_pay4, dad, row, prod, lo]

/-- The stored block of the gradient of the gated branch's product. -/
theorem tile1_10 (c : Dev nD) (t : Fin cfg1.N) (y : S256x2048.Idx) : (outsAt1 V c t).2.1 y
    = side (dza (row (iblk1 V c 0 t) (y 0)) (row (iblk1 V c 4 t) (y 0)) (row (iblk1 V c 3 t) (y 0)) (row (iblk1 V c 7 t)) (row (iblk1 V c 6 t))) (dzb (row (iblk1 V c 0 t) (y 0)) (row (iblk1 V c 4 t) (y 0)) (row (iblk1 V c 3 t) (y 0)) (row (iblk1 V c 7 t)) (row (iblk1 V c 6 t))) (y 1) := by
  unfold outsAt1; frame_out
  canon_tiles x h using (View.cover_of_tiledBy _ ![256, 1024] (by sl_kernel_rfl) y)
  · rw [side_hi _ _ (y 1) (x 1) h1, show y 0 = x 0 from Fin.ext h0]
    pointwise [k1_pay17, k1_pay15, k1_pay13, k1_pay10, k1_pay8, k1_pay7, k1_pay6, k1_pay4, dzb, row, prod, lo, hi, sg]
  · rw [side_lo _ _ (y 1) (x 1) h1, show y 0 = x 0 from Fin.ext h0]
    pointwise [k1_pay16, k1_pay14, k1_pay13, k1_pay10, k1_pay8, k1_pay7, k1_pay6, k1_pay4, dza, row, prod, lo, hi, sg]

/-- The stored block of the gradient of the gates' arguments. -/
theorem tile1_11 (c : Dev nD) (t : Fin cfg1.N) (y : S256x2048.Idx) : (outsAt1 V c t).2.2.1 y
    = side (dpa (row (iblk1 V c 0 t) (y 0)) (row (iblk1 V c 4 t) (y 0)) (row (iblk1 V c 1 t) (y 0)) (row (iblk1 V c 7 t)) (row (iblk1 V c 5 t))) (dpb (row (iblk1 V c 0 t) (y 0)) (row (iblk1 V c 4 t) (y 0)) (row (iblk1 V c 3 t) (y 0)) (row (iblk1 V c 7 t)) (row (iblk1 V c 6 t))) (y 1) := by
  unfold outsAt1; frame_out
  canon_tiles x h using (View.cover_of_tiledBy _ ![256, 1024] (by sl_kernel_rfl) y)
  · rw [side_hi _ _ (y 1) (x 1) h1, show y 0 = x 0 from Fin.ext h0]
    pointwise [k1_pay19, k1_pay10, k1_pay8, k1_pay7, k1_pay6, k1_pay4, dpb, row, prod, lo, hi, sg]
  · rw [side_lo _ _ (y 1) (x 1) h1, show y 0 = x 0 from Fin.ext h0]
    pointwise [k1_pay18, k1_pay9, k1_pay5, k1_pay4, dpa, row, prod, lo, hi, sg]

/-- The gradient of the attention rows at one entry. -/
def dat (d : Fin 1024 → EReal) (g : Fin 2048 → EReal) (wo : Fin 1024 → Fin 1024 → EReal) (wa : Fin 1024 → Fin 256 → EReal)
    (n : Fin 256) : EReal := ∑ k : Fin 1024, dad d g wo k * wa k n

/-- The gradient of the scan's rows at one entry. -/
def dys (d : Fin 1024 → EReal) (g : Fin 2048 → EReal) (y : Fin 512 → EReal) (wo : Fin 1024 → Fin 1024 → EReal)
    (wg : Fin 2048 → Fin 512 → EReal) (n : Fin 512) : EReal :=
  (∑ k : Fin 1024, dza d g y wo wg k * wg (lo k) n) + ∑ k : Fin 1024, dzb d g y wo wg k * wg (hi k) n

/-- The stored block of the gradient of the attention rows. -/
theorem tile1_12 (c : Dev nD) (t : Fin cfg1.N) (y : S256x256.Idx) : (outsAt1 V c t).2.2.2.1 y
    = dat (row (iblk1 V c 0 t) (y 0)) (row (iblk1 V c 4 t) (y 0)) (row (iblk1 V c 7 t)) (row (iblk1 V c 5 t)) (y 1) := by
  unfold outsAt1; frame_out
  pointwise [k1_pay21, k1_pay20, k1_pay11, k1_pay9, k1_pay4, dat, dad, row, prod, lo]

/-- The stored block of the gradient of the scan's rows. -/
theorem tile1_13 (c : Dev nD) (t : Fin cfg1.N) (y : S256x512.Idx) : (outsAt1 V c t).2.2.2.2.1 y
    = dys (row (iblk1 V c 0 t) (y 0)) (row (iblk1 V c 4 t) (y 0)) (row (iblk1 V c 3 t) (y 0)) (row (iblk1 V c 7 t)) (row (iblk1 V c 6 t)) (y 1) := by
  unfold outsAt1; frame_out
  pointwise [k1_pay22, k1_pay14, k1_pay15, k1_pay13, k1_pay10, k1_pay8, k1_pay7, k1_pay6, k1_pay4, dys, dza, dzb, row, prod, lo, hi, sg]

/-- The array's row of a block's row. -/
def rowAt (t : Fin cfg1.N) (i : Fin 256) : Fin 4096 :=
  ⟨t.val * 256 + i, by have h : t.val < 16 := t.isLt; omega⟩

/-- A block's row of the incoming gradient is the array's. -/
theorem row1_0 (c : Dev nD) (t : Fin cfg1.N) (i : Fin 256) : row (iblk1 V c 0 t) i = row (V c main_v37) (rowAt t i) := by
  funext k
  pointwise [row, rowAt]
  blk_point [iblk1, idx1 t]

/-- A block's row of the attention is the array's. -/
theorem row1_1 (c : Dev nD) (t : Fin cfg1.N) (i : Fin 256) : row (iblk1 V c 1 t) i = row (V c main_v38) (rowAt t i) := by
  funext k
  pointwise [row, rowAt]
  blk_point [iblk1, idx1 t]

/-- A block's row of the scan's result is the array's. -/
theorem row1_3 (c : Dev nD) (t : Fin cfg1.N) (i : Fin 256) : row (iblk1 V c 3 t) i = row (V c main_v39) (rowAt t i) := by
  funext k
  pointwise [row, rowAt]
  blk_point [iblk1, idx1 t]

/-- A block's row of the gates is the array's. -/
theorem row1_4 (c : Dev nD) (t : Fin cfg1.N) (i : Fin 256) : row (iblk1 V c 4 t) i = row (V c main_v35) (rowAt t i) := by
  funext k
  pointwise [row, rowAt]
  blk_point [iblk1, idx1 t]

/-- The attention's output matrix comes whole. -/
theorem mat1_5 (c : Dev nD) (t : Fin cfg1.N) : row (iblk1 V c 5 t) = row (V c main_v41) := by
  funext i k
  pointwise [row]
  blk_point [iblk1, idx1 t]

/-- The gated product's matrix comes whole. -/
theorem mat1_6 (c : Dev nD) (t : Fin cfg1.N) : row (iblk1 V c 6 t) = row (V c main_v43) := by
  funext i k
  pointwise [row]
  blk_point [iblk1, idx1 t]

/-- The output matrix comes whole. -/
theorem mat1_7 (c : Dev nD) (t : Fin cfg1.N) : row (iblk1 V c 7 t) = row (V c main_v44) := by
  funext i k
  pointwise [row]
  blk_point [iblk1, idx1 t]

/-- The array of the attention branch's gradient. -/
def dadA (d : FVec Ideal S4096x1024 .bf16) (g : FVec Ideal S4096x2048 .f32) (wo : FVec Ideal S1024x1024 .bf16) : FVec Ideal S4096x1024 .bf16 :=
  fun j => dad (row d (j 0)) (row g (j 0)) (row wo) (j 1)

/-- An array's entry at an output block's place. -/
theorem place1_9 (t : Fin cfg1.N) (y : S256x1024.Idx) (f : FVec Ideal S4096x1024 .bf16) :
    f (((cfg1.win 9).blk t).view.emb y) = f (ix2 (rowAt t (y 0)) (y 1)) := by
  pointwise [rowAt]
  blk_point [idx1 t]

/-- A block's entry is the array's at the block's row. -/
theorem spot1_9 (c : Dev nD) (t : Fin cfg1.N) (i : Fin 256) (n : Fin 1024) :
    dad (row (iblk1 V c 0 t) i) (row (iblk1 V c 4 t) i) (row (iblk1 V c 7 t)) n
      = dadA (V c main_v37) (V c main_v35) (V c main_v44) (ix2 (rowAt t i) n) := by
  rw [row1_0, row1_4, mat1_7]
  rfl

/-- The block stored at a point is the array's block. -/
theorem block1_9 (c : Dev nD) (t : Fin cfg1.N) (y : S256x1024.Idx) : (outsAt1 V c t).1 y
    = dadA (V c main_v37) (V c main_v35) (V c main_v44) (((cfg1.win 9).blk t).view.emb y) :=
  (tile1_9 V c t y).trans ((spot1_9 V c t (y 0) (y 1)).trans (place1_9 t y _).symm)

/-- The array of the attention branch's gradient after the second call. -/
theorem final1_9 (c : Dev nD) : (dat1 V c).arrAt 9 cfg1.N = dadA (V c main_v37) (V c main_v35) (V c main_v44) := by
  refine (dat1 V c).arrAt_eq_of_covers 9 _ (by decide +kernel) fun t _ y => ?_
  blk_simp
  rw [after1_9]
  exact block1_9 V c t y

/-- The array of the gradient of the gated branch's product. -/
def dzA (d : FVec Ideal S4096x1024 .bf16) (g : FVec Ideal S4096x2048 .f32) (y : FVec Ideal S4096x512 .f32) (wo : FVec Ideal S1024x1024 .bf16) (wg : FVec Ideal S2048x512 .bf16) : FVec Ideal S4096x2048 .bf16 :=
  fun j => side (dza (row d (j 0)) (row g (j 0)) (row y (j 0)) (row wo) (row wg)) (dzb (row d (j 0)) (row g (j 0)) (row y (j 0)) (row wo) (row wg)) (j 1)

/-- An array's entry at an output block's place. -/
theorem place1_10 (t : Fin cfg1.N) (y : S256x2048.Idx) (f : FVec Ideal S4096x2048 .bf16) :
    f (((cfg1.win 10).blk t).view.emb y) = f (ix2 (rowAt t (y 0)) (y 1)) := by
  pointwise [rowAt]
  blk_point [idx1 t]

/-- A block's entry is the array's at the block's row. -/
theorem spot1_10 (c : Dev nD) (t : Fin cfg1.N) (i : Fin 256) (n : Fin 2048) :
    side (dza (row (iblk1 V c 0 t) i) (row (iblk1 V c 4 t) i) (row (iblk1 V c 3 t) i) (row (iblk1 V c 7 t)) (row (iblk1 V c 6 t))) (dzb (row (iblk1 V c 0 t) i) (row (iblk1 V c 4 t) i) (row (iblk1 V c 3 t) i) (row (iblk1 V c 7 t)) (row (iblk1 V c 6 t))) n
      = dzA (V c main_v37) (V c main_v35) (V c main_v39) (V c main_v44) (V c main_v43) (ix2 (rowAt t i) n) := by
  rw [row1_0, row1_4, row1_3, mat1_7, mat1_6]
  rfl

/-- The block stored at a point is the array's block. -/
theorem block1_10 (c : Dev nD) (t : Fin cfg1.N) (y : S256x2048.Idx) : (outsAt1 V c t).2.1 y
    = dzA (V c main_v37) (V c main_v35) (V c main_v39) (V c main_v44) (V c main_v43) (((cfg1.win 10).blk t).view.emb y) :=
  (tile1_10 V c t y).trans ((spot1_10 V c t (y 0) (y 1)).trans (place1_10 t y _).symm)

/-- The array of the gradient of the gated branch's product after the second call. -/
theorem final1_10 (c : Dev nD) : (dat1 V c).arrAt 10 cfg1.N = dzA (V c main_v37) (V c main_v35) (V c main_v39) (V c main_v44) (V c main_v43) := by
  refine (dat1 V c).arrAt_eq_of_covers 10 _ (by decide +kernel) fun t _ y => ?_
  blk_simp
  rw [after1_10]
  exact block1_10 V c t y

/-- The array of the gradient of the gates' arguments. -/
def dpA (d : FVec Ideal S4096x1024 .bf16) (g : FVec Ideal S4096x2048 .f32) (a : FVec Ideal S4096x256 .f32) (y : FVec Ideal S4096x512 .f32) (wo : FVec Ideal S1024x1024 .bf16) (wa : FVec Ideal S1024x256 .bf16) (wg : FVec Ideal S2048x512 .bf16) : FVec Ideal S4096x2048 .bf16 :=
  fun j => side (dpa (row d (j 0)) (row g (j 0)) (row a (j 0)) (row wo) (row wa)) (dpb (row d (j 0)) (row g (j 0)) (row y (j 0)) (row wo) (row wg)) (j 1)

/-- An array's entry at an output block's place. -/
theorem place1_11 (t : Fin cfg1.N) (y : S256x2048.Idx) (f : FVec Ideal S4096x2048 .bf16) :
    f (((cfg1.win 11).blk t).view.emb y) = f (ix2 (rowAt t (y 0)) (y 1)) := by
  pointwise [rowAt]
  blk_point [idx1 t]

/-- A block's entry is the array's at the block's row. -/
theorem spot1_11 (c : Dev nD) (t : Fin cfg1.N) (i : Fin 256) (n : Fin 2048) :
    side (dpa (row (iblk1 V c 0 t) i) (row (iblk1 V c 4 t) i) (row (iblk1 V c 1 t) i) (row (iblk1 V c 7 t)) (row (iblk1 V c 5 t))) (dpb (row (iblk1 V c 0 t) i) (row (iblk1 V c 4 t) i) (row (iblk1 V c 3 t) i) (row (iblk1 V c 7 t)) (row (iblk1 V c 6 t))) n
      = dpA (V c main_v37) (V c main_v35) (V c main_v38) (V c main_v39) (V c main_v44) (V c main_v41) (V c main_v43) (ix2 (rowAt t i) n) := by
  rw [row1_0, row1_4, row1_1, row1_3, mat1_7, mat1_5, mat1_6]
  rfl

/-- The block stored at a point is the array's block. -/
theorem block1_11 (c : Dev nD) (t : Fin cfg1.N) (y : S256x2048.Idx) : (outsAt1 V c t).2.2.1 y
    = dpA (V c main_v37) (V c main_v35) (V c main_v38) (V c main_v39) (V c main_v44) (V c main_v41) (V c main_v43) (((cfg1.win 11).blk t).view.emb y) :=
  (tile1_11 V c t y).trans ((spot1_11 V c t (y 0) (y 1)).trans (place1_11 t y _).symm)

/-- The array of the gradient of the gates' arguments after the second call. -/
theorem final1_11 (c : Dev nD) : (dat1 V c).arrAt 11 cfg1.N = dpA (V c main_v37) (V c main_v35) (V c main_v38) (V c main_v39) (V c main_v44) (V c main_v41) (V c main_v43) := by
  refine (dat1 V c).arrAt_eq_of_covers 11 _ (by decide +kernel) fun t _ y => ?_
  blk_simp
  rw [after1_11]
  exact block1_11 V c t y

/-- The array of the gradient of the attention rows. -/
def datA (d : FVec Ideal S4096x1024 .bf16) (g : FVec Ideal S4096x2048 .f32) (wo : FVec Ideal S1024x1024 .bf16) (wa : FVec Ideal S1024x256 .bf16) : FVec Ideal S4096x256 .f32 :=
  fun j => dat (row d (j 0)) (row g (j 0)) (row wo) (row wa) (j 1)

/-- An array's entry at an output block's place. -/
theorem place1_12 (t : Fin cfg1.N) (y : S256x256.Idx) (f : FVec Ideal S4096x256 .f32) :
    f (((cfg1.win 12).blk t).view.emb y) = f (ix2 (rowAt t (y 0)) (y 1)) := by
  pointwise [rowAt]
  blk_point [idx1 t]

/-- A block's entry is the array's at the block's row. -/
theorem spot1_12 (c : Dev nD) (t : Fin cfg1.N) (i : Fin 256) (n : Fin 256) :
    dat (row (iblk1 V c 0 t) i) (row (iblk1 V c 4 t) i) (row (iblk1 V c 7 t)) (row (iblk1 V c 5 t)) n
      = datA (V c main_v37) (V c main_v35) (V c main_v44) (V c main_v41) (ix2 (rowAt t i) n) := by
  rw [row1_0, row1_4, mat1_7, mat1_5]
  rfl

/-- The block stored at a point is the array's block. -/
theorem block1_12 (c : Dev nD) (t : Fin cfg1.N) (y : S256x256.Idx) : (outsAt1 V c t).2.2.2.1 y
    = datA (V c main_v37) (V c main_v35) (V c main_v44) (V c main_v41) (((cfg1.win 12).blk t).view.emb y) :=
  (tile1_12 V c t y).trans ((spot1_12 V c t (y 0) (y 1)).trans (place1_12 t y _).symm)

/-- The array of the gradient of the attention rows after the second call. -/
theorem final1_12 (c : Dev nD) : (dat1 V c).arrAt 12 cfg1.N = datA (V c main_v37) (V c main_v35) (V c main_v44) (V c main_v41) := by
  refine (dat1 V c).arrAt_eq_of_covers 12 _ (by decide +kernel) fun t _ y => ?_
  blk_simp
  rw [after1_12]
  exact block1_12 V c t y

/-- The array of the gradient of the scan's rows. -/
def dysA (d : FVec Ideal S4096x1024 .bf16) (g : FVec Ideal S4096x2048 .f32) (y : FVec Ideal S4096x512 .f32) (wo : FVec Ideal S1024x1024 .bf16) (wg : FVec Ideal S2048x512 .bf16) : FVec Ideal S4096x512 .f32 :=
  fun j => dys (row d (j 0)) (row g (j 0)) (row y (j 0)) (row wo) (row wg) (j 1)

/-- An array's entry at an output block's place. -/
theorem place1_13 (t : Fin cfg1.N) (y : S256x512.Idx) (f : FVec Ideal S4096x512 .f32) :
    f (((cfg1.win 13).blk t).view.emb y) = f (ix2 (rowAt t (y 0)) (y 1)) := by
  pointwise [rowAt]
  blk_point [idx1 t]

/-- A block's entry is the array's at the block's row. -/
theorem spot1_13 (c : Dev nD) (t : Fin cfg1.N) (i : Fin 256) (n : Fin 512) :
    dys (row (iblk1 V c 0 t) i) (row (iblk1 V c 4 t) i) (row (iblk1 V c 3 t) i) (row (iblk1 V c 7 t)) (row (iblk1 V c 6 t)) n
      = dysA (V c main_v37) (V c main_v35) (V c main_v39) (V c main_v44) (V c main_v43) (ix2 (rowAt t i) n) := by
  rw [row1_0, row1_4, row1_3, mat1_7, mat1_6]
  rfl

/-- The block stored at a point is the array's block. -/
theorem block1_13 (c : Dev nD) (t : Fin cfg1.N) (y : S256x512.Idx) : (outsAt1 V c t).2.2.2.2.1 y
    = dysA (V c main_v37) (V c main_v35) (V c main_v39) (V c main_v44) (V c main_v43) (((cfg1.win 13).blk t).view.emb y) :=
  (tile1_13 V c t y).trans ((spot1_13 V c t (y 0) (y 1)).trans (place1_13 t y _).symm)

/-- The array of the gradient of the scan's rows after the second call. -/
theorem final1_13 (c : Dev nD) : (dat1 V c).arrAt 13 cfg1.N = dysA (V c main_v37) (V c main_v35) (V c main_v39) (V c main_v44) (V c main_v43) := by
  refine (dat1 V c).arrAt_eq_of_covers 13 _ (by decide +kernel) fun t _ y => ?_
  blk_simp
  rw [after1_13]
  exact block1_13 V c t y

end Cert.Kernel4Ideal.Merge

end
-- ==== Proof.MergeNames.lean ====
/- Names for what the merge's gradient computes of whole arrays. -/
module

public import proofs.«01_k».proof.Proof.MergeCalls
public import proofs.«01_k».proof.Proof.Gen.Reference4Ideal.Read

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen

open Cert.Reference4Ideal.Read

/-- The gradient of the gated product's matrix, transposed. -/
def gluT (z : FVec Ideal S4096x2048 .bf16) (y : FVec Ideal S4096x512 .f32) : FVec Ideal S2048x512 .bf16 :=
  fun j => ∑ k : Fin 4096, z (ix2 k (j 0)) * y (ix2 k (j 1))

/-- The gradient of the attention's output matrix, transposed. -/
def aoT (d : FVec Ideal S4096x1024 .bf16) (a : FVec Ideal S4096x256 .f32) : FVec Ideal S1024x256 .bf16 :=
  fun j => ∑ k : Fin 4096, d (ix2 k (j 0)) * a (ix2 k (j 1))

/-- The rows of the incoming gradient. -/
def kD (ct : FVec Ideal S2x2048x1024 .f32) : FVec Ideal S4096x1024 .bf16 := shapeCast S4096x1024 ct shapeCasts_S2x2048x1024_S4096x1024

/-- The rows of the attention. -/
def kA (a : FVec Ideal S2x2048x256 .f32) : FVec Ideal S4096x256 .f32 := shapeCast S4096x256 a shapeCasts_S2x2048x256_S4096x256

/-- The rows of the scan's result. -/
def kS (y : FVec Ideal S2x2048x512 .f32) : FVec Ideal S4096x512 .f32 := shapeCast S4096x512 y shapeCasts_S2x2048x512_S4096x512

/-- The rows of the gates. -/
def kG (pre : FVec Ideal S2x2048x2048 .f32) : FVec Ideal S4096x2048 .f32 := val_main_v6 (F := Ideal) pre

/-- The merged branches. -/
def kM (a : FVec Ideal S2x2048x256 .f32) (y : FVec Ideal S2x2048x512 .f32) (pre : FVec Ideal S2x2048x2048 .f32)
    (wa : FVec Ideal S256x1024 .f32) (wg : FVec Ideal S512x2048 .f32) : FVec Ideal S4096x1024 .bf16 :=
  fun j => val_main_v33 (F := Ideal) a y pre wa wg j

/-- The attention's output matrix with its axes exchanged. -/
def kWa (w : FVec Ideal S256x1024 .f32) : FVec Ideal S1024x256 .bf16 := fun j => w (ix2 (j 1) (j 0))

/-- The gated product's matrix with its axes exchanged. -/
def kWg (w : FVec Ideal S512x2048 .f32) : FVec Ideal S2048x512 .bf16 := fun j => w (ix2 (j 1) (j 0))

/-- The output matrix. -/
def kWo (w : FVec Ideal S1024x1024 .f32) : FVec Ideal S1024x1024 .bf16 := fun j => w j

/-- The attention's rows as a [2, 2048, 256] array. -/
def unA (v : FVec Ideal S4096x256 .f32) : FVec Ideal S2x2048x256 .f32 := shapeCast S2x2048x256 v shapeCasts_S4096x256_S2x2048x256

/-- The scan's rows as a [2, 2048, 512] array. -/
def unS (v : FVec Ideal S4096x512 .f32) : FVec Ideal S2x2048x512 .f32 := shapeCast S2x2048x512 v shapeCasts_S4096x512_S2x2048x512

/-- The gates' rows as a [2, 2048, 2048] array. -/
def unP (v : FVec Ideal S4096x2048 .bf16) : FVec Ideal S2x2048x2048 .f32 :=
  shapeCast S2x2048x2048 (extf (F := Ideal) .f32 v bitsLt_bf16_f32) shapeCasts_S4096x2048_S2x2048x2048

/-- The attention's output matrix's gradient in the matrix's layout. -/
def unWa (v : FVec Ideal S1024x256 .bf16) : FVec Ideal S256x1024 .f32 := fun j => v (ix2 (j 1) (j 0))

/-- The gated product's matrix's gradient in the matrix's layout. -/
def unWg (v : FVec Ideal S2048x512 .bf16) : FVec Ideal S512x2048 .f32 := fun j => v (ix2 (j 1) (j 0))

/-- The output matrix's gradient. -/
def unWo (v : FVec Ideal S1024x1024 .bf16) : FVec Ideal S1024x1024 .f32 := fun j => v j

end Cert.Kernel4Ideal.Merge

end
-- ==== Proof.MergeOut.lean ====
/- What the call of the branch weight gradients leaves, and the results of the merge's gradient in terms of the arguments. -/
module

public import proofs.«01_k».proof.Proof.MergeNames
public import proofs.«01_k».proof.Proof.MixIdealFrame2

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen

open Cert.Reference4Ideal.Read

section Third

variable (V : (c : Dev nD) → (b : Ref sig .tc) → Buf (Elt Ideal) ((c : Thread nD τ).loc b))

/-- The third call's windows over its grid: blocks of columns of the left operands, and the right operands whole. -/
theorem idx2 : ∀ t : Fin cfg2.N, win2_0.index t = ![0, t.val] ∧ win2_1.index t = ![0, 0] ∧ win2_2.index t = ![0, t.val]
    ∧ win2_3.index t = ![0, 0] ∧ win2_4.index t = ![t.val, 0] ∧ win2_5.index t = ![t.val, 0] :=
  (by decide +kernel : ∀ t : Fin grid2.N, _)

/-- The first block stored at a point of the third call is the array's block. -/
theorem point2_4 (c : Dev nD) (t : Fin cfg2.N) (y) :
    k2_pay1 (iblk2 V c 0 t) (iblk2 V c 1 t) y = gluT (V c main_v55_1) (V c main_v39) (((cfg2.win 4).blk t).view.emb y) := by
  pointwise [k2_pay1, gluT]
  blk_point [iblk2, idx2 t]

/-- The gated product's matrix's gradient after the third call. -/
theorem final2_4 (c : Dev nD) : (dat2 V c).arrAt 4 cfg2.N = gluT (V c main_v55_1) (V c main_v39) := by
  refine (dat2 V c).arrAt_eq_of_covers 4 _ (by decide +kernel) fun t _ y => ?_
  blk_simp
  rw [after2_4]; frame_out
  exact point2_4 V c t y

/-- The second block stored at a point of the third call is the array's block. -/
theorem point2_5 (c : Dev nD) (t : Fin cfg2.N) (y) :
    k2_pay2 (iblk2 V c 2 t) (iblk2 V c 3 t) y = aoT (V c main_v55_0) (V c main_v38) (((cfg2.win 5).blk t).view.emb y) := by
  pointwise [k2_pay2, aoT]
  blk_point [iblk2, idx2 t]

/-- The attention's output matrix's gradient after the third call. -/
theorem final2_5 (c : Dev nD) : (dat2 V c).arrAt 5 cfg2.N = aoT (V c main_v55_0) (V c main_v38) := by
  refine (dat2 V c).arrAt_eq_of_covers 5 _ (by decide +kernel) fun t _ y => ?_
  blk_simp
  rw [after2_5]; frame_out
  exact point2_5 V c t y

end Third

variable (m : (ℓ : Loc nD τ sig) → Buf (Elt Ideal) ℓ) (ρ : Dev nD → PrngReg)

/-- The host's `v28`. -/
theorem entry_v28 (c : Dev nD) : V1 m ρ c main_v28 = kM (m ((c : Thread nD τ).loc main_arg0)) (m ((c : Thread nD τ).loc main_arg1)) (m ((c : Thread nD τ).loc main_arg2)) (m ((c : Thread nD τ).loc main_arg3)) (m ((c : Thread nD τ).loc main_arg4)) := by
  unfold V1 W1; after_results
  rfl

/-- The host's `v35`. -/
theorem entry_v35 (c : Dev nD) : V1 m ρ c main_v35 = kG (m ((c : Thread nD τ).loc main_arg2)) := by
  unfold V1 W1; after_results
  rfl

/-- The host's `v37`. -/
theorem entry_v37 (c : Dev nD) : V1 m ρ c main_v37 = kD (m ((c : Thread nD τ).loc main_arg6)) := by
  unfold V1 W1; after_results
  rfl

/-- The host's `v38`. -/
theorem entry_v38 (c : Dev nD) : V1 m ρ c main_v38 = kA (m ((c : Thread nD τ).loc main_arg0)) := by
  unfold V1 W1; after_results
  rfl

/-- The host's `v39`. -/
theorem entry_v39 (c : Dev nD) : V1 m ρ c main_v39 = kS (m ((c : Thread nD τ).loc main_arg1)) := by
  unfold V1 W1; after_results
  rfl

/-- The host's `v41`. -/
theorem entry_v41 (c : Dev nD) : V1 m ρ c main_v41 = kWa (m ((c : Thread nD τ).loc main_arg3)) := by
  unfold V1 W1; after_results
  funext j
  pointwise [kWa]

/-- The host's `v43`. -/
theorem entry_v43 (c : Dev nD) : V1 m ρ c main_v43 = kWg (m ((c : Thread nD τ).loc main_arg4)) := by
  unfold V1 W1; after_results
  funext j
  pointwise [kWg]

/-- The host's `v44`. -/
theorem entry_v44 (c : Dev nD) : V1 m ρ c main_v44 = kWo (m ((c : Thread nD τ).loc main_arg5)) := by
  unfold V1 W1; after_results
  rfl

/-- `v35` before the second call. -/
theorem five_v35 (c : Dev nD) : V5 m ρ c main_v35 = kG (m ((c : Thread nD τ).loc main_arg2)) :=
  (W5_of m ρ c main_v35 (by decide)).trans ((W4_of m ρ c main_v35 (by decide)).trans ((W3_of m ρ c main_v35 (by decide)).trans ((W2_of m ρ c main_v35 (by decide)).trans (entry_v35 m ρ c))))

/-- `v37` before the second call. -/
theorem five_v37 (c : Dev nD) : V5 m ρ c main_v37 = kD (m ((c : Thread nD τ).loc main_arg6)) :=
  (W5_of m ρ c main_v37 (by decide)).trans ((W4_of m ρ c main_v37 (by decide)).trans ((W3_of m ρ c main_v37 (by decide)).trans ((W2_of m ρ c main_v37 (by decide)).trans (entry_v37 m ρ c))))

/-- `v38` before the second call. -/
theorem five_v38 (c : Dev nD) : V5 m ρ c main_v38 = kA (m ((c : Thread nD τ).loc main_arg0)) :=
  (W5_of m ρ c main_v38 (by decide)).trans ((W4_of m ρ c main_v38 (by decide)).trans ((W3_of m ρ c main_v38 (by decide)).trans ((W2_of m ρ c main_v38 (by decide)).trans (entry_v38 m ρ c))))

/-- `v39` before the second call. -/
theorem five_v39 (c : Dev nD) : V5 m ρ c main_v39 = kS (m ((c : Thread nD τ).loc main_arg1)) :=
  (W5_of m ρ c main_v39 (by decide)).trans ((W4_of m ρ c main_v39 (by decide)).trans ((W3_of m ρ c main_v39 (by decide)).trans ((W2_of m ρ c main_v39 (by decide)).trans (entry_v39 m ρ c))))

/-- `v41` before the second call. -/
theorem five_v41 (c : Dev nD) : V5 m ρ c main_v41 = kWa (m ((c : Thread nD τ).loc main_arg3)) :=
  (W5_of m ρ c main_v41 (by decide)).trans ((W4_of m ρ c main_v41 (by decide)).trans ((W3_of m ρ c main_v41 (by decide)).trans ((W2_of m ρ c main_v41 (by decide)).trans (entry_v41 m ρ c))))

/-- `v43` before the second call. -/
theorem five_v43 (c : Dev nD) : V5 m ρ c main_v43 = kWg (m ((c : Thread nD τ).loc main_arg4)) :=
  (W5_of m ρ c main_v43 (by decide)).trans ((W4_of m ρ c main_v43 (by decide)).trans ((W3_of m ρ c main_v43 (by decide)).trans ((W2_of m ρ c main_v43 (by decide)).trans (entry_v43 m ρ c))))

/-- `v44` before the second call. -/
theorem five_v44 (c : Dev nD) : V5 m ρ c main_v44 = kWo (m ((c : Thread nD τ).loc main_arg5)) :=
  (W5_of m ρ c main_v44 (by decide)).trans ((W4_of m ρ c main_v44 (by decide)).trans ((W3_of m ρ c main_v44 (by decide)).trans ((W2_of m ρ c main_v44 (by decide)).trans (entry_v44 m ρ c))))

/-- `v38` before the third call. -/
theorem six_v38 (c : Dev nD) : V6 m ρ c main_v38 = kA (m ((c : Thread nD τ).loc main_arg0)) :=
  (W6_of m ρ c main_v38 (by decide)).trans (five_v38 m ρ c)

/-- `v39` before the third call. -/
theorem six_v39 (c : Dev nD) : V6 m ρ c main_v39 = kS (m ((c : Thread nD τ).loc main_arg1)) :=
  (W6_of m ρ c main_v39 (by decide)).trans (five_v39 m ρ c)

/-- The second call's result: the attention branch's gradient. -/
theorem six_v55_0 (c : Dev nD) : V6 m ρ c main_v55_0 = dadA (kD (m ((c : Thread nD τ).loc main_arg6))) (kG (m ((c : Thread nD τ).loc main_arg2))) (kWo (m ((c : Thread nD τ).loc main_arg5))) := by
  refine (W6_arr m ρ c 9).trans ((final1_9 (V5 m ρ) c).trans ?_)
  rw [five_v37 m ρ c, five_v35 m ρ c, five_v44 m ρ c]

/-- The second call's result: the gated product's gradient. -/
theorem six_v55_1 (c : Dev nD) : V6 m ρ c main_v55_1 = dzA (kD (m ((c : Thread nD τ).loc main_arg6))) (kG (m ((c : Thread nD τ).loc main_arg2))) (kS (m ((c : Thread nD τ).loc main_arg1))) (kWo (m ((c : Thread nD τ).loc main_arg5))) (kWg (m ((c : Thread nD τ).loc main_arg4))) := by
  refine (W6_arr m ρ c 10).trans ((final1_10 (V5 m ρ) c).trans ?_)
  rw [five_v37 m ρ c, five_v35 m ρ c, five_v39 m ρ c, five_v44 m ρ c, five_v43 m ρ c]

/-- The second call's result: the gates' arguments' gradient. -/
theorem six_v55_2 (c : Dev nD) : V6 m ρ c main_v55_2 = dpA (kD (m ((c : Thread nD τ).loc main_arg6))) (kG (m ((c : Thread nD τ).loc main_arg2))) (kA (m ((c : Thread nD τ).loc main_arg0))) (kS (m ((c : Thread nD τ).loc main_arg1))) (kWo (m ((c : Thread nD τ).loc main_arg5))) (kWa (m ((c : Thread nD τ).loc main_arg3))) (kWg (m ((c : Thread nD τ).loc main_arg4))) := by
  refine (W6_arr m ρ c 11).trans ((final1_11 (V5 m ρ) c).trans ?_)
  rw [five_v37 m ρ c, five_v35 m ρ c, five_v38 m ρ c, five_v39 m ρ c, five_v44 m ρ c, five_v41 m ρ c, five_v43 m ρ c]

/-- The second call's result: the attention rows' gradient. -/
theorem six_v55_3 (c : Dev nD) : V6 m ρ c main_v55_3 = datA (kD (m ((c : Thread nD τ).loc main_arg6))) (kG (m ((c : Thread nD τ).loc main_arg2))) (kWo (m ((c : Thread nD τ).loc main_arg5))) (kWa (m ((c : Thread nD τ).loc main_arg3))) := by
  refine (W6_arr m ρ c 12).trans ((final1_12 (V5 m ρ) c).trans ?_)
  rw [five_v37 m ρ c, five_v35 m ρ c, five_v44 m ρ c, five_v41 m ρ c]

/-- The second call's result: the scan rows' gradient. -/
theorem six_v55_4 (c : Dev nD) : V6 m ρ c main_v55_4 = dysA (kD (m ((c : Thread nD τ).loc main_arg6))) (kG (m ((c : Thread nD τ).loc main_arg2))) (kS (m ((c : Thread nD τ).loc main_arg1))) (kWo (m ((c : Thread nD τ).loc main_arg5))) (kWg (m ((c : Thread nD τ).loc main_arg4))) := by
  refine (W6_arr m ρ c 13).trans ((final1_13 (V5 m ρ) c).trans ?_)
  rw [five_v37 m ρ c, five_v35 m ρ c, five_v39 m ρ c, five_v44 m ρ c, five_v43 m ρ c]

/-- The third call's result: the gated product's matrix's gradient. -/
theorem seven_v56_0 (c : Dev nD) : V7 m ρ c main_v56_0 = gluT (dzA (kD (m ((c : Thread nD τ).loc main_arg6))) (kG (m ((c : Thread nD τ).loc main_arg2))) (kS (m ((c : Thread nD τ).loc main_arg1))) (kWo (m ((c : Thread nD τ).loc main_arg5))) (kWg (m ((c : Thread nD τ).loc main_arg4)))) (kS (m ((c : Thread nD τ).loc main_arg1))) := by
  refine (W7_arr m ρ c 4).trans ((final2_4 (V6 m ρ) c).trans ?_)
  rw [six_v55_1 m ρ c, six_v39 m ρ c]

/-- The third call's result: the attention's output matrix's gradient. -/
theorem seven_v56_1 (c : Dev nD) : V7 m ρ c main_v56_1 = aoT (dadA (kD (m ((c : Thread nD τ).loc main_arg6))) (kG (m ((c : Thread nD τ).loc main_arg2))) (kWo (m ((c : Thread nD τ).loc main_arg5)))) (kA (m ((c : Thread nD τ).loc main_arg0))) := by
  refine (W7_arr m ρ c 5).trans ((final2_5 (V6 m ρ) c).trans ?_)
  rw [six_v55_0 m ρ c, six_v38 m ρ c]

/-- The first call's result before the last host stretch. -/
theorem seven_v45 (c : Dev nD) : V7 m ρ c main_v45 = outW (kM (m ((c : Thread nD τ).loc main_arg0)) (m ((c : Thread nD τ).loc main_arg1)) (m ((c : Thread nD τ).loc main_arg2)) (m ((c : Thread nD τ).loc main_arg3)) (m ((c : Thread nD τ).loc main_arg4))) (kD (m ((c : Thread nD τ).loc main_arg6))) := by
  refine (W7_of m ρ c main_v45 (by decide)).trans ((W6_of m ρ c main_v45 (by decide)).trans ((W5_of m ρ c main_v45 (by decide)).trans ((W4_of m ρ c main_v45 (by decide)).trans ((W3_of m ρ c main_v45 (by decide)).trans ((W2_arr m ρ c 2).trans ((final0 (V1 m ρ) c).trans ?_))))))
  rw [entry_v28 m ρ c, entry_v37 m ρ c]

/-- The same before the last host stretch. -/
theorem seven_v55_2 (c : Dev nD) : V7 m ρ c main_v55_2 = dpA (kD (m ((c : Thread nD τ).loc main_arg6))) (kG (m ((c : Thread nD τ).loc main_arg2))) (kA (m ((c : Thread nD τ).loc main_arg0))) (kS (m ((c : Thread nD τ).loc main_arg1))) (kWo (m ((c : Thread nD τ).loc main_arg5))) (kWa (m ((c : Thread nD τ).loc main_arg3))) (kWg (m ((c : Thread nD τ).loc main_arg4))) :=
  (W7_of m ρ c main_v55_2 (by decide)).trans (six_v55_2 m ρ c)

/-- The same before the last host stretch. -/
theorem seven_v55_3 (c : Dev nD) : V7 m ρ c main_v55_3 = datA (kD (m ((c : Thread nD τ).loc main_arg6))) (kG (m ((c : Thread nD τ).loc main_arg2))) (kWo (m ((c : Thread nD τ).loc main_arg5))) (kWa (m ((c : Thread nD τ).loc main_arg3))) :=
  (W7_of m ρ c main_v55_3 (by decide)).trans (six_v55_3 m ρ c)

/-- The same before the last host stretch. -/
theorem seven_v55_4 (c : Dev nD) : V7 m ρ c main_v55_4 = dysA (kD (m ((c : Thread nD τ).loc main_arg6))) (kG (m ((c : Thread nD τ).loc main_arg2))) (kS (m ((c : Thread nD τ).loc main_arg1))) (kWo (m ((c : Thread nD τ).loc main_arg5))) (kWg (m ((c : Thread nD τ).loc main_arg4))) :=
  (W7_of m ρ c main_v55_4 (by decide)).trans (six_v55_4 m ρ c)

/-- The result `v57`. -/
theorem out_v57 (c : Dev nD) : W8 m ρ c main_v57 = unA (datA (kD (m ((c : Thread nD τ).loc main_arg6))) (kG (m ((c : Thread nD τ).loc main_arg2))) (kWo (m ((c : Thread nD τ).loc main_arg5))) (kWa (m ((c : Thread nD τ).loc main_arg3)))) := by
  have e : W8 m ρ c main_v57 = unA (V7 m ρ c main_v55_3) := by
    unfold W8; after_results
    rfl
  exact e.trans (congrArg unA (seven_v55_3 m ρ c))

/-- The result `v58`. -/
theorem out_v58 (c : Dev nD) : W8 m ρ c main_v58 = unS (dysA (kD (m ((c : Thread nD τ).loc main_arg6))) (kG (m ((c : Thread nD τ).loc main_arg2))) (kS (m ((c : Thread nD τ).loc main_arg1))) (kWo (m ((c : Thread nD τ).loc main_arg5))) (kWg (m ((c : Thread nD τ).loc main_arg4)))) := by
  have e : W8 m ρ c main_v58 = unS (V7 m ρ c main_v55_4) := by
    unfold W8; after_results
    rfl
  exact e.trans (congrArg unS (seven_v55_4 m ρ c))

/-- The result `v60`. -/
theorem out_v60 (c : Dev nD) : W8 m ρ c main_v60 = unP (dpA (kD (m ((c : Thread nD τ).loc main_arg6))) (kG (m ((c : Thread nD τ).loc main_arg2))) (kA (m ((c : Thread nD τ).loc main_arg0))) (kS (m ((c : Thread nD τ).loc main_arg1))) (kWo (m ((c : Thread nD τ).loc main_arg5))) (kWa (m ((c : Thread nD τ).loc main_arg3))) (kWg (m ((c : Thread nD τ).loc main_arg4)))) := by
  have e : W8 m ρ c main_v60 = unP (V7 m ρ c main_v55_2) := by
    unfold W8; after_results
    rfl
  exact e.trans (congrArg unP (seven_v55_2 m ρ c))

/-- The result `v62`. -/
theorem out_v62 (c : Dev nD) : W8 m ρ c main_v62 = unWa (aoT (dadA (kD (m ((c : Thread nD τ).loc main_arg6))) (kG (m ((c : Thread nD τ).loc main_arg2))) (kWo (m ((c : Thread nD τ).loc main_arg5)))) (kA (m ((c : Thread nD τ).loc main_arg0)))) := by
  have e : W8 m ρ c main_v62 = unWa (V7 m ρ c main_v56_1) := by
    unfold W8; after_results
    funext j
    pointwise [unWa]
  exact e.trans (congrArg unWa (seven_v56_1 m ρ c))

/-- The result `v64`. -/
theorem out_v64 (c : Dev nD) : W8 m ρ c main_v64 = unWg (gluT (dzA (kD (m ((c : Thread nD τ).loc main_arg6))) (kG (m ((c : Thread nD τ).loc main_arg2))) (kS (m ((c : Thread nD τ).loc main_arg1))) (kWo (m ((c : Thread nD τ).loc main_arg5))) (kWg (m ((c : Thread nD τ).loc main_arg4)))) (kS (m ((c : Thread nD τ).loc main_arg1)))) := by
  have e : W8 m ρ c main_v64 = unWg (V7 m ρ c main_v56_0) := by
    unfold W8; after_results
    funext j
    pointwise [unWg]
  exact e.trans (congrArg unWg (seven_v56_0 m ρ c))

/-- The result `v65`. -/
theorem out_v65 (c : Dev nD) : W8 m ρ c main_v65 = unWo (outW (kM (m ((c : Thread nD τ).loc main_arg0)) (m ((c : Thread nD τ).loc main_arg1)) (m ((c : Thread nD τ).loc main_arg2)) (m ((c : Thread nD τ).loc main_arg3)) (m ((c : Thread nD τ).loc main_arg4))) (kD (m ((c : Thread nD τ).loc main_arg6)))) := by
  have e : W8 m ρ c main_v65 = unWo (V7 m ρ c main_v45) := by
    unfold W8; after_results
    rfl
  exact e.trans (congrArg unWo (seven_v45 m ρ c))

end Cert.Kernel4Ideal.Merge

end
-- ==== Proof.MergeEq.lean ====
/- Each result of the merge's gradient is the reference's. -/
module

public import proofs.«01_k».proof.Proof.MergeNames
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen

open Cert.Reference4Ideal.Read

variable (x0 : FVec Ideal S2x2048x256 .f32) (x1 : FVec Ideal S2x2048x512 .f32) (x2 : FVec Ideal S2x2048x2048 .f32)
  (x3 : FVec Ideal S256x1024 .f32) (x4 : FVec Ideal S512x2048 .f32) (x5 : FVec Ideal S1024x1024 .f32)
  (x6 : FVec Ideal S2x2048x1024 .f32)

/-- The attention times its output matrix. -/
theorem ref_v12 (i : Fin 4096) (n : Fin 1024) :
    val_main_v12 (F := Ideal) x0 x3 (ix2 i n) = prod (row (kA x0) i) (row (kWa x3)) n := by
  have e : val_main_v12 (F := Ideal) x0 x3 (ix2 i n) = ∑ k : Fin 256, val_main_v11 (F := Ideal) x0 (ix2 i k) * x3 (ix2 k n) := by
    generalize h : val_main_v11 (F := Ideal) x0 = a
    pointwise [val_main_v12, h]
  exact e

/-- The scan's result times the gated product's matrix. -/
theorem ref_v14 (i : Fin 4096) (n : Fin 2048) :
    val_main_v14 (F := Ideal) x1 x4 (ix2 i n) = prod (row (kS x1) i) (row (kWg x4)) n := by
  have e : val_main_v14 (F := Ideal) x1 x4 (ix2 i n) = ∑ k : Fin 512, val_main_v13 (F := Ideal) x1 (ix2 i k) * x4 (ix2 k n) := by
    generalize h : val_main_v13 (F := Ideal) x1 = a
    pointwise [val_main_v14, h]
  exact e

/-- The incoming gradient times the output matrix. -/
theorem ref_v39 (i : Fin 4096) (n : Fin 1024) :
    val_main_v39 (F := Ideal) x5 x6 (ix2 i n) = prod (row (kD x6) i) (row (kWo x5)) n := by
  have e : val_main_v39 (F := Ideal) x5 x6 (ix2 i n) = ∑ k : Fin 1024, val_main_v36 (F := Ideal) x6 (ix2 i k) * x5 (ix2 n k) := by
    generalize h : val_main_v36 (F := Ideal) x6 = a
    pointwise [val_main_v39, h]
  exact e

/-- The left half of the gated product. -/
theorem ref_v15 (i : Fin 4096) (n : Fin 1024) :
    val_main_v15 (F := Ideal) x1 x4 (ix2 i n) = prod (row (kS x1) i) (row (kWg x4)) (lo n) := by
  rw [← ref_v14]
  generalize h : val_main_v14 (F := Ideal) x1 x4 = a
  pointwise [val_main_v15, h, lo]

/-- The right half of the gated product. -/
theorem ref_v16 (i : Fin 4096) (n : Fin 1024) :
    val_main_v16 (F := Ideal) x1 x4 (ix2 i n) = prod (row (kS x1) i) (row (kWg x4)) (hi n) := by
  rw [← ref_v14]
  generalize h : val_main_v14 (F := Ideal) x1 x4 = a
  pointwise [val_main_v16, h, hi]

/-- The logistic function of the right half. -/
theorem ref_v22 (i : Fin 4096) (n : Fin 1024) :
    val_main_v22 (F := Ideal) x1 x4 (ix2 i n) = sg (prod (row (kS x1) i) (row (kWg x4)) (hi n)) := by
  rw [← ref_v16]
  have e : val_main_v22 (F := Ideal) x1 x4 (ix2 i n) = Ideal.div 1 (1 + Ideal.exp (-(val_main_v16 (F := Ideal) x1 x4 (ix2 i n)))) := by
    generalize h : val_main_v16 (F := Ideal) x1 x4 = a
    pointwise [val_main_v22, val_main_v21, val_main_v20, val_main_v19, val_main_v18, val_main_v17, val_main_cst_2, val_main_cst_3, h]
  rw [e]; unfold sg; rw [zero_sub]

/-- The logistic function's derivative in the right half. -/
theorem ref_v25 (i : Fin 4096) (n : Fin 1024) :
    val_main_v25 (F := Ideal) x1 x4 (ix2 i n) = sg (prod (row (kS x1) i) (row (kWg x4)) (hi n)) * (1 - sg (prod (row (kS x1) i) (row (kWg x4)) (hi n))) := by
  rw [← ref_v22]
  generalize h : val_main_v22 (F := Ideal) x1 x4 = a
  pointwise [val_main_v25, val_main_v24, val_main_v23, val_main_cst_4, h]

/-- The gates' derivative. -/
theorem ref_v9 (i : Fin 4096) (n : Fin 2048) :
    val_main_v9 (F := Ideal) x2 (ix2 i n) = row (kG x2) i n * (1 - row (kG x2) i n) := by
  have e : val_main_v9 (F := Ideal) x2 (ix2 i n) = val_main_v6 (F := Ideal) x2 (ix2 i n) * (1 - val_main_v6 (F := Ideal) x2 (ix2 i n)) := by
    generalize h : val_main_v6 (F := Ideal) x2 = a
    pointwise [val_main_v9, val_main_v8, val_main_v7, val_main_cst_1, h]
  exact e

/-- The first gate. -/
theorem ref_v28 (i : Fin 4096) (n : Fin 1024) : val_main_v28 (F := Ideal) x2 (ix2 i n) = row (kG x2) i (lo n) := by
  have e : val_main_v28 (F := Ideal) x2 (ix2 i n) = val_main_v6 (F := Ideal) x2 (ix2 i (lo n)) := by
    generalize h : val_main_v6 (F := Ideal) x2 = a
    pointwise [val_main_v28, val_main_v27, val_main_v10, h, lo]
  exact e

/-- The second gate. -/
theorem ref_v31 (i : Fin 4096) (n : Fin 1024) : val_main_v31 (F := Ideal) x2 (ix2 i n) = row (kG x2) i (hi n) := by
  have e : val_main_v31 (F := Ideal) x2 (ix2 i n) = val_main_v6 (F := Ideal) x2 (ix2 i (hi n)) := by
    generalize h : val_main_v6 (F := Ideal) x2 = a
    pointwise [val_main_v31, val_main_v30, val_main_v10, h, hi]
  exact e

/-- An index of a matrix is its two coordinates. -/
theorem two {a b : ℕ} (j : (⟨2, ![a, b]⟩ : Shape).Idx) : j = ix2 (j 0 : Fin a) (j 1 : Fin b) := by
  funext k; match k with | ⟨0, _⟩ => rfl | ⟨1, _⟩ => rfl

/-- The attention branch's gradient. -/
theorem ref_v44 (i : Fin 4096) (n : Fin 1024) :
    val_main_v44 (F := Ideal) x2 x5 x6 (ix2 i n) = dadA (kD x6) (kG x2) (kWo x5) (ix2 i n) := by
  have e : val_main_v44 (F := Ideal) x2 x5 x6 (ix2 i n) = val_main_v28 (F := Ideal) x2 (ix2 i n) * val_main_v39 (F := Ideal) x5 x6 (ix2 i n) := rfl
  rw [e, ref_v28, ref_v39]
  exact mul_comm _ _

/-- The gradient of the left half of the gated product. -/
theorem ref_v50 (i : Fin 4096) (n : Fin 1024) :
    val_main_v50 (F := Ideal) x1 x2 x4 x5 x6 (ix2 i n) = dza (row (kD x6) i) (row (kG x2) i) (row (kS x1) i) (row (kWo x5)) (row (kWg x4)) n := by
  have e : val_main_v50 (F := Ideal) x1 x2 x4 x5 x6 (ix2 i n)
      = val_main_v31 (F := Ideal) x2 (ix2 i n) * val_main_v39 (F := Ideal) x5 x6 (ix2 i n) * val_main_v22 (F := Ideal) x1 x4 (ix2 i n) := rfl
  rw [e, ref_v31, ref_v39, ref_v22]
  unfold dza
  simp only [mul_comm, mul_left_comm, mul_assoc]

/-- The gradient of the right half of the gated product. -/
theorem ref_v51 (i : Fin 4096) (n : Fin 1024) :
    val_main_v51 (F := Ideal) x1 x2 x4 x5 x6 (ix2 i n) = dzb (row (kD x6) i) (row (kG x2) i) (row (kS x1) i) (row (kWo x5)) (row (kWg x4)) n := by
  have e : val_main_v51 (F := Ideal) x1 x2 x4 x5 x6 (ix2 i n)
      = val_main_v15 (F := Ideal) x1 x4 (ix2 i n) * (val_main_v31 (F := Ideal) x2 (ix2 i n) * val_main_v39 (F := Ideal) x5 x6 (ix2 i n)) * val_main_v25 (F := Ideal) x1 x4 (ix2 i n) := rfl
  rw [e, ref_v15, ref_v31, ref_v39, ref_v25]
  unfold dzb
  simp only [mul_comm, mul_left_comm, mul_assoc]

/-- A left half widened by zeros, read at an index. -/
theorem pad_left (x : FVec Ideal S4096x1024 .f32) (z : FVec Ideal Cert.Reference4Ideal.S_ .f32) (hz : ∀ k, z k = 0)
    (hp) (hu) (i : Fin 4096) (n : Fin 2048) : pad (s := S4096x1024) Cert.Reference4Ideal.S4096x2048 ![0, 0] ![0, 1024] ![0, 0] x z hp hu (ix2 i n)
      = side (fun k => x (ix2 i k)) (fun _ => 0) n := by
  by_cases h : (n : ℕ) < 1024
  · rw [side_lo _ _ n ⟨n, h⟩ rfl]
    refine pad_apply_of_inside _ _ _ x z _ _ _ (ix2 i ⟨n, h⟩) ?_
    intro a; match a with
    | ⟨0, _⟩ => show (i : ℕ) = 0 + (i : ℕ) * (0 + 1); omega
    | ⟨1, _⟩ => show (n : ℕ) = 0 + (n : ℕ) * (0 + 1); omega
  · rw [side_hi _ _ n ⟨n - 1024, by omega⟩ (by show (n : ℕ) = 1024 + ((n : ℕ) - 1024); omega)]
    refine (pad_apply_of_not_inside _ _ _ x z _ _ _ (1 : Fin 2) ?_).trans (hz _)
    show ¬ (0 ≤ (n : ℕ) ∧ ((n : ℕ) - 0) % (0 + 1) = 0 ∧ ((n : ℕ) - 0) / (0 + 1) < 1024)
    omega

/-- A right half widened by zeros, read at an index. -/
theorem pad_right (x : FVec Ideal S4096x1024 .f32) (z : FVec Ideal Cert.Reference4Ideal.S_ .f32) (hz : ∀ k, z k = 0)
    (hp) (hu) (i : Fin 4096) (n : Fin 2048) : pad (s := S4096x1024) Cert.Reference4Ideal.S4096x2048 ![0, 1024] ![0, 0] ![0, 0] x z hp hu (ix2 i n)
      = side (fun _ => 0) (fun k => x (ix2 i k)) n := by
  by_cases h : (n : ℕ) < 1024
  · rw [side_lo _ _ n ⟨n, h⟩ rfl]
    refine (pad_apply_of_not_inside _ _ _ x z _ _ _ (1 : Fin 2) ?_).trans (hz _)
    show ¬ (1024 ≤ (n : ℕ) ∧ ((n : ℕ) - 1024) % (0 + 1) = 0 ∧ ((n : ℕ) - 1024) / (0 + 1) < 1024)
    omega
  · rw [side_hi _ _ n ⟨n - 1024, by omega⟩ (by show (n : ℕ) = 1024 + ((n : ℕ) - 1024); omega)]
    refine pad_apply_of_inside _ _ _ x z _ _ _ (ix2 i ⟨n - 1024, by omega⟩) ?_
    intro a; match a with
    | ⟨0, _⟩ => show (i : ℕ) = 0 + (i : ℕ) * (0 + 1); omega
    | ⟨1, _⟩ => show (n : ℕ) = 1024 + ((n : ℕ) - 1024) * (0 + 1); omega

/-- Side by side, one half at a time. -/
theorem side_add (f g : Fin 1024 → EReal) (n : Fin 2048) : side (fun _ => 0) g n + side f (fun _ => 0) n = side f g n := by
  unfold side
  split_ifs
  · exact zero_add _
  · exact add_zero _

/-- The zero that the reference pads with. -/
theorem zero_of_bits (k : Cert.Reference4Ideal.S_.Idx) : constant (F := Ideal) Cert.Reference4Ideal.S_ .f32 0x00000000#32 k = 0 := by
  pointwise []

/-- The gated product's gradient. -/
theorem ref_v54 (i : Fin 4096) (n : Fin 2048) :
    val_main_v54 (F := Ideal) x1 x2 x4 x5 x6 (ix2 i n) = dzA (kD x6) (kG x2) (kS x1) (kWo x5) (kWg x4) (ix2 i n) := by
  have e : val_main_v54 (F := Ideal) x1 x2 x4 x5 x6 (ix2 i n)
      = val_main_v52 (F := Ideal) x1 x2 x4 x5 x6 (ix2 i n) + val_main_v53 (F := Ideal) x1 x2 x4 x5 x6 (ix2 i n) := rfl
  rw [e]
  have r : val_main_v52 (F := Ideal) x1 x2 x4 x5 x6 (ix2 i n) = side (fun _ => 0) (fun k => val_main_v51 (F := Ideal) x1 x2 x4 x5 x6 (ix2 i k)) n :=
    pad_right _ _ zero_of_bits _ _ i n
  have l : val_main_v53 (F := Ideal) x1 x2 x4 x5 x6 (ix2 i n) = side (fun k => val_main_v50 (F := Ideal) x1 x2 x4 x5 x6 (ix2 i k)) (fun _ => 0) n :=
    pad_left _ _ zero_of_bits _ _ i n
  rw [r, l, side_add, funext (ref_v50 x1 x2 x4 x5 x6 i), funext (ref_v51 x1 x2 x4 x5 x6 i)]
  rfl

/-- The first gate's gradient in its place among the gates. -/
theorem ref_v47 (i : Fin 4096) (n : Fin 1024) : val_main_v47 (F := Ideal) x0 x3 x5 x6 (ix3 i 0 n) = val_main_v45 (F := Ideal) x0 x3 x5 x6 (ix2 i n) := by
  unfold val_main_v47
  refine (pad_apply_of_inside _ _ _ _ _ _ _ _ (ix3 i 0 n) ?_).trans ?_
  · intro a; match a with
    | ⟨0, _⟩ => show (i : ℕ) = 0 + (i : ℕ) * (0 + 1); omega
    | ⟨1, _⟩ => show (0 : ℕ) = 0 + 0 * (0 + 1); omega
    | ⟨2, _⟩ => show (n : ℕ) = 0 + (n : ℕ) * (0 + 1); omega
  · generalize h : val_main_v45 (F := Ideal) x0 x3 x5 x6 = a
    pointwise [val_main_v46, h]

/-- The first gate's gradient has nothing in the second gate's place. -/
theorem ref_v47' (i : Fin 4096) (n : Fin 1024) : val_main_v47 (F := Ideal) x0 x3 x5 x6 (ix3 i 1 n) = 0 := by
  unfold val_main_v47
  refine (pad_apply_of_not_inside _ _ _ _ _ _ _ _ (1 : Fin 3) ?_).trans (zero_of_bits _)
  show ¬ (0 ≤ 1 ∧ (1 - 0) % (0 + 1) = 0 ∧ (1 - 0) / (0 + 1) < 1)
  omega

/-- The second gate's gradient in its place among the gates. -/
theorem ref_v43 (i : Fin 4096) (n : Fin 1024) : val_main_v43 (F := Ideal) x1 x4 x5 x6 (ix3 i 1 n) = val_main_v41 (F := Ideal) x1 x4 x5 x6 (ix2 i n) := by
  unfold val_main_v43
  refine (pad_apply_of_inside _ _ _ _ _ _ _ _ (ix3 i 0 n) ?_).trans ?_
  · intro a; match a with
    | ⟨0, _⟩ => show (i : ℕ) = 0 + (i : ℕ) * (0 + 1); omega
    | ⟨1, _⟩ => show (1 : ℕ) = 1 + 0 * (0 + 1); omega
    | ⟨2, _⟩ => show (n : ℕ) = 0 + (n : ℕ) * (0 + 1); omega
  · generalize h : val_main_v41 (F := Ideal) x1 x4 x5 x6 = a
    pointwise [val_main_v42, h]

/-- The second gate's gradient has nothing in the first gate's place. -/
theorem ref_v43' (i : Fin 4096) (n : Fin 1024) : val_main_v43 (F := Ideal) x1 x4 x5 x6 (ix3 i 0 n) = 0 := by
  unfold val_main_v43
  refine (pad_apply_of_not_inside _ _ _ _ _ _ _ _ (1 : Fin 3) ?_).trans (zero_of_bits _)
  show ¬ (1 ≤ 0 ∧ (0 - 1) % (0 + 1) = 0 ∧ (0 - 1) / (0 + 1) < 1)
  omega

/-- The gates' gradient in the first half. -/
theorem ref_v63_lo (i : Fin 4096) (n : Fin 1024) : val_main_v63 (F := Ideal) x0 x1 x3 x4 x5 x6 (ix2 i (lo n))
    = prod (row (kD x6) i) (row (kWo x5)) n * prod (row (kA x0) i) (row (kWa x3)) n := by
  have e : val_main_v63 (F := Ideal) x0 x1 x3 x4 x5 x6 (ix2 i (lo n)) = val_main_v48 (F := Ideal) x0 x1 x3 x4 x5 x6 (ix3 i 0 n) := by
    generalize h : val_main_v48 (F := Ideal) x0 x1 x3 x4 x5 x6 = a
    pointwise [val_main_v63, h, lo]
    exact congrArg₂ (fun (p : Fin 2) (q : Fin 1024) => a (ix3 i p q)) (Fin.ext (Nat.div_eq_of_lt n.isLt)) (Fin.ext (Nat.mod_eq_of_lt n.isLt))
  have e' : val_main_v48 (F := Ideal) x0 x1 x3 x4 x5 x6 (ix3 i 0 n)
      = val_main_v43 (F := Ideal) x1 x4 x5 x6 (ix3 i 0 n) + val_main_v47 (F := Ideal) x0 x3 x5 x6 (ix3 i 0 n) := rfl
  have e'' : val_main_v45 (F := Ideal) x0 x3 x5 x6 (ix2 i n) = val_main_v39 (F := Ideal) x5 x6 (ix2 i n) * val_main_v12 (F := Ideal) x0 x3 (ix2 i n) := rfl
  rw [e, e', ref_v43', ref_v47, e'', ref_v39, ref_v12, zero_add]

/-- The gates' gradient in the second half. -/
theorem ref_v63_hi (i : Fin 4096) (n : Fin 1024) : val_main_v63 (F := Ideal) x0 x1 x3 x4 x5 x6 (ix2 i (hi n))
    = prod (row (kD x6) i) (row (kWo x5)) n * (prod (row (kS x1) i) (row (kWg x4)) (lo n) * sg (prod (row (kS x1) i) (row (kWg x4)) (hi n))) := by
  have e : val_main_v63 (F := Ideal) x0 x1 x3 x4 x5 x6 (ix2 i (hi n)) = val_main_v48 (F := Ideal) x0 x1 x3 x4 x5 x6 (ix3 i 1 n) := by
    generalize h : val_main_v48 (F := Ideal) x0 x1 x3 x4 x5 x6 = a
    pointwise [val_main_v63, h, hi]
    exact congrArg (fun p : Fin 2 => a (ix3 i p n)) (Fin.ext (by show (1024 + (n : ℕ)) / 1024 = 1; omega))
  have e' : val_main_v48 (F := Ideal) x0 x1 x3 x4 x5 x6 (ix3 i 1 n)
      = val_main_v43 (F := Ideal) x1 x4 x5 x6 (ix3 i 1 n) + val_main_v47 (F := Ideal) x0 x3 x5 x6 (ix3 i 1 n) := rfl
  have e'' : val_main_v41 (F := Ideal) x1 x4 x5 x6 (ix2 i n) = val_main_v39 (F := Ideal) x5 x6 (ix2 i n)
      * (val_main_v15 (F := Ideal) x1 x4 (ix2 i n) * val_main_v22 (F := Ideal) x1 x4 (ix2 i n)) := rfl
  rw [e, e', ref_v43, ref_v47', e'', ref_v39, ref_v15, ref_v22, add_zero]

/-- The gates' arguments' gradient. -/
theorem ref_v64 (i : Fin 4096) (n : Fin 2048) : val_main_v64 (F := Ideal) x0 x1 x2 x3 x4 x5 x6 (ix2 i n)
    = dpA (kD x6) (kG x2) (kA x0) (kS x1) (kWo x5) (kWa x3) (kWg x4) (ix2 i n) := by
  have e : val_main_v64 (F := Ideal) x0 x1 x2 x3 x4 x5 x6 (ix2 i n)
      = val_main_v63 (F := Ideal) x0 x1 x3 x4 x5 x6 (ix2 i n) * val_main_v9 (F := Ideal) x2 (ix2 i n) := rfl
  rw [e, ref_v9]
  by_cases h : (n : ℕ) < 1024
  · obtain ⟨k, rfl⟩ : ∃ k : Fin 1024, n = lo k := ⟨⟨n, h⟩, rfl⟩
    rw [ref_v63_lo]
    refine Eq.trans ?_ (side_lo (dpa (row (kD x6) i) (row (kG x2) i) (row (kA x0) i) (row (kWo x5)) (row (kWa x3))) (dpb (row (kD x6) i) (row (kG x2) i) (row (kS x1) i) (row (kWo x5)) (row (kWg x4))) (lo k) k rfl).symm
    unfold dpa
    simp only [mul_comm, mul_left_comm, mul_assoc]
  · obtain ⟨k, rfl⟩ : ∃ k : Fin 1024, n = hi k := ⟨⟨n - 1024, by omega⟩, Fin.ext (by show (n : ℕ) = 1024 + ((n : ℕ) - 1024); omega)⟩
    rw [ref_v63_hi]
    refine Eq.trans ?_ (side_hi (dpa (row (kD x6) i) (row (kG x2) i) (row (kA x0) i) (row (kWo x5)) (row (kWa x3))) (dpb (row (kD x6) i) (row (kG x2) i) (row (kS x1) i) (row (kWo x5)) (row (kWg x4))) (hi k) k rfl).symm
    unfold dpb
    ac_rfl

/-- A sum over two halves side by side. -/
theorem sum_side (f g : Fin 1024 → EReal) (w : Fin 2048 → EReal) :
    ∑ k : Fin 2048, side f g k * w k = (∑ k : Fin 1024, f k * w (lo k)) + ∑ k : Fin 1024, g k * w (hi k) := by
  refine (Fin.sum_univ_add (fun k : Fin (1024 + 1024) => side f g k * w k)).trans ?_
  refine congrArg₂ (· + ·) (Finset.sum_congr rfl fun k _ => ?_) (Finset.sum_congr rfl fun k _ => ?_)
  · exact congrArg (· * w (lo k)) (side_lo f g (lo k) k rfl)
  · exact congrArg (· * w (hi k)) (side_hi f g (hi k) k rfl)

/-- The scan's rows' gradient. -/
theorem ref_v57 (i : Fin 4096) (n : Fin 512) : val_main_v57 (F := Ideal) x1 x2 x4 x5 x6 (ix2 i n)
    = dysA (kD x6) (kG x2) (kS x1) (kWo x5) (kWg x4) (ix2 i n) := by
  have e : val_main_v57 (F := Ideal) x1 x2 x4 x5 x6 (ix2 i n) = ∑ k : Fin 2048, val_main_v54 (F := Ideal) x1 x2 x4 x5 x6 (ix2 i k) * x4 (ix2 n k) := by
    generalize h : val_main_v54 (F := Ideal) x1 x2 x4 x5 x6 = a
    pointwise [val_main_v57, h]
  rw [e]
  refine (Finset.sum_congr rfl fun k _ => congrArg (· * x4 (ix2 n k)) (ref_v54 x1 x2 x4 x5 x6 i k)).trans ?_
  exact sum_side _ _ (fun k => x4 (ix2 n k))

/-- The attention's rows' gradient. -/
theorem ref_v61 (i : Fin 4096) (n : Fin 256) : val_main_v61 (F := Ideal) x2 x3 x5 x6 (ix2 i n)
    = datA (kD x6) (kG x2) (kWo x5) (kWa x3) (ix2 i n) := by
  have e : val_main_v61 (F := Ideal) x2 x3 x5 x6 (ix2 i n) = ∑ k : Fin 1024, val_main_v44 (F := Ideal) x2 x5 x6 (ix2 i k) * x3 (ix2 n k) := by
    generalize h : val_main_v44 (F := Ideal) x2 x5 x6 = a
    pointwise [val_main_v61, h]
  rw [e]
  exact Finset.sum_congr rfl fun k _ => congrArg (· * x3 (ix2 n k)) (ref_v44 x2 x5 x6 i k)

/-- Two matrices with the same entries are the same. -/
theorem same {a b : ℕ} {f g : (⟨2, ![a, b]⟩ : Shape).Idx → EReal} (h : ∀ (i : Fin a) (n : Fin b), f (ix2 i n) = g (ix2 i n)) : f = g := by
  funext j
  rw [two j]
  exact h (j 0) (j 1)

/-- The gradient of the attention. -/
theorem eq_a : val_main_v62 (F := Ideal) x2 x3 x5 x6 = unA (datA (kD x6) (kG x2) (kWo x5) (kWa x3)) :=
  congrArg unA (same (f := val_main_v61 (F := Ideal) x2 x3 x5 x6) (ref_v61 x2 x3 x5 x6))

/-- The gradient of the scan's result. -/
theorem eq_y : val_main_v58 (F := Ideal) x1 x2 x4 x5 x6 = unS (dysA (kD x6) (kG x2) (kS x1) (kWo x5) (kWg x4)) :=
  congrArg unS (same (f := val_main_v57 (F := Ideal) x1 x2 x4 x5 x6) (ref_v57 x1 x2 x4 x5 x6))

/-- The gradient of the gates' arguments. -/
theorem eq_p : val_main_v65 (F := Ideal) x0 x1 x2 x3 x4 x5 x6 = unP (dpA (kD x6) (kG x2) (kA x0) (kS x1) (kWo x5) (kWa x3) (kWg x4)) :=
  congrArg unP (same (f := val_main_v64 (F := Ideal) x0 x1 x2 x3 x4 x5 x6) (ref_v64 x0 x1 x2 x3 x4 x5 x6))

/-- The gradient of the attention's output matrix. -/
theorem eq_wa : val_main_v60 (F := Ideal) x0 x2 x5 x6 = unWa (aoT (dadA (kD x6) (kG x2) (kWo x5)) (kA x0)) := by
  refine same fun i n => ?_
  have e : val_main_v60 (F := Ideal) x0 x2 x5 x6 (ix2 i n)
      = ∑ k : Fin 4096, val_main_v44 (F := Ideal) x2 x5 x6 (ix2 k n) * val_main_v11 (F := Ideal) x0 (ix2 k i) := by
    generalize h : val_main_v44 (F := Ideal) x2 x5 x6 = a
    generalize h' : val_main_v11 (F := Ideal) x0 = b
    pointwise [val_main_v60, val_main_v59, h, h']
  refine e.trans ?_
  exact Finset.sum_congr rfl fun k _ => congrArg (· * val_main_v11 (F := Ideal) x0 (ix2 k i)) (ref_v44 x2 x5 x6 k n)

/-- The gradient of the gated product's matrix. -/
theorem eq_wg : val_main_v56 (F := Ideal) x1 x2 x4 x5 x6 = unWg (gluT (dzA (kD x6) (kG x2) (kS x1) (kWo x5) (kWg x4)) (kS x1)) := by
  refine same fun i n => ?_
  have e : val_main_v56 (F := Ideal) x1 x2 x4 x5 x6 (ix2 i n)
      = ∑ k : Fin 4096, val_main_v54 (F := Ideal) x1 x2 x4 x5 x6 (ix2 k n) * val_main_v13 (F := Ideal) x1 (ix2 k i) := by
    generalize h : val_main_v54 (F := Ideal) x1 x2 x4 x5 x6 = a
    generalize h' : val_main_v13 (F := Ideal) x1 = b
    pointwise [val_main_v56, val_main_v55, h, h']
  refine e.trans ?_
  exact Finset.sum_congr rfl fun k _ => congrArg (· * val_main_v13 (F := Ideal) x1 (ix2 k i)) (ref_v54 x1 x2 x4 x5 x6 k n)

/-- The gradient of the output matrix. -/
theorem eq_wo : val_main_v38 (F := Ideal) x0 x1 x2 x3 x4 x6 = unWo (outW (kM x0 x1 x2 x3 x4) (kD x6)) := by
  refine same fun i n => ?_
  have e : val_main_v38 (F := Ideal) x0 x1 x2 x3 x4 x6 (ix2 i n)
      = ∑ k : Fin 4096, val_main_v36 (F := Ideal) x6 (ix2 k n) * val_main_v33 (F := Ideal) x0 x1 x2 x3 x4 (ix2 k i) := by
    generalize h : val_main_v36 (F := Ideal) x6 = a
    generalize h' : val_main_v33 (F := Ideal) x0 x1 x2 x3 x4 = b
    pointwise [val_main_v38, val_main_v37, h, h']
  refine e.trans ?_
  exact Finset.sum_congr rfl fun k _ => mul_comm _ _

end Cert.Kernel4Ideal.Merge

end
-- ==== Proof.BigRun.lean ====
/- The run of the update of the gating's matrix, at the contents its last boundary states. -/
module

public import proofs.«01_k».proof.Proof.Gen.Kernel5Ideal.Frame
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel5Ideal.Big

open Cert.Kernel5Ideal Cert.Kernel5Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs, and every buffer ends at the contents of its last boundary. -/
theorem run_all : θ_run defs (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.Kernel5Ideal.Big

end
-- ==== Proof.Update.lean ====
/- The optimiser's update of one entry: the two moments and the step. -/
module

public import Idealize.ShloMosaic.Lib.Pipeline.ValueKit

@[expose] public section

set_option maxRecDepth 16384

noncomputable section

open Idealize.ShloMosaic

namespace Cert.Update

/-- The first moment after the step. -/
def newM (g m : EReal) : EReal := Ideal.ofBits .f32 0x3F666666#32 * m + Ideal.ofBits .f32 0x3DCCCCCD#32 * g

/-- The second moment after the step. -/
def newV (g v : EReal) : EReal := Ideal.ofBits .f32 0x3F7FBE77#32 * v + Ideal.ofBits .f32 0x3A83126F#32 * (g * g)

/-- The change of the weight. -/
def delta (g w m v : EReal) : EReal :=
  Ideal.ofBits .f32 0xBA83126F#32 * (Ideal.div (Ideal.div (newM g m) (Ideal.ofBits .f32 0x3F26BD02#32))
      (Ideal.sqrt (Ideal.div (newV g v) (Ideal.ofBits .f32 0x3C231ACC#32)) + Ideal.ofBits .f32 0x322BCC77#32)
    + Ideal.ofBits .f32 0x3C23D70A#32 * w)

end Cert.Update

end
-- ==== Proof.BigCalls.lean ====
/- The optimiser's two calls for the gating's matrix: the sum over the devices' parts and the update. -/
module

public import proofs.«01_k».proof.Proof.Update
public import proofs.«01_k».proof.Proof.Gen.Kernel5Ideal.Frame

@[expose] public section

set_option maxRecDepth 16384

noncomputable section

open Idealize.ShloMosaic Idealize.ShloMosaic.TcCoe Idealize.SL.Sem
open Idealize.ShloMosaic.Pipeline (Dat)

namespace Cert.Kernel5Ideal.Big

open Cert.Kernel5Ideal Cert.Kernel5Ideal.Gen Cert.Update

/-- The sum of the eight parts. -/
def sumP (p : FVec Ideal S8x256x512 .bf16) : FVec Ideal S256x512 .f32 := fun j => ∑ k : Fin 8, p (ix3 k (j 0) (j 1))

/-- The first moment, entry by entry. -/
def mOf (g : FVec Ideal S1x512x256 .f32) (m : FVec Ideal S512x256 .f32) : FVec Ideal S512x256 .f32 :=
  fun j => newM (g (ix3 0 (j 0) (j 1))) (m j)

/-- The second moment, entry by entry. -/
def vOf (g : FVec Ideal S1x512x256 .f32) (v : FVec Ideal S512x256 .f32) : FVec Ideal S512x256 .f32 :=
  fun j => newV (g (ix3 0 (j 0) (j 1))) (v j)

/-- The weight's change, entry by entry. -/
def dOf (g : FVec Ideal S1x512x256 .f32) (w m v : FVec Ideal S512x256 .f32) : FVec Ideal S512x256 .f32 :=
  fun j => delta (g (ix3 0 (j 0) (j 1))) (w j) (m j) (v j)

/-- The gradient without its leading axis. -/
def gOf (g : FVec Ideal S1x512x256 .f32) : FVec Ideal S512x256 .f32 := fun j => g (ix3 0 (j 0) (j 1))

section Calls

variable (V : (c : Dev nD) → (b : Ref sig .tc) → Buf (Elt Ideal) ((c : Thread nD τ).loc b))

/-- The sum's windows over its grid: blocks of 128 rows. -/
theorem idx0 : ∀ t : Fin cfg0.N, win0_0.index t = ![0, t.val, 0] ∧ win0_1.index t = ![t.val, 0] :=
  (by decide +kernel : ∀ t : Fin grid0.N, _)

/-- The update's windows over its grid: blocks of 256 rows. -/
theorem idx1 : ∀ t : Fin cfg1.N, win1_0.index t = ![0, t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0]
    ∧ win1_7.index t = ![t.val, 0] :=
  (by decide +kernel : ∀ t : Fin grid1.N, _)

/-- The array after the sum. -/
theorem final0 (c : Dev nD) : (dat0 V c).arrAt 1 cfg0.N = sumP (V c main_v0) := by
  refine (dat0 V c).arrAt_eq_of_covers 1 _ (by decide +kernel) fun t _ y => ?_
  blk_simp
  rw [after0_1]; frame_out
  simp only [sumP, Fin.sum_univ_eight]
  pointwise [k0_pay1, k0_pay2]
  blk_point [iblk0, idx0 t]

/-- The gradient's array after the update. -/
theorem final1_4 (c : Dev nD) : (dat1 V c).arrAt 4 cfg1.N = gOf (V c main_v3) := by
  refine (dat1 V c).arrAt_eq_of_covers 4 _ (by decide +kernel) fun t _ y => ?_
  blk_simp
  rw [after1_4]; frame_out
  pointwise [k1_pay4, k1_pay3, gOf]
  blk_point [iblk1, idx1 t]

/-- The weight's change after the update. -/
theorem final1_5 (c : Dev nD) : (dat1 V c).arrAt 5 cfg1.N
    = dOf (V c main_v3) (V c main_arg1) (V c main_arg2) (V c main_arg3) := by
  refine (dat1 V c).arrAt_eq_of_covers 5 _ (by decide +kernel) fun t _ y => ?_
  blk_simp
  rw [after1_5]; frame_out
  pointwise [k1_pay7, k1_pay5, k1_pay6, k1_pay3, dOf, delta, newM, newV]
  blk_point [iblk1, idx1 t]

/-- The first moment after the update. -/
theorem final1_6 (c : Dev nD) : (dat1 V c).arrAt 6 cfg1.N = mOf (V c main_v3) (V c main_arg2) := by
  refine (dat1 V c).arrAt_eq_of_covers 6 _ (by decide +kernel) fun t _ y => ?_
  blk_simp
  rw [after1_6]; frame_out
  pointwise [k1_pay1, k1_pay5, k1_pay3, mOf, newM]
  blk_point [iblk1, idx1 t]

/-- The second moment after the update. -/
theorem final1_7 (c : Dev nD) : (dat1 V c).arrAt 7 cfg1.N = vOf (V c main_v3) (V c main_arg3) := by
  refine (dat1 V c).arrAt_eq_of_covers 7 _ (by decide +kernel) fun t _ y => ?_
  blk_simp
  rw [after1_7]; frame_out
  pointwise [k1_pay2, k1_pay6, k1_pay3, vOf, newV]
  blk_point [iblk1, idx1 t]

end Calls

variable (m : (ℓ : Loc nD τ sig) → Buf (Elt Ideal) ℓ) (ρ : Dev nD → PrngReg)

/-- The parts' sum, transposed, with a leading axis. -/
def kG (p : FVec Ideal S8x256x512 .f32) : FVec Ideal S1x512x256 .f32 := fun j => ∑ k : Fin 8, p (ix3 k (j 2) (j 1))

/-- The parts as the first call finds them. -/
theorem entry_v0 (c : Dev nD) : V1 m ρ c main_v0 = m ((c : Thread nD τ).loc main_arg0) := by
  unfold V1 W1; after_results; rfl

/-- The gradient as the second call finds it. -/
theorem three_v3 (c : Dev nD) : V3 m ρ c main_v3 = kG (m ((c : Thread nD τ).loc main_arg0)) := by
  have e : V2 m ρ c main_v1 = sumP (m ((c : Thread nD τ).loc main_arg0)) := by
    rw [← hF0 m ρ c 1, final0, entry_v0]
  unfold V3 W3; after_results
  rw [show W2 m ρ c (Proc.devRef .tc main_v1) = _ from e]
  funext j
  pointwise [kG, sumP]

/-- The arguments are as launched before the second call. -/
theorem three_args (c : Dev nD) : V3 m ρ c main_arg1 = m ((c : Thread nD τ).loc main_arg1)
    ∧ V3 m ρ c main_arg2 = m ((c : Thread nD τ).loc main_arg2) ∧ V3 m ρ c main_arg3 = m ((c : Thread nD τ).loc main_arg3) :=
  ⟨W3_args m ρ c main_arg1 (by decide), W3_args m ρ c main_arg2 (by decide), W3_args m ρ c main_arg3 (by decide)⟩

/-- The first result: the gradient. -/
theorem out_g (c : Dev nD) : W4 m ρ c (Proc.devRef .tc main_v4_0) = gOf (kG (m ((c : Thread nD τ).loc main_arg0))) := by
  refine (hF1 m ρ c 4).symm.trans ?_
  rw [final1_4, three_v3]

/-- The second result: the weight's change. -/
theorem out_d (c : Dev nD) : W4 m ρ c (Proc.devRef .tc main_v4_1) = dOf (kG (m ((c : Thread nD τ).loc main_arg0)))
    (m ((c : Thread nD τ).loc main_arg1)) (m ((c : Thread nD τ).loc main_arg2)) (m ((c : Thread nD τ).loc main_arg3)) := by
  refine (hF1 m ρ c 5).symm.trans ?_
  rw [final1_5, three_v3, (three_args m ρ c).1, (three_args m ρ c).2.1, (three_args m ρ c).2.2]

/-- The third result: the first moment. -/
theorem out_m (c : Dev nD) : W4 m ρ c (Proc.devRef .tc main_v4_2) = mOf (kG (m ((c : Thread nD τ).loc main_arg0)))
    (m ((c : Thread nD τ).loc main_arg2)) := by
  refine (hF1 m ρ c 6).symm.trans ?_
  rw [final1_6, three_v3, (three_args m ρ c).2.1]

/-- The fourth result: the second moment. -/
theorem out_v (c : Dev nD) : W4 m ρ c (Proc.devRef .tc main_v4_3) = vOf (kG (m ((c : Thread nD τ).loc main_arg0)))
    (m ((c : Thread nD τ).loc main_arg3)) := by
  refine (hF1 m ρ c 7).symm.trans ?_
  rw [final1_7, three_v3, (three_args m ρ c).2.2]

end Cert.Kernel5Ideal.Big

end
-- ==== Proof.BigEq.lean ====
/- The update of the gating's matrix: the reference, and the equation of the two programs. -/
module

public import proofs.«01_k».proof.Proof.BigCalls
public import proofs.«01_k».proof.Proof.Gen.Reference5Ideal.Read

@[expose] public section

set_option maxRecDepth 16384

noncomputable section

open Idealize.ShloMosaic Idealize.ShloMosaic.TcCoe Idealize.SL.Sem

namespace Cert.Kernel5Ideal.Big

open Cert.Kernel5Ideal Cert.Update Cert.Reference5Ideal.Read

variable (p : FVec Ideal S8x256x512 .f32) (w m v : FVec Ideal S512x256 .f32)

/-- The gradient. -/
theorem eq_g : val_main_v1 (F := Ideal) p = gOf (kG p) := by
  funext j
  pointwise [val_main_v1, val_main_v0, val_main_cst, gOf, kG]

/-- The first moment. -/
theorem eq_m : val_main_v6 (F := Ideal) p m = mOf (kG p) m := by
  funext j
  have e : val_main_v6 (F := Ideal) p m j = newM (val_main_v1 (F := Ideal) p j) (m j) := by
    generalize hg : val_main_v1 (F := Ideal) p = y
    pointwise [val_main_v6, val_main_v5, val_main_v4, val_main_v3, val_main_v2, val_main_cst_0, val_main_cst_1, newM, hg]
  rw [e, eq_g p]; rfl

/-- The second moment. -/
theorem eq_v : val_main_v12 (F := Ideal) p v = vOf (kG p) v := by
  funext j
  have e : val_main_v12 (F := Ideal) p v j = newV (val_main_v1 (F := Ideal) p j) (v j) := by
    generalize hg : val_main_v1 (F := Ideal) p = y
    pointwise [val_main_v12, val_main_v11, val_main_v10, val_main_v9, val_main_v8, val_main_v7, val_main_cst_2, val_main_cst_3, newV, hg]
  rw [e, eq_g p]; rfl

/-- The weight's change. -/
theorem eq_d : val_main_v25 (F := Ideal) p w m v = dOf (kG p) w m v := by
  funext j
  have em : val_main_v6 (F := Ideal) p m j = newM (gOf (kG p) j) (m j) := congrFun (eq_m p m) j
  have ev : val_main_v12 (F := Ideal) p v j = newV (gOf (kG p) j) (v j) := congrFun (eq_v p v) j
  unfold dOf delta
  rw [show newM (kG p (ix3 0 (j 0) (j 1))) (m j) = _ from em.symm, show newV (kG p (ix3 0 (j 0) (j 1))) (v j) = _ from ev.symm]
  generalize hm : val_main_v6 (F := Ideal) p m = y
  generalize hv : val_main_v12 (F := Ideal) p v = z
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8, hm, hv]

end Cert.Kernel5Ideal.Big

end
-- ==== Proof.AttnRun.lean ====
/- The run of the update of the attention branch's matrix, at the contents its last boundary states. -/
module

public import proofs.«01_k».proof.Proof.Gen.Kernel6Ideal.Frame
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel6Ideal.Attn

open Cert.Kernel6Ideal Cert.Kernel6Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs, and every buffer ends at the contents of its last boundary. -/
theorem run_all : θ_run defs (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.Kernel6Ideal.Attn

end
-- ==== Proof.AttnCalls.lean ====
/- The optimiser's two calls for the attention branch's matrix: the sum over the devices' parts and the update. -/
module

public import proofs.«01_k».proof.Proof.Update
public import proofs.«01_k».proof.Proof.Gen.Kernel6Ideal.Frame

@[expose] public section

set_option maxRecDepth 16384

noncomputable section

open Idealize.ShloMosaic Idealize.ShloMosaic.TcCoe Idealize.SL.Sem
open Idealize.ShloMosaic.Pipeline (Dat)

namespace Cert.Kernel6Ideal.Attn

open Cert.Kernel6Ideal Cert.Kernel6Ideal.Gen Cert.Update

/-- The sum of the eight parts. -/
def sumP (p : FVec Ideal S8x128x256 .bf16) : FVec Ideal S128x256 .f32 := fun j => ∑ k : Fin 8, p (ix3 k (j 0) (j 1))

/-- The first moment, entry by entry. -/
def mOf (g : FVec Ideal S1x256x128 .f32) (m : FVec Ideal S256x128 .f32) : FVec Ideal S256x128 .f32 :=
  fun j => newM (g (ix3 0 (j 0) (j 1))) (m j)

/-- The second moment, entry by entry. -/
def vOf (g : FVec Ideal S1x256x128 .f32) (v : FVec Ideal S256x128 .f32) : FVec Ideal S256x128 .f32 :=
  fun j => newV (g (ix3 0 (j 0) (j 1))) (v j)

/-- The weight's change, entry by entry. -/
def dOf (g : FVec Ideal S1x256x128 .f32) (w m v : FVec Ideal S256x128 .f32) : FVec Ideal S256x128 .f32 :=
  fun j => delta (g (ix3 0 (j 0) (j 1))) (w j) (m j) (v j)

/-- The gradient without its leading axis. -/
def gOf (g : FVec Ideal S1x256x128 .f32) : FVec Ideal S256x128 .f32 := fun j => g (ix3 0 (j 0) (j 1))

section Calls

variable (V : (c : Dev nD) → (b : Ref sig .tc) → Buf (Elt Ideal) ((c : Thread nD τ).loc b))

/-- The sum's windows over its grid: blocks of 64 rows. -/
theorem idx0 : ∀ t : Fin cfg0.N, win0_0.index t = ![0, t.val, 0] ∧ win0_1.index t = ![t.val, 0] :=
  (by decide +kernel : ∀ t : Fin grid0.N, _)

/-- The update's windows over its grid: blocks of 128 rows. -/
theorem idx1 : ∀ t : Fin cfg1.N, win1_0.index t = ![0, t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0]
    ∧ win1_7.index t = ![t.val, 0] :=
  (by decide +kernel : ∀ t : Fin grid1.N, _)

/-- The array after the sum. -/
theorem final0 (c : Dev nD) : (dat0 V c).arrAt 1 cfg0.N = sumP (V c main_v0) := by
  refine (dat0 V c).arrAt_eq_of_covers 1 _ (by decide +kernel) fun t _ y => ?_
  blk_simp
  rw [after0_1]; frame_out
  simp only [sumP, Fin.sum_univ_eight]
  pointwise [k0_pay1, k0_pay2]
  blk_point [iblk0, idx0 t]

/-- The gradient's array after the update. -/
theorem final1_4 (c : Dev nD) : (dat1 V c).arrAt 4 cfg1.N = gOf (V c main_v3) := by
  refine (dat1 V c).arrAt_eq_of_covers 4 _ (by decide +kernel) fun t _ y => ?_
  blk_simp
  rw [after1_4]; frame_out
  pointwise [k1_pay4, k1_pay3, gOf]
  blk_point [iblk1, idx1 t]

/-- The weight's change after the update. -/
theorem final1_5 (c : Dev nD) : (dat1 V c).arrAt 5 cfg1.N
    = dOf (V c main_v3) (V c main_arg1) (V c main_arg2) (V c main_arg3) := by
  refine (dat1 V c).arrAt_eq_of_covers 5 _ (by decide +kernel) fun t _ y => ?_
  blk_simp
  rw [after1_5]; frame_out
  pointwise [k1_pay7, k1_pay5, k1_pay6, k1_pay3, dOf, delta, newM, newV]
  blk_point [iblk1, idx1 t]

/-- The first moment after the update. -/
theorem final1_6 (c : Dev nD) : (dat1 V c).arrAt 6 cfg1.N = mOf (V c main_v3) (V c main_arg2) := by
  refine (dat1 V c).arrAt_eq_of_covers 6 _ (by decide +kernel) fun t _ y => ?_
  blk_simp
  rw [after1_6]; frame_out
  pointwise [k1_pay1, k1_pay5, k1_pay3, mOf, newM]
  blk_point [iblk1, idx1 t]

/-- The second moment after the update. -/
theorem final1_7 (c : Dev nD) : (dat1 V c).arrAt 7 cfg1.N = vOf (V c main_v3) (V c main_arg3) := by
  refine (dat1 V c).arrAt_eq_of_covers 7 _ (by decide +kernel) fun t _ y => ?_
  blk_simp
  rw [after1_7]; frame_out
  pointwise [k1_pay2, k1_pay6, k1_pay3, vOf, newV]
  blk_point [iblk1, idx1 t]

end Calls

variable (m : (ℓ : Loc nD τ sig) → Buf (Elt Ideal) ℓ) (ρ : Dev nD → PrngReg)

/-- The parts' sum, transposed, with a leading axis. -/
def kG (p : FVec Ideal S8x128x256 .f32) : FVec Ideal S1x256x128 .f32 := fun j => ∑ k : Fin 8, p (ix3 k (j 2) (j 1))

/-- The parts as the first call finds them. -/
theorem entry_v0 (c : Dev nD) : V1 m ρ c main_v0 = m ((c : Thread nD τ).loc main_arg0) := by
  unfold V1 W1; after_results; rfl

/-- The gradient as the second call finds it. -/
theorem three_v3 (c : Dev nD) : V3 m ρ c main_v3 = kG (m ((c : Thread nD τ).loc main_arg0)) := by
  have e : V2 m ρ c main_v1 = sumP (m ((c : Thread nD τ).loc main_arg0)) := by
    rw [← hF0 m ρ c 1, final0, entry_v0]
  unfold V3 W3; after_results
  rw [show W2 m ρ c (Proc.devRef .tc main_v1) = _ from e]
  funext j
  pointwise [kG, sumP]

/-- The arguments are as launched before the second call. -/
theorem three_args (c : Dev nD) : V3 m ρ c main_arg1 = m ((c : Thread nD τ).loc main_arg1)
    ∧ V3 m ρ c main_arg2 = m ((c : Thread nD τ).loc main_arg2) ∧ V3 m ρ c main_arg3 = m ((c : Thread nD τ).loc main_arg3) :=
  ⟨W3_args m ρ c main_arg1 (by decide), W3_args m ρ c main_arg2 (by decide), W3_args m ρ c main_arg3 (by decide)⟩

/-- The first result: the gradient. -/
theorem out_g (c : Dev nD) : W4 m ρ c (Proc.devRef .tc main_v4_0) = gOf (kG (m ((c : Thread nD τ).loc main_arg0))) := by
  refine (hF1 m ρ c 4).symm.trans ?_
  rw [final1_4, three_v3]

/-- The second result: the weight's change. -/
theorem out_d (c : Dev nD) : W4 m ρ c (Proc.devRef .tc main_v4_1) = dOf (kG (m ((c : Thread nD τ).loc main_arg0)))
    (m ((c : Thread nD τ).loc main_arg1)) (m ((c : Thread nD τ).loc main_arg2)) (m ((c : Thread nD τ).loc main_arg3)) := by
  refine (hF1 m ρ c 5).symm.trans ?_
  rw [final1_5, three_v3, (three_args m ρ c).1, (three_args m ρ c).2.1, (three_args m ρ c).2.2]

/-- The third result: the first moment. -/
theorem out_m (c : Dev nD) : W4 m ρ c (Proc.devRef .tc main_v4_2) = mOf (kG (m ((c : Thread nD τ).loc main_arg0)))
    (m ((c : Thread nD τ).loc main_arg2)) := by
  refine (hF1 m ρ c 6).symm.trans ?_
  rw [final1_6, three_v3, (three_args m ρ c).2.1]

/-- The fourth result: the second moment. -/
theorem out_v (c : Dev nD) : W4 m ρ c (Proc.devRef .tc main_v4_3) = vOf (kG (m ((c : Thread nD τ).loc main_arg0)))
    (m ((c : Thread nD τ).loc main_arg3)) := by
  refine (hF1 m ρ c 7).symm.trans ?_
  rw [final1_7, three_v3, (three_args m ρ c).2.2]

end Cert.Kernel6Ideal.Attn

end
-- ==== Proof.AttnEq.lean ====
/- The update of the attention branch's matrix: the reference, and the equation of the two programs. -/
module

public import proofs.«01_k».proof.Proof.AttnCalls
public import proofs.«01_k».proof.Proof.Gen.Reference6Ideal.Read

@[expose] public section

set_option maxRecDepth 16384

noncomputable section

open Idealize.ShloMosaic Idealize.ShloMosaic.TcCoe Idealize.SL.Sem

namespace Cert.Kernel6Ideal.Attn

open Cert.Kernel6Ideal Cert.Update Cert.Reference6Ideal.Read

variable (p : FVec Ideal S8x128x256 .f32) (w m v : FVec Ideal S256x128 .f32)

/-- The gradient. -/
theorem eq_g : val_main_v1 (F := Ideal) p = gOf (kG p) := by
  funext j
  pointwise [val_main_v1, val_main_v0, val_main_cst, gOf, kG]

/-- The first moment. -/
theorem eq_m : val_main_v6 (F := Ideal) p m = mOf (kG p) m := by
  funext j
  have e : val_main_v6 (F := Ideal) p m j = newM (val_main_v1 (F := Ideal) p j) (m j) := by
    generalize hg : val_main_v1 (F := Ideal) p = y
    pointwise [val_main_v6, val_main_v5, val_main_v4, val_main_v3, val_main_v2, val_main_cst_0, val_main_cst_1, newM, hg]
  rw [e, eq_g p]; rfl

/-- The second moment. -/
theorem eq_v : val_main_v12 (F := Ideal) p v = vOf (kG p) v := by
  funext j
  have e : val_main_v12 (F := Ideal) p v j = newV (val_main_v1 (F := Ideal) p j) (v j) := by
    generalize hg : val_main_v1 (F := Ideal) p = y
    pointwise [val_main_v12, val_main_v11, val_main_v10, val_main_v9, val_main_v8, val_main_v7, val_main_cst_2, val_main_cst_3, newV, hg]
  rw [e, eq_g p]; rfl

/-- The weight's change. -/
theorem eq_d : val_main_v25 (F := Ideal) p w m v = dOf (kG p) w m v := by
  funext j
  have em : val_main_v6 (F := Ideal) p m j = newM (gOf (kG p) j) (m j) := congrFun (eq_m p m) j
  have ev : val_main_v12 (F := Ideal) p v j = newV (gOf (kG p) j) (v j) := congrFun (eq_v p v) j
  unfold dOf delta
  rw [show newM (kG p (ix3 0 (j 0) (j 1))) (m j) = _ from em.symm, show newV (kG p (ix3 0 (j 0) (j 1))) (v j) = _ from ev.symm]
  generalize hm : val_main_v6 (F := Ideal) p m = y
  generalize hv : val_main_v12 (F := Ideal) p v = z
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8, hm, hv]

end Cert.Kernel6Ideal.Attn

end
-- ==== Proof.SumRun.lean ====
/- The run of the sums of the small gradients and of the loss, at the contents its last boundary states. -/
module

public import proofs.«01_k».proof.Proof.Gen.Kernel7Ideal.Frame
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel7Ideal.Sums

open Cert.Kernel7Ideal Cert.Kernel7Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs, and every buffer ends at the contents of its last boundary. -/
theorem run_all : θ_run defs (onTc (τ := τ) (main (F := Ideal))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.Kernel7Ideal.Sums

end
-- ==== Proof.SumCalls.lean ====
/- The sums over the devices of the small weights' gradients and of the loss: what the two calls leave, and the results. -/
module

public import proofs.«01_k».proof.Proof.Update
public import proofs.«01_k».proof.Proof.Gen.Kernel7Ideal.Frame
public import proofs.«01_k».proof.Proof.Gen.Reference7Ideal.Read

@[expose] public section

set_option maxRecDepth 16384

noncomputable section

open Idealize.ShloMosaic Idealize.ShloMosaic.TcCoe Idealize.SL.Sem
open Idealize.ShloMosaic.Pipeline (Dat)

namespace Cert.Kernel7Ideal.Sums

open Cert.Kernel7Ideal Cert.Kernel7Ideal.Gen
open Cert.Reference7Ideal.Read hiding val_main_cst

/-- The sum of the eight parts of the first norm's gradient. -/
def sumG (p : FVec Ideal S8x8x1024 .f32) : FVec Ideal S8x1024 .f32 := fun j => ∑ k : Fin 8, p (ix3 k (j 0) (j 1))

/-- The sum of the eight packed parts. -/
def sumS (p : FVec Ideal S8x72x2048 .f32) : FVec Ideal S72x2048 .f32 := fun j => ∑ k : Fin 8, p (ix3 k (j 0) (j 1))

section Calls

variable (V : (c : Dev nD) → (b : Ref sig .tc) → Buf (Elt Ideal) ((c : Thread nD τ).loc b))

/-- The first sum's windows: the whole arrays. -/
theorem idx0 : ∀ t : Fin cfg0.N, win0_0.index t = ![0, t.val, 0] ∧ win0_1.index t = ![t.val, 0] :=
  (by decide +kernel : ∀ t : Fin grid0.N, _)

/-- The second sum's windows: the whole arrays. -/
theorem idx1 : ∀ t : Fin cfg1.N, win1_0.index t = ![0, t.val, 0] ∧ win1_1.index t = ![t.val, 0] :=
  (by decide +kernel : ∀ t : Fin grid1.N, _)

/-- The array after the first sum. -/
theorem final0 (c : Dev nD) : (dat0 V c).arrAt 1 cfg0.N = sumG (V c main_arg1) := by
  refine (dat0 V c).arrAt_eq_of_covers 1 _ (by decide +kernel) fun t _ y => ?_
  blk_simp
  rw [after0_1]; frame_out
  simp only [sumG, Fin.sum_univ_eight]
  pointwise [k0_pay1]
  blk_point [iblk0, idx0 t]

/-- The array after the second sum. -/
theorem final1 (c : Dev nD) : (dat1 V c).arrAt 1 cfg1.N = sumS (V c main_arg0) := by
  refine (dat1 V c).arrAt_eq_of_covers 1 _ (by decide +kernel) fun t _ y => ?_
  blk_simp
  rw [after1_1]; frame_out
  simp only [sumS, Fin.sum_univ_eight]
  pointwise [k1_pay1]
  blk_point [iblk1, idx1 t]

end Calls

/-- The reference's sum of the first norm's gradient. -/
theorem ref_g (p : FVec Ideal S8x8x1024 .f32) : val_main_v1 (F := Ideal) p = sumG p := by
  funext j
  pointwise [val_main_v1, Cert.Reference7Ideal.Read.val_main_cst_0, sumG]

/-- The reference's packed sum. -/
theorem ref_s (p : FVec Ideal S8x72x2048 .f32) : val_main_v0 (F := Ideal) p = sumS p := by
  funext j
  pointwise [val_main_v0, Cert.Reference7Ideal.Read.val_main_cst, sumS]

variable (m : (ℓ : Loc nD τ sig) → Buf (Elt Ideal) ℓ) (ρ : Dev nD → PrngReg)

/-- The first sum as the lines after it find it. -/
theorem one_v0 (c : Dev nD) : W1 m ρ c (Proc.devRef .tc main_v0) = val_main_v1 (F := Ideal) (m ((c : Thread nD τ).loc main_arg1)) := by
  refine (hF0 m ρ c 1).symm.trans ?_
  rw [final0, ref_g]

/-- The packed sum as the lines after it find it. -/
theorem three_v2 (c : Dev nD) : W3 m ρ c (Proc.devRef .tc main_v2) = val_main_v0 (F := Ideal) (m ((c : Thread nD τ).loc main_arg0)) := by
  refine (hF1 m ρ c 1).symm.trans ?_
  rw [final1, ref_s, show V2 m ρ c main_arg0 = _ from W2_args m ρ c main_arg0 (by decide)]

/-- The result `gradient of norm_mix_g`. -/
theorem out_v1 (c : Dev nD) : W4 m ρ c (Proc.devRef .tc main_v1) = val_main_v2 (F := Ideal) (m ((c : Thread nD τ).loc main_arg1)) := by
  rw [W4_of m ρ c main_v1 (by decide), W3_of_ne m ρ c main_v1 (by decide)]
  unfold W2; after_results
  rw [one_v0]; rfl

/-- The result `loss`. -/
theorem out_v38 (c : Dev nD) : W4 m ρ c (Proc.devRef .tc main_v38) = val_main_v38 (F := Ideal) (m ((c : Thread nD τ).loc main_arg0)) := by
  unfold W4; after_results
  rw [three_v2]; rfl

/-- The result `gradient of ssm_a_re`. -/
theorem out_v11 (c : Dev nD) : W4 m ρ c (Proc.devRef .tc main_v11) = val_main_v11 (F := Ideal) (m ((c : Thread nD τ).loc main_arg0)) := by
  unfold W4; after_results
  rw [three_v2]; rfl

/-- The result `gradient of ssm_a_im`. -/
theorem out_v14 (c : Dev nD) : W4 m ρ c (Proc.devRef .tc main_v14) = val_main_v14 (F := Ideal) (m ((c : Thread nD τ).loc main_arg0)) := by
  unfold W4; after_results
  rw [three_v2]; rfl

/-- The result `gradient of ssm_log_dt`. -/
theorem out_v17 (c : Dev nD) : W4 m ρ c (Proc.devRef .tc main_v17) = val_main_v17 (F := Ideal) (m ((c : Thread nD τ).loc main_arg0)) := by
  unfold W4; after_results
  rw [three_v2]; rfl

/-- The result `gradient of ssm_b_re`. -/
theorem out_v39 (c : Dev nD) : W4 m ρ c (Proc.devRef .tc main_v39) = val_main_v39 (F := Ideal) (m ((c : Thread nD τ).loc main_arg0)) := by
  unfold W4; after_results
  rw [three_v2]; rfl

/-- The result `gradient of ssm_b_im`. -/
theorem out_v40 (c : Dev nD) : W4 m ρ c (Proc.devRef .tc main_v40) = val_main_v40 (F := Ideal) (m ((c : Thread nD τ).loc main_arg0)) := by
  unfold W4; after_results
  rw [three_v2]; rfl

/-- The result `gradient of ssm_c_re`. -/
theorem out_v32 (c : Dev nD) : W4 m ρ c (Proc.devRef .tc main_v32) = val_main_v32 (F := Ideal) (m ((c : Thread nD τ).loc main_arg0)) := by
  unfold W4; after_results
  rw [three_v2]; rfl

/-- The result `gradient of ssm_c_im`. -/
theorem out_v36 (c : Dev nD) : W4 m ρ c (Proc.devRef .tc main_v36) = val_main_v36 (F := Ideal) (m ((c : Thread nD τ).loc main_arg0)) := by
  unfold W4; after_results
  rw [three_v2]; rfl

/-- The result `gradient of ssm_d`. -/
theorem out_v20 (c : Dev nD) : W4 m ρ c (Proc.devRef .tc main_v20) = val_main_v20 (F := Ideal) (m ((c : Thread nD τ).loc main_arg0)) := by
  unfold W4; after_results
  rw [three_v2]; rfl

/-- The result `gradient of norm_ffn_g`. -/
theorem out_v5 (c : Dev nD) : W4 m ρ c (Proc.devRef .tc main_v5) = val_main_v5 (F := Ideal) (m ((c : Thread nD τ).loc main_arg0)) := by
  unfold W4; after_results
  rw [three_v2]; rfl

/-- The result `gradient of norm_final_g`. -/
theorem out_v41 (c : Dev nD) : W4 m ρ c (Proc.devRef .tc main_v41) = val_main_v41 (F := Ideal) (m ((c : Thread nD τ).loc main_arg0)) := by
  unfold W4; after_results
  rw [three_v2]; rfl

end Cert.Kernel7Ideal.Sums

end
-- ==== Proof.RunAll.lean ====
/- The run of the whole program, at the contents its last boundary states. -/
module

public import proofs.«01_k».proof.Proof.Gen.KernelIdeal.Frame
public import proofs.«01_k».proof.Proof.Products

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Ffn

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs, and every buffer ends at the contents of its last boundary. -/
theorem run_all : θ_run defs (onTc (τ := τ) (main (F := Ideal))) ⟨m, fun _ => 0, ρ⟩ (fun r => ∀ c : Dev nD,
      ∀ b ∈ Pipeline.ucRefs τ sig, r.2.mem ((c : Thread nD τ).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.KernelIdeal.Ffn

end
-- ==== Proof.Region0.lean ====
/- What the first call leaves: the two products of the channel mixing and the gated product. -/
module

public import proofs.«01_k».proof.Proof.Products

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

variable (V : (c : Dev nD) → (b : Ref sig .tc) → Buf (Elt Ideal) ((c : Thread nD τ).loc b))

/-- The first call's windows over its grid: halves of the columns, blocks of 512 rows. -/
theorem idx0 : ∀ t : Fin cfg0.N, win0_0.index t = ![t.val % 8, 0] ∧ win0_1.index t = ![t.val / 8, 0] ∧ win0_2.index t = ![t.val / 8, 0]
    ∧ win0_3.index t = ![t.val % 8, t.val / 8] ∧ win0_4.index t = ![t.val % 8, t.val / 8] ∧ win0_5.index t = ![t.val % 8, t.val / 8] :=
  (by decide +kernel : ∀ t : Fin grid0.N, _)

/-- The gated product from its two factors. -/
def fOf (a b : FVec Ideal S4096x2816 .f32) : FVec Ideal S4096x2816 .bf16 := fun j => a j * sg (a j) * b j

/-- One block's product, row times row. -/
def blockNT (x : FVec Ideal S512x1024 .bf16) (w : FVec Ideal S1408x1024 .bf16) : FVec Ideal S512x1408 .f32 :=
  fun j => ∑ k : Fin 1024, x (ix2 (j 0) k) * w (ix2 (j 1) k)

/-- One block's gated product. -/
def blockF (x : FVec Ideal S512x1024 .bf16) (w u : FVec Ideal S1408x1024 .bf16) : FVec Ideal S512x1408 .bf16 :=
  fun j => blockNT x w j * sg (blockNT x w j) * blockNT x u j

/-- A block's product is the array's product at the block's place. -/
theorem block0_3 (c : Dev nD) (t : Fin cfg0.N) (y : S512x1408.Idx) : blockNT (iblk0 V c 0 t) (iblk0 V c 1 t) y
    = rowsNT (V c main_v15) (V c main_v18) (((cfg0.win 3).blk t).view.emb y) := by
  pointwise [blockNT, rowsNT]
  blk_point [iblk0, idx0 t]

/-- A block's second product is the array's product at the block's place. -/
theorem block0_4 (c : Dev nD) (t : Fin cfg0.N) (y : S512x1408.Idx) : blockNT (iblk0 V c 0 t) (iblk0 V c 2 t) y
    = rowsNT (V c main_v15) (V c main_v20) (((cfg0.win 4).blk t).view.emb y) := by
  pointwise [blockNT, rowsNT]
  blk_point [iblk0, idx0 t]

/-- A block's gated product is the array's at the block's place. -/
theorem block0_5 (c : Dev nD) (t : Fin cfg0.N) (y : S512x1408.Idx) : blockF (iblk0 V c 0 t) (iblk0 V c 1 t) (iblk0 V c 2 t) y
    = fOf (rowsNT (V c main_v15) (V c main_v18)) (rowsNT (V c main_v15) (V c main_v20)) (((cfg0.win 5).blk t).view.emb y) := by
  unfold blockF fOf
  rw [block0_3, block0_4]; rfl

/-- The six tiles stored for the first product make up its block. -/
theorem tiles0_3 (c : Dev nD) (t : Fin cfg0.N) (y : S512x1408.Idx) : (outsAt0 V c t).1 y = blockNT (iblk0 V c 0 t) (iblk0 V c 1 t) y := by
  unfold outsAt0; frame_out
  canon_tiles x h using (View.cover_of_tiledBy _ ![512, 128] (by sl_kernel_rfl) y)
  all_goals (open_payloads; pointwise [blockNT]; blk_point [])

/-- The array of the first product after the first call. -/
theorem final0_3 (c : Dev nD) : (dat0 V c).arrAt 3 cfg0.N = rowsNT (V c main_v15) (V c main_v18) := by
  refine (dat0 V c).arrAt_eq_of_covers 3 _ (by decide +kernel) fun t _ y => ?_
  blk_simp
  rw [after0_3]
  exact (tiles0_3 V c t y).trans (block0_3 V c t y)

/-- The six tiles stored for the second product make up its block. -/
theorem tiles0_4 (c : Dev nD) (t : Fin cfg0.N) (y : S512x1408.Idx) : (outsAt0 V c t).2.1 y = blockNT (iblk0 V c 0 t) (iblk0 V c 2 t) y := by
  unfold outsAt0; frame_out
  canon_tiles x h using (View.cover_of_tiledBy _ ![512, 128] (by sl_kernel_rfl) y)
  all_goals (open_payloads; pointwise [blockNT]; blk_point [])

/-- The array of the second product after the first call. -/
theorem final0_4 (c : Dev nD) : (dat0 V c).arrAt 4 cfg0.N = rowsNT (V c main_v15) (V c main_v20) := by
  refine (dat0 V c).arrAt_eq_of_covers 4 _ (by decide +kernel) fun t _ y => ?_
  blk_simp
  rw [after0_4]
  exact (tiles0_4 V c t y).trans (block0_4 V c t y)

/-- The six tiles stored for the gated product make up its block. -/
theorem tiles0_5 (c : Dev nD) (t : Fin cfg0.N) (y : S512x1408.Idx) : (outsAt0 V c t).2.2 y = blockF (iblk0 V c 0 t) (iblk0 V c 1 t) (iblk0 V c 2 t) y := by
  unfold outsAt0; frame_out
  canon_tiles x h using (View.cover_of_tiledBy _ ![512, 128] (by sl_kernel_rfl) y)
  all_goals (open_payloads; pointwise [blockNT, blockF, sg]; blk_point [])

/-- The array of the gated product after the first call. -/
theorem final0_5 (c : Dev nD) : (dat0 V c).arrAt 5 cfg0.N = fOf (rowsNT (V c main_v15) (V c main_v18)) (rowsNT (V c main_v15) (V c main_v20)) := by
  refine (dat0 V c).arrAt_eq_of_covers 5 _ (by decide +kernel) fun t _ y => ?_
  blk_simp
  rw [after0_5]
  exact (tiles0_5 V c t y).trans (block0_5 V c t y)

end Cert.KernelIdeal.Ffn

end
-- ==== Proof.Region1.lean ====
/- What the second call leaves: the gradients `da` and `db` of the gated product. -/
module

public import proofs.«01_k».proof.Proof.Products

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

variable (V : (c : Dev nD) → (b : Ref sig .tc) → Buf (Elt Ideal) ((c : Thread nD τ).loc b))

/-- The second call's windows over its grid: halves of the columns, blocks of 512 rows. -/
theorem idx1 : ∀ t : Fin cfg1.N, win1_0.index t = ![t.val % 8, 0] ∧ win1_1.index t = ![t.val / 8, 0]
    ∧ win1_2.index t = ![t.val % 8, t.val / 8] ∧ win1_3.index t = ![t.val % 8, t.val / 8]
    ∧ win1_4.index t = ![t.val % 8, t.val / 8] ∧ win1_5.index t = ![t.val % 8, t.val / 8] :=
  (by decide +kernel : ∀ t : Fin grid1.N, _)

/-- `da` from the incoming gradient, the weight and the two saved products. -/
def daOf (x : FVec Ideal S4096x1024 .bf16) (w : FVec Ideal S2816x1024 .bf16) (a b : FVec Ideal S4096x2816 .f32) :
    FVec Ideal S4096x2816 .bf16 := fun j => gradA (rowsNT x w j) (a j) (b j)

/-- `db` from the incoming gradient, the weight and the first saved product. -/
def dbOf (x : FVec Ideal S4096x1024 .bf16) (w : FVec Ideal S2816x1024 .bf16) (a : FVec Ideal S4096x2816 .f32) :
    FVec Ideal S4096x2816 .bf16 := fun j => gradB (rowsNT x w j) (a j)

/-- At a grid point the block stored for `da` is the array's block. -/
theorem point1_4 (c : Dev nD) (t : Fin cfg1.N) (y) :
    k1_pay3 (iblk1 V c 0 t) (iblk1 V c 1 t) (iblk1 V c 2 t) (iblk1 V c 3 t) y
      = daOf (V c main_v16) (V c main_v21) (V c main_v22_0) (V c main_v22_1) (((cfg1.win 4).blk t).view.emb y) := by
  pointwise [k1_pay1, k1_pay2, k1_pay3, daOf, gradA, rowsNT, sg]
  blk_point [iblk1, idx1 t]

/-- At a grid point the block stored for `db` is the array's block. -/
theorem point1_5 (c : Dev nD) (t : Fin cfg1.N) (y) :
    k1_pay4 (iblk1 V c 0 t) (iblk1 V c 1 t) (iblk1 V c 2 t) y
      = dbOf (V c main_v16) (V c main_v21) (V c main_v22_0) (((cfg1.win 5).blk t).view.emb y) := by
  pointwise [k1_pay1, k1_pay2, k1_pay4, dbOf, gradB, rowsNT, sg]
  blk_point [iblk1, idx1 t]

/-- The array of `da` after the second call. -/
theorem final1_4 (c : Dev nD) : (dat1 V c).arrAt 4 cfg1.N
    = daOf (V c main_v16) (V c main_v21) (V c main_v22_0) (V c main_v22_1) := by
  refine (dat1 V c).arrAt_eq_of_covers 4 _ (by decide +kernel) fun t _ y => ?_
  blk_simp
  rw [after1_4]; frame_out
  exact point1_4 V c t y

/-- The array of `db` after the second call. -/
theorem final1_5 (c : Dev nD) : (dat1 V c).arrAt 5 cfg1.N
    = dbOf (V c main_v16) (V c main_v21) (V c main_v22_0) := by
  refine (dat1 V c).arrAt_eq_of_covers 5 _ (by decide +kernel) fun t _ y => ?_
  blk_simp
  rw [after1_5]; frame_out
  exact point1_5 V c t y

end Cert.KernelIdeal.Ffn

end
-- ==== Proof.Region2.lean ====
/- What the third call leaves: the three weight gradients, two of them in column halves. -/
module

public import proofs.«01_k».proof.Proof.Products

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

variable (V : (c : Dev nD) → (b : Ref sig .tc) → Buf (Elt Ideal) ((c : Thread nD τ).loc b))

/-- The third call's windows over its grid: blocks of 256 columns, or of 256 result rows. -/
theorem idx2 : ∀ t : Fin cfg2.N, win2_0.index t = ![0, t.val] ∧ win2_1.index t = ![0, 0] ∧ win2_2.index t = ![0, t.val]
    ∧ win2_3.index t = ![0, t.val] ∧ win2_4.index t = ![0, 0] ∧ win2_5.index t = ![t.val, 0] ∧ win2_6.index t = ![t.val, 0]
    ∧ win2_7.index t = ![t.val, 0] ∧ win2_8.index t = ![t.val, 0] ∧ win2_9.index t = ![t.val, 0] :=
  (by decide +kernel : ∀ t : Fin grid2.N, _)

/-- The left 512 columns of `xᵀ · y`. -/
def leftTN (x : FVec Ideal S4096x2816 .bf16) (y : FVec Ideal S4096x1024 .bf16) : FVec Ideal S2816x512 .bf16 :=
  fun j => ∑ k : Fin 4096, x (ix2 k (j 0)) * y (ix2 k ⟨(j 1 : ℕ), lt_trans (j 1).isLt (by decide)⟩)

/-- The right 512 columns of `xᵀ · y`. -/
def rightTN (x : FVec Ideal S4096x2816 .bf16) (y : FVec Ideal S4096x1024 .bf16) : FVec Ideal S2816x512 .bf16 :=
  fun j => ∑ k : Fin 4096, x (ix2 k (j 0)) * y (ix2 k ⟨512 + (j 1 : ℕ), Nat.add_lt_add_left (j 1).isLt 512⟩)

/-- At a grid point the block stored for the down projection's gradient is the array's block. -/
theorem point2_5 (c : Dev nD) (t : Fin cfg2.N) (y) :
    k2_pay2 (iblk2 V c 0 t) (iblk2 V c 1 t) y
      = colsTN (V c main_v22_2) (V c main_v16) (((cfg2.win 5).blk t).view.emb y) := by
  pointwise [k2_pay2, colsTN]
  blk_point [iblk2, idx2 t]

/-- The array of the down projection's gradient after the third call. -/
theorem final2_5 (c : Dev nD) : (dat2 V c).arrAt 5 cfg2.N = colsTN (V c main_v22_2) (V c main_v16) := by
  refine (dat2 V c).arrAt_eq_of_covers 5 _ (by decide +kernel) fun t _ y => ?_
  blk_simp
  rw [after2_5]; frame_out
  exact point2_5 V c t y

/-- At a grid point the block stored for the gate gradient's left half is the array's block. -/
theorem point2_6 (c : Dev nD) (t : Fin cfg2.N) (y) :
    k2_pay5 (iblk2 V c 4 t) (iblk2 V c 2 t) y
      = leftTN (V c main_v23_0) (V c main_v15) (((cfg2.win 6).blk t).view.emb y) := by
  pointwise [k2_pay3, k2_pay4, k2_pay5, leftTN]
  blk_point [iblk2, idx2 t]

/-- The array of the gate gradient's left half after the third call. -/
theorem final2_6 (c : Dev nD) : (dat2 V c).arrAt 6 cfg2.N = leftTN (V c main_v23_0) (V c main_v15) := by
  refine (dat2 V c).arrAt_eq_of_covers 6 _ (by decide +kernel) fun t _ y => ?_
  blk_simp
  rw [after2_6]; frame_out
  exact point2_6 V c t y

/-- At a grid point the block stored for the gate gradient's right half is the array's block. -/
theorem point2_7 (c : Dev nD) (t : Fin cfg2.N) (y) :
    k2_pay6 (iblk2 V c 4 t) (iblk2 V c 2 t) y
      = rightTN (V c main_v23_0) (V c main_v15) (((cfg2.win 7).blk t).view.emb y) := by
  pointwise [k2_pay3, k2_pay4, k2_pay6, rightTN]
  blk_point [iblk2, idx2 t]

/-- The array of the gate gradient's right half after the third call. -/
theorem final2_7 (c : Dev nD) : (dat2 V c).arrAt 7 cfg2.N = rightTN (V c main_v23_0) (V c main_v15) := by
  refine (dat2 V c).arrAt_eq_of_covers 7 _ (by decide +kernel) fun t _ y => ?_
  blk_simp
  rw [after2_7]; frame_out
  exact point2_7 V c t y

/-- At a grid point the block stored for the up gradient's left half is the array's block. -/
theorem point2_8 (c : Dev nD) (t : Fin cfg2.N) (y) :
    k2_pay8 (iblk2 V c 4 t) (iblk2 V c 3 t) y
      = leftTN (V c main_v23_1) (V c main_v15) (((cfg2.win 8).blk t).view.emb y) := by
  pointwise [k2_pay3, k2_pay7, k2_pay8, leftTN]
  blk_point [iblk2, idx2 t]

/-- The array of the up gradient's left half after the third call. -/
theorem final2_8 (c : Dev nD) : (dat2 V c).arrAt 8 cfg2.N = leftTN (V c main_v23_1) (V c main_v15) := by
  refine (dat2 V c).arrAt_eq_of_covers 8 _ (by decide +kernel) fun t _ y => ?_
  blk_simp
  rw [after2_8]; frame_out
  exact point2_8 V c t y

/-- At a grid point the block stored for the up gradient's right half is the array's block. -/
theorem point2_9 (c : Dev nD) (t : Fin cfg2.N) (y) :
    k2_pay1 (k2_pay9 (iblk2 V c 4 t) (iblk2 V c 3 t)) y
      = rightTN (V c main_v23_1) (V c main_v15) (((cfg2.win 9).blk t).view.emb y) := by
  pointwise [k2_pay1, k2_pay3, k2_pay7, k2_pay9, rightTN]
  blk_point [iblk2, idx2 t]

/-- The array of the up gradient's right half after the third call. -/
theorem final2_9 (c : Dev nD) : (dat2 V c).arrAt 9 cfg2.N = rightTN (V c main_v23_1) (V c main_v15) := by
  refine (dat2 V c).arrAt_eq_of_covers 9 _ (by decide +kernel) fun t _ y => ?_
  blk_simp
  rw [after2_9]; frame_out
  exact point2_9 V c t y

end Cert.KernelIdeal.Ffn

end
-- ==== Proof.Region3.lean ====
/- What the fourth call leaves: the gradient of its rows and of the norm weight. -/
module

public import proofs.«01_k».proof.Proof.Products

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

variable (V : (c : Dev nD) → (b : Ref sig .tc) → Buf (Elt Ideal) ((c : Thread nD τ).loc b))

/-- The fourth call's windows over its grid: blocks of 256 rows. -/
theorem idx3 : ∀ t : Fin cfg3.N, win3_0.index t = ![t.val, 0] ∧ win3_1.index t = ![t.val, 0] ∧ win3_2.index t = ![0, 0]
    ∧ win3_3.index t = ![0, 0] ∧ win3_4.index t = ![t.val, 0] ∧ win3_5.index t = ![0, 0] ∧ win3_6.index t = ![t.val, 0]
    ∧ win3_7.index t = ![t.val, 0] ∧ win3_9.index t = ![0, 0] :=
  (by decide +kernel : ∀ t : Fin grid3.N, _)

/-- The gradient of the normalised rows: `da · wg + db · wu`. -/
def dhOf (da db : FVec Ideal S4096x2816 .bf16) (wg wu : FVec Ideal S2816x1024 .bf16) : FVec Ideal S4096x1024 .f32 :=
  fun j => (∑ k : Fin 2816, da (ix2 (j 0) k) * wg (ix2 k (j 1))) + ∑ k : Fin 2816, db (ix2 (j 0) k) * wu (ix2 k (j 1))

/-- The reciprocal root mean square of a row. -/
def rinv (x : FVec Ideal S4096x1024 .f32) (i : Fin 4096) : EReal :=
  Ideal.rsqrt (Ideal.div (∑ k : Fin 1024, x (ix2 i k) * x (ix2 i k)) (Ideal.ofBits .f32 0x44800000#32)
    + Ideal.ofBits .f32 0x358637BD#32)

/-- The gradient of the rows through the norm, added to the incoming gradient. -/
def dxOf (dh x : FVec Ideal S4096x1024 .f32) (g : FVec Ideal S1x1024 .f32) (res : FVec Ideal S4096x1024 .f32) :
    FVec Ideal S4096x1024 .f32 := fun j =>
  res j + rinv x (j 0) * (dh j * g (ix2 0 (j 1)) - x j * rinv x (j 0)
    * Ideal.div (∑ k : Fin 1024, dh (ix2 (j 0) k) * g (ix2 0 k) * (x (ix2 (j 0) k) * rinv x (j 0))) (Ideal.ofBits .f32 0x44800000#32))

/-- The gradient of the norm weight. -/
def ggOf (dh x : FVec Ideal S4096x1024 .f32) : FVec Ideal S1x1024 .f32 :=
  fun j => ∑ i : Fin 4096, dh (ix2 i (j 1)) * (x (ix2 i (j 1)) * rinv x i)

/-- At a grid point the block stored for the rows' gradient is the array's block. -/
theorem point3_7 (c : Dev nD) (t : Fin cfg3.N) (y) :
    k3_pay2 (k3_pay5 (iblk3 V c 0 t) (iblk3 V c 2 t) (iblk3 V c 1 t) (iblk3 V c 3 t)) (k3_pay7 (iblk3 V c 4 t))
      (k3_pay8 (iblk3 V c 4 t)) (iblk3 V c 5 t) (iblk3 V c 6 t) y
      = dxOf (dhOf (V c main_v23_0) (V c main_v23_1) (V c main_v18) (V c main_v20)) (V c main_v0) (V c main_v25) (V c main_v1)
        (((cfg3.win 7).blk t).view.emb y) := by
  pointwise [k3_pay1, k3_pay2, k3_pay5, k3_pay6, k3_pay7, k3_pay8, dxOf, dhOf, rinv]
  blk_point [iblk3, idx3 t]

/-- The array of the rows' gradient after the fourth call. -/
theorem final3_7 (c : Dev nD) : (dat3 V c).arrAt 7 cfg3.N
    = dxOf (dhOf (V c main_v23_0) (V c main_v23_1) (V c main_v18) (V c main_v20)) (V c main_v0) (V c main_v25) (V c main_v1) := by
  refine (dat3 V c).arrAt_eq_of_covers 7 _ (by decide +kernel) fun t _ y => ?_
  blk_simp
  rw [after3_7]
  by_cases h : t.val % 16 = 0
  · rw [outsAt3_A V c t h]; frame_out
    exact point3_7 V c t y
  · rw [outsAt3_B V c t h]; frame_out
    exact point3_7 V c t y

/-- One row block's part of the norm weight's gradient. -/
def ggPart (da db : FVec Ideal S256x2816 .bf16) (wg wu : FVec Ideal S2816x1024 .bf16) (x : FVec Ideal S256x1024 .f32) (n : Fin 1024)
    (k : Fin 256) : EReal :=
  ((∑ l : Fin 2816, da (ix2 k l) * wg (ix2 l n)) + ∑ l : Fin 2816, db (ix2 k l) * wu (ix2 l n))
    * (x (ix2 k n) * Ideal.rsqrt (Ideal.div (∑ l : Fin 1024, x (ix2 k l) * x (ix2 k l)) (Ideal.ofBits .f32 0x44800000#32)
      + Ideal.ofBits .f32 0x358637BD#32))

/-- The first store of the accumulator is zero. -/
theorem zero3_9 (j) : k3_pay4 (F := Ideal) j = 0 := by pointwise [k3_pay4]

/-- A point adds its row block's part to the accumulator. -/
theorem add3_9 (da wg db wu x acc j) : k3_pay9 (F := Ideal) da wg db wu x acc j = acc j + ∑ k : Fin 256, ggPart da db wg wu x (j 1) k := by
  pointwise [k3_pay5, k3_pay6, k3_pay7, k3_pay8, k3_pay9, ggPart]

/-- The array of the norm weight's gradient after the fourth call. -/
theorem final3_9 (c : Dev nD) : (dat3 V c).arrAt 9 cfg3.N
    = ggOf (dhOf (V c main_v23_0) (V c main_v23_1) (V c main_v18) (V c main_v20)) (V c main_v0) := by
  refine (dat3 V c).arrAt_eq_of_after_last 9 t3_15 (by decide +kernel) _ fun j => ?_
  blk_simp
  rw [after3_9, Pipeline.eq_sum_fin_of_reset_step_apply_last (fun n h => (outsAt3 V c n h).2.2) 16 (fun _ => 0) _
    (fun t h j => by rw [outsAt3_A V c t h]; frame_out; rw [add3_9, zero3_9])
    (fun t h j => by rw [outsAt3_B V c t h]; frame_out; rw [add3_9])
    (le_of_eq N_3) t3_15 rfl j, zero_add]
  unfold ggOf
  refine Fin.sum_mul_add_congr fun t k hl => ?_
  pointwise [ggPart, dhOf, rinv]
  blk_point [iblk3, idx3 t]

end Cert.KernelIdeal.Ffn

end
-- ==== Proof.Entry.lean ====
/- The arrays that the host prepares before the first call. -/
module

public import proofs.«01_k».proof.Proof.Region3

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

variable (m : (ℓ : Loc nD τ sig) → Buf (Elt Ideal) ℓ) (ρ : Dev nD → PrngReg)

/-- The rows of a [2, 2048, 1024] array, one after another. -/
def kX (x : FVec Ideal S2x2048x1024 .f32) : FVec Ideal S4096x1024 .f32 :=
  shapeCast S4096x1024 x shapeCasts_S2x2048x1024_S4096x1024

/-- The rows normalised and scaled by the norm weight. -/
def kH (x : FVec Ideal S2x2048x1024 .f32) (g : FVec Ideal S1024 .f32) : FVec Ideal S4096x1024 .bf16 :=
  fun j => kX x j * rinv (kX x) (j 0) * g (ix1 (j 1))

/-- A weight with its axes exchanged. -/
def kT (w : FVec Ideal S1024x2816 .f32) : FVec Ideal S2816x1024 .bf16 := fun j => w (ix2 (j 1) (j 0))

/-- The norm weight as one row. -/
def kG (g : FVec Ideal S1024 .f32) : FVec Ideal S1x1024 .f32 := fun j => g (ix1 (j 1))

/-- The rows the host makes of the input. -/
theorem entry_v0 (c : Dev nD) : V1 m ρ c main_v0 = kX (m ((c : Thread nD τ).loc main_arg0)) := by
  unfold V1 W1; after_results; rfl

/-- The rows the host makes of the incoming gradient. -/
theorem entry_v1 (c : Dev nD) : V1 m ρ c main_v1 = kX (m ((c : Thread nD τ).loc main_arg5)) := by
  unfold V1 W1; after_results; rfl

/-- The rows of the incoming gradient, in the narrower format. -/
theorem entry_v16 (c : Dev nD) : V1 m ρ c main_v16 = kX (m ((c : Thread nD τ).loc main_arg5)) := by
  unfold V1 W1; after_results; rfl

/-- The normalised rows. -/
theorem entry_v15 (c : Dev nD) : V1 m ρ c main_v15
    = kH (m ((c : Thread nD τ).loc main_arg0)) (m ((c : Thread nD τ).loc main_arg1)) := by
  unfold V1 W1; after_results
  funext j
  pointwise [kH, rinv, kX]

/-- The gate weight, its axes exchanged. -/
theorem entry_v18 (c : Dev nD) : V1 m ρ c main_v18 = kT (m ((c : Thread nD τ).loc main_arg2)) := by
  unfold V1 W1; after_results
  funext j
  pointwise [kT]

/-- The up weight, its axes exchanged. -/
theorem entry_v20 (c : Dev nD) : V1 m ρ c main_v20 = kT (m ((c : Thread nD τ).loc main_arg3)) := by
  unfold V1 W1; after_results
  funext j
  pointwise [kT]

/-- The down weight. -/
theorem entry_v21 (c : Dev nD) : V1 m ρ c main_v21 = m ((c : Thread nD τ).loc main_arg4) := by
  unfold V1 W1; after_results; rfl

end Cert.KernelIdeal.Ffn

end
-- ==== Proof.Chain.lean ====
/- What each call leaves, in terms of the arguments of the program. -/
module

public import proofs.«01_k».proof.Proof.Region0
public import proofs.«01_k».proof.Proof.Region1
public import proofs.«01_k».proof.Proof.Region2
public import proofs.«01_k».proof.Proof.Region3
public import proofs.«01_k».proof.Proof.Entry

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

variable (m : (ℓ : Loc nD τ sig) → Buf (Elt Ideal) ℓ) (ρ : Dev nD → PrngReg)

/-- The gate product. -/
def kA (x : FVec Ideal S2x2048x1024 .f32) (g : FVec Ideal S1024 .f32) (wg : FVec Ideal S1024x2816 .f32) :
    FVec Ideal S4096x2816 .bf16 := rowsNT (kH x g) (kT wg)

/-- The gradient of the gate product. -/
def kDa (x : FVec Ideal S2x2048x1024 .f32) (g : FVec Ideal S1024 .f32) (wg wu : FVec Ideal S1024x2816 .f32)
    (wd : FVec Ideal S2816x1024 .f32) (ct : FVec Ideal S2x2048x1024 .f32) : FVec Ideal S4096x2816 .bf16 :=
  daOf (kX ct) wd (kA x g wg) (kA x g wu)

/-- The gradient of the up product. -/
def kDb (x : FVec Ideal S2x2048x1024 .f32) (g : FVec Ideal S1024 .f32) (wg : FVec Ideal S1024x2816 .f32)
    (wd : FVec Ideal S2816x1024 .f32) (ct : FVec Ideal S2x2048x1024 .f32) : FVec Ideal S4096x2816 .bf16 :=
  dbOf (kX ct) wd (kA x g wg)

/-- The gradient of the normalised rows. -/
def kDh (x : FVec Ideal S2x2048x1024 .f32) (g : FVec Ideal S1024 .f32) (wg wu : FVec Ideal S1024x2816 .f32)
    (wd : FVec Ideal S2816x1024 .f32) (ct : FVec Ideal S2x2048x1024 .f32) : FVec Ideal S4096x1024 .f32 :=
  dhOf (kDa x g wg wu wd ct) (kDb x g wg wd ct) (kT wg) (kT wu)

/-- The gate product after the first call. -/
theorem two_a (c : Dev nD) : V2 m ρ c main_v22_0
    = kA (m ((c : Thread nD τ).loc main_arg0)) (m ((c : Thread nD τ).loc main_arg1)) (m ((c : Thread nD τ).loc main_arg2)) := by
  refine (W2_arr m ρ c 3).trans ((final0_3 (V1 m ρ) c).trans ?_)
  rw [entry_v15, entry_v18]; rfl

/-- The up product after the first call. -/
theorem two_b (c : Dev nD) : V2 m ρ c main_v22_1
    = kA (m ((c : Thread nD τ).loc main_arg0)) (m ((c : Thread nD τ).loc main_arg1)) (m ((c : Thread nD τ).loc main_arg3)) := by
  refine (W2_arr m ρ c 4).trans ((final0_4 (V1 m ρ) c).trans ?_)
  rw [entry_v15, entry_v20]; rfl

/-- The gated product after the first call. -/
theorem two_f (c : Dev nD) : V2 m ρ c main_v22_2
    = fOf (kA (m ((c : Thread nD τ).loc main_arg0)) (m ((c : Thread nD τ).loc main_arg1)) (m ((c : Thread nD τ).loc main_arg2))) (kA (m ((c : Thread nD τ).loc main_arg0)) (m ((c : Thread nD τ).loc main_arg1)) (m ((c : Thread nD τ).loc main_arg3))) := by
  refine (W2_arr m ρ c 5).trans ((final0_5 (V1 m ρ) c).trans ?_)
  rw [entry_v15, entry_v18, entry_v20]; rfl

/-- `v0` is unchanged by the call. -/
theorem two_v0 (c : Dev nD) : V2 m ρ c main_v0
    = kX (m ((c : Thread nD τ).loc main_arg0)) := by
  exact (W2_of m ρ c main_v0 (by decide)).trans (entry_v0 m ρ c)

/-- `v1` is unchanged by the call. -/
theorem two_v1 (c : Dev nD) : V2 m ρ c main_v1
    = kX (m ((c : Thread nD τ).loc main_arg5)) := by
  exact (W2_of m ρ c main_v1 (by decide)).trans (entry_v1 m ρ c)

/-- `v15` is unchanged by the call. -/
theorem two_v15 (c : Dev nD) : V2 m ρ c main_v15
    = kH (m ((c : Thread nD τ).loc main_arg0)) (m ((c : Thread nD τ).loc main_arg1)) := by
  exact (W2_of m ρ c main_v15 (by decide)).trans (entry_v15 m ρ c)

/-- `v16` is unchanged by the call. -/
theorem two_v16 (c : Dev nD) : V2 m ρ c main_v16
    = kX (m ((c : Thread nD τ).loc main_arg5)) := by
  exact (W2_of m ρ c main_v16 (by decide)).trans (entry_v16 m ρ c)

/-- `v18` is unchanged by the call. -/
theorem two_v18 (c : Dev nD) : V2 m ρ c main_v18
    = kT (m ((c : Thread nD τ).loc main_arg2)) := by
  exact (W2_of m ρ c main_v18 (by decide)).trans (entry_v18 m ρ c)

/-- `v20` is unchanged by the call. -/
theorem two_v20 (c : Dev nD) : V2 m ρ c main_v20
    = kT (m ((c : Thread nD τ).loc main_arg3)) := by
  exact (W2_of m ρ c main_v20 (by decide)).trans (entry_v20 m ρ c)

/-- `v21` is unchanged by the call. -/
theorem two_v21 (c : Dev nD) : V2 m ρ c main_v21
    = (m ((c : Thread nD τ).loc main_arg4)) := by
  exact (W2_of m ρ c main_v21 (by decide)).trans (entry_v21 m ρ c)

/-- The gradient of the gate product after the second call. -/
theorem three_da (c : Dev nD) : V3 m ρ c main_v23_0
    = kDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W3_arr m ρ c 4).trans ((final1_4 (V2 m ρ) c).trans ?_)
  rw [two_v16, two_v21, two_a, two_b]; rfl

/-- The gradient of the up product after the second call. -/
theorem three_db (c : Dev nD) : V3 m ρ c main_v23_1
    = kDb (m ((c : Thread nD τ).loc main_arg0)) (m ((c : Thread nD τ).loc main_arg1)) (m ((c : Thread nD τ).loc main_arg2)) (m ((c : Thread nD τ).loc main_arg4)) (m ((c : Thread nD τ).loc main_arg5)) := by
  refine (W3_arr m ρ c 5).trans ((final1_5 (V2 m ρ) c).trans ?_)
  rw [two_v16, two_v21, two_a]; rfl

/-- `v22_2` is unchanged by the call. -/
theorem three_f (c : Dev nD) : V3 m ρ c main_v22_2
    = fOf (kA (m ((c : Thread nD τ).loc main_arg0)) (m ((c : Thread nD τ).loc main_arg1)) (m ((c : Thread nD τ).loc main_arg2))) (kA (m ((c : Thread nD τ).loc main_arg0)) (m ((c : Thread nD τ).loc main_arg1)) (m ((c : Thread nD τ).loc main_arg3))) := by
  exact (W3_of m ρ c main_v22_2 (by decide)).trans (two_f m ρ c)

/-- `v0` is unchanged by the call. -/
theorem three_v0 (c : Dev nD) : V3 m ρ c main_v0
    = kX (m ((c : Thread nD τ).loc main_arg0)) := by
  exact (W3_of m ρ c main_v0 (by decide)).trans (two_v0 m ρ c)

/-- `v1` is unchanged by the call. -/
theorem three_v1 (c : Dev nD) : V3 m ρ c main_v1
    = kX (m ((c : Thread nD τ).loc main_arg5)) := by
  exact (W3_of m ρ c main_v1 (by decide)).trans (two_v1 m ρ c)

/-- `v15` is unchanged by the call. -/
theorem three_v15 (c : Dev nD) : V3 m ρ c main_v15
    = kH (m ((c : Thread nD τ).loc main_arg0)) (m ((c : Thread nD τ).loc main_arg1)) := by
  exact (W3_of m ρ c main_v15 (by decide)).trans (two_v15 m ρ c)

/-- `v16` is unchanged by the call. -/
theorem three_v16 (c : Dev nD) : V3 m ρ c main_v16
    = kX (m ((c : Thread nD τ).loc main_arg5)) := by
  exact (W3_of m ρ c main_v16 (by decide)).trans (two_v16 m ρ c)

/-- `v18` is unchanged by the call. -/
theorem three_v18 (c : Dev nD) : V3 m ρ c main_v18
    = kT (m ((c : Thread nD τ).loc main_arg2)) := by
  exact (W3_of m ρ c main_v18 (by decide)).trans (two_v18 m ρ c)

/-- `v20` is unchanged by the call. -/
theorem three_v20 (c : Dev nD) : V3 m ρ c main_v20
    = kT (m ((c : Thread nD τ).loc main_arg3)) := by
  exact (W3_of m ρ c main_v20 (by decide)).trans (two_v20 m ρ c)

/-- The gradient of the down weight after the third call. -/
theorem four_0 (c : Dev nD) : V4 m ρ c main_v24_0
    = colsTN (fOf (kA (m ((c : Thread nD τ).loc main_arg0)) (m ((c : Thread nD τ).loc main_arg1)) (m ((c : Thread nD τ).loc main_arg2))) (kA (m ((c : Thread nD τ).loc main_arg0)) (m ((c : Thread nD τ).loc main_arg1)) (m ((c : Thread nD τ).loc main_arg3)))) (kX (m ((c : Thread nD τ).loc main_arg5))) := by
  refine (W4_arr m ρ c 5).trans ((final2_5 (V3 m ρ) c).trans ?_)
  rw [three_f, three_v16]

/-- Half of the columns of a weight gradient after the third call. -/
theorem four_1 (c : Dev nD) : V4 m ρ c main_v24_1
    = leftTN (kDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (kH (m ((c : Thread nD τ).loc main_arg0)) (m ((c : Thread nD τ).loc main_arg1))) := by
  refine (W4_arr m ρ c 6).trans ((final2_6 (V3 m ρ) c).trans ?_)
  rw [three_da, three_v15]

/-- Half of the columns of a weight gradient after the third call. -/
theorem four_2 (c : Dev nD) : V4 m ρ c main_v24_2
    = rightTN (kDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (kH (m ((c : Thread nD τ).loc main_arg0)) (m ((c : Thread nD τ).loc main_arg1))) := by
  refine (W4_arr m ρ c 7).trans ((final2_7 (V3 m ρ) c).trans ?_)
  rw [three_da, three_v15]

/-- Half of the columns of a weight gradient after the third call. -/
theorem four_3 (c : Dev nD) : V4 m ρ c main_v24_3
    = leftTN (kDb (m ((c : Thread nD τ).loc main_arg0)) (m ((c : Thread nD τ).loc main_arg1)) (m ((c : Thread nD τ).loc main_arg2)) (m ((c : Thread nD τ).loc main_arg4)) (m ((c : Thread nD τ).loc main_arg5))) (kH (m ((c : Thread nD τ).loc main_arg0)) (m ((c : Thread nD τ).loc main_arg1))) := by
  refine (W4_arr m ρ c 8).trans ((final2_8 (V3 m ρ) c).trans ?_)
  rw [three_db, three_v15]

/-- Half of the columns of a weight gradient after the third call. -/
theorem four_4 (c : Dev nD) : V4 m ρ c main_v24_4
    = rightTN (kDb (m ((c : Thread nD τ).loc main_arg0)) (m ((c : Thread nD τ).loc main_arg1)) (m ((c : Thread nD τ).loc main_arg2)) (m ((c : Thread nD τ).loc main_arg4)) (m ((c : Thread nD τ).loc main_arg5))) (kH (m ((c : Thread nD τ).loc main_arg0)) (m ((c : Thread nD τ).loc main_arg1))) := by
  refine (W4_arr m ρ c 9).trans ((final2_9 (V3 m ρ) c).trans ?_)
  rw [three_db, three_v15]

/-- `v0` is unchanged by the call. -/
theorem four_v0 (c : Dev nD) : V4 m ρ c main_v0
    = kX (m ((c : Thread nD τ).loc main_arg0)) := by
  exact (W4_of m ρ c main_v0 (by decide)).trans (three_v0 m ρ c)

/-- `v1` is unchanged by the call. -/
theorem four_v1 (c : Dev nD) : V4 m ρ c main_v1
    = kX (m ((c : Thread nD τ).loc main_arg5)) := by
  exact (W4_of m ρ c main_v1 (by decide)).trans (three_v1 m ρ c)

/-- `v18` is unchanged by the call. -/
theorem four_v18 (c : Dev nD) : V4 m ρ c main_v18
    = kT (m ((c : Thread nD τ).loc main_arg2)) := by
  exact (W4_of m ρ c main_v18 (by decide)).trans (three_v18 m ρ c)

/-- `v20` is unchanged by the call. -/
theorem four_v20 (c : Dev nD) : V4 m ρ c main_v20
    = kT (m ((c : Thread nD τ).loc main_arg3)) := by
  exact (W4_of m ρ c main_v20 (by decide)).trans (three_v20 m ρ c)

/-- `v23_0` is unchanged by the call. -/
theorem four_da (c : Dev nD) : V4 m ρ c main_v23_0
    = kDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  exact (W4_of m ρ c main_v23_0 (by decide)).trans (three_da m ρ c)

/-- `v23_1` is unchanged by the call. -/
theorem four_db (c : Dev nD) : V4 m ρ c main_v23_1
    = kDb (m ((c : Thread nD τ).loc main_arg0)) (m ((c : Thread nD τ).loc main_arg1)) (m ((c : Thread nD τ).loc main_arg2)) (m ((c : Thread nD τ).loc main_arg4)) (m ((c : Thread nD τ).loc main_arg5)) := by
  exact (W4_of m ρ c main_v23_1 (by decide)).trans (three_db m ρ c)

/-- Unchanged by the reshape of the weight. -/
theorem five_v0 (c : Dev nD) : V5 m ρ c main_v0
    = kX (m ((c : Thread nD τ).loc main_arg0)) := by
  exact (W5_of m ρ c main_v0 (by decide)).trans (four_v0 m ρ c)

/-- Unchanged by the reshape of the weight. -/
theorem five_v1 (c : Dev nD) : V5 m ρ c main_v1
    = kX (m ((c : Thread nD τ).loc main_arg5)) := by
  exact (W5_of m ρ c main_v1 (by decide)).trans (four_v1 m ρ c)

/-- Unchanged by the reshape of the weight. -/
theorem five_v18 (c : Dev nD) : V5 m ρ c main_v18
    = kT (m ((c : Thread nD τ).loc main_arg2)) := by
  exact (W5_of m ρ c main_v18 (by decide)).trans (four_v18 m ρ c)

/-- Unchanged by the reshape of the weight. -/
theorem five_v20 (c : Dev nD) : V5 m ρ c main_v20
    = kT (m ((c : Thread nD τ).loc main_arg3)) := by
  exact (W5_of m ρ c main_v20 (by decide)).trans (four_v20 m ρ c)

/-- Unchanged by the reshape of the weight. -/
theorem five_da (c : Dev nD) : V5 m ρ c main_v23_0
    = kDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  exact (W5_of m ρ c main_v23_0 (by decide)).trans (four_da m ρ c)

/-- Unchanged by the reshape of the weight. -/
theorem five_db (c : Dev nD) : V5 m ρ c main_v23_1
    = kDb (m ((c : Thread nD τ).loc main_arg0)) (m ((c : Thread nD τ).loc main_arg1)) (m ((c : Thread nD τ).loc main_arg2)) (m ((c : Thread nD τ).loc main_arg4)) (m ((c : Thread nD τ).loc main_arg5)) := by
  exact (W5_of m ρ c main_v23_1 (by decide)).trans (four_db m ρ c)

/-- The norm weight as a row. -/
theorem five_v25 (c : Dev nD) : V5 m ρ c main_v25
    = kG (m ((c : Thread nD τ).loc main_arg1)) := by
  refine Eq.trans (?_ : _ = shapeCast S1x1024 (W4 m ρ c main_arg1) shapeCasts_S1024_S1x1024) ?_
  · unfold V5 W5; after_results; rfl
  rw [show W4 m ρ c main_arg1 = (m ((c : Thread nD τ).loc main_arg1)) from W4_args m ρ c main_arg1 (by decide)]
  funext j
  pointwise [kG]

/-- Unchanged by the reshape of the weight. -/
theorem five_0 (c : Dev nD) : V5 m ρ c main_v24_0
    = colsTN (fOf (kA (m ((c : Thread nD τ).loc main_arg0)) (m ((c : Thread nD τ).loc main_arg1)) (m ((c : Thread nD τ).loc main_arg2))) (kA (m ((c : Thread nD τ).loc main_arg0)) (m ((c : Thread nD τ).loc main_arg1)) (m ((c : Thread nD τ).loc main_arg3)))) (kX (m ((c : Thread nD τ).loc main_arg5))) := by
  exact (W5_of m ρ c main_v24_0 (by decide)).trans (four_0 m ρ c)

/-- `v24_0` is unchanged by the call. -/
theorem six_0 (c : Dev nD) : V6 m ρ c main_v24_0
    = colsTN (fOf (kA (m ((c : Thread nD τ).loc main_arg0)) (m ((c : Thread nD τ).loc main_arg1)) (m ((c : Thread nD τ).loc main_arg2))) (kA (m ((c : Thread nD τ).loc main_arg0)) (m ((c : Thread nD τ).loc main_arg1)) (m ((c : Thread nD τ).loc main_arg3)))) (kX (m ((c : Thread nD τ).loc main_arg5))) := by
  exact (W6_of m ρ c main_v24_0 (by decide)).trans (five_0 m ρ c)

/-- Unchanged by the reshape of the weight. -/
theorem five_1 (c : Dev nD) : V5 m ρ c main_v24_1
    = leftTN (kDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (kH (m ((c : Thread nD τ).loc main_arg0)) (m ((c : Thread nD τ).loc main_arg1))) := by
  exact (W5_of m ρ c main_v24_1 (by decide)).trans (four_1 m ρ c)

/-- `v24_1` is unchanged by the call. -/
theorem six_1 (c : Dev nD) : V6 m ρ c main_v24_1
    = leftTN (kDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (kH (m ((c : Thread nD τ).loc main_arg0)) (m ((c : Thread nD τ).loc main_arg1))) := by
  exact (W6_of m ρ c main_v24_1 (by decide)).trans (five_1 m ρ c)

/-- Unchanged by the reshape of the weight. -/
theorem five_2 (c : Dev nD) : V5 m ρ c main_v24_2
    = rightTN (kDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (kH (m ((c : Thread nD τ).loc main_arg0)) (m ((c : Thread nD τ).loc main_arg1))) := by
  exact (W5_of m ρ c main_v24_2 (by decide)).trans (four_2 m ρ c)

/-- `v24_2` is unchanged by the call. -/
theorem six_2 (c : Dev nD) : V6 m ρ c main_v24_2
    = rightTN (kDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (kH (m ((c : Thread nD τ).loc main_arg0)) (m ((c : Thread nD τ).loc main_arg1))) := by
  exact (W6_of m ρ c main_v24_2 (by decide)).trans (five_2 m ρ c)

/-- Unchanged by the reshape of the weight. -/
theorem five_3 (c : Dev nD) : V5 m ρ c main_v24_3
    = leftTN (kDb (m ((c : Thread nD τ).loc main_arg0)) (m ((c : Thread nD τ).loc main_arg1)) (m ((c : Thread nD τ).loc main_arg2)) (m ((c : Thread nD τ).loc main_arg4)) (m ((c : Thread nD τ).loc main_arg5))) (kH (m ((c : Thread nD τ).loc main_arg0)) (m ((c : Thread nD τ).loc main_arg1))) := by
  exact (W5_of m ρ c main_v24_3 (by decide)).trans (four_3 m ρ c)

/-- `v24_3` is unchanged by the call. -/
theorem six_3 (c : Dev nD) : V6 m ρ c main_v24_3
    = leftTN (kDb (m ((c : Thread nD τ).loc main_arg0)) (m ((c : Thread nD τ).loc main_arg1)) (m ((c : Thread nD τ).loc main_arg2)) (m ((c : Thread nD τ).loc main_arg4)) (m ((c : Thread nD τ).loc main_arg5))) (kH (m ((c : Thread nD τ).loc main_arg0)) (m ((c : Thread nD τ).loc main_arg1))) := by
  exact (W6_of m ρ c main_v24_3 (by decide)).trans (five_3 m ρ c)

/-- Unchanged by the reshape of the weight. -/
theorem five_4 (c : Dev nD) : V5 m ρ c main_v24_4
    = rightTN (kDb (m ((c : Thread nD τ).loc main_arg0)) (m ((c : Thread nD τ).loc main_arg1)) (m ((c : Thread nD τ).loc main_arg2)) (m ((c : Thread nD τ).loc main_arg4)) (m ((c : Thread nD τ).loc main_arg5))) (kH (m ((c : Thread nD τ).loc main_arg0)) (m ((c : Thread nD τ).loc main_arg1))) := by
  exact (W5_of m ρ c main_v24_4 (by decide)).trans (four_4 m ρ c)

/-- `v24_4` is unchanged by the call. -/
theorem six_4 (c : Dev nD) : V6 m ρ c main_v24_4
    = rightTN (kDb (m ((c : Thread nD τ).loc main_arg0)) (m ((c : Thread nD τ).loc main_arg1)) (m ((c : Thread nD τ).loc main_arg2)) (m ((c : Thread nD τ).loc main_arg4)) (m ((c : Thread nD τ).loc main_arg5))) (kH (m ((c : Thread nD τ).loc main_arg0)) (m ((c : Thread nD τ).loc main_arg1))) := by
  exact (W6_of m ρ c main_v24_4 (by decide)).trans (five_4 m ρ c)

/-- The input's gradient after the fourth call. -/
theorem six_dx (c : Dev nD) : V6 m ρ c main_v26_0
    = dxOf (kDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (kX (m ((c : Thread nD τ).loc main_arg0))) (kG (m ((c : Thread nD τ).loc main_arg1))) (kX (m ((c : Thread nD τ).loc main_arg5))) := by
  refine (W6_arr m ρ c 7).trans ((final3_7 (V5 m ρ) c).trans ?_)
  rw [five_da, five_db, five_v18, five_v20, five_v0, five_v25, five_v1]; rfl

/-- The norm weight's gradient after the fourth call. -/
theorem six_gg (c : Dev nD) : V6 m ρ c main_v26_2
    = ggOf (kDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (kX (m ((c : Thread nD τ).loc main_arg0))) := by
  refine (W6_arr m ρ c 9).trans ((final3_9 (V5 m ρ) c).trans ?_)
  rw [five_da, five_db, five_v18, five_v20, five_v0]; rfl

end Cert.KernelIdeal.Ffn

end
-- ==== Proof.Exit.lean ====
/- The results of the program in terms of its arguments. -/
module

public import proofs.«01_k».proof.Proof.Chain

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

variable (m : (ℓ : Loc nD τ sig) → Buf (Elt Ideal) ℓ) (ρ : Dev nD → PrngReg)

/-- The transpose of a product of columns. -/
def kW (da : FVec Ideal S4096x2816 .bf16) (h : FVec Ideal S4096x1024 .bf16) : FVec Ideal S1024x2816 .f32 :=
  fun j => colsTN da h (ix2 (j 1) (j 0))

/-- The two halves of the columns side by side, transposed, are the whole product. -/
theorem halves (da : FVec Ideal S4096x2816 .bf16) (h : FVec Ideal S4096x1024 .bf16) :
    transpose S1024x2816 [1, 0] (concatenate S2816x1024 1 [⟨S2816x512, extf (F := Ideal) .f32 (leftTN da h) bitsLt_bf16_f32⟩,
      ⟨S2816x512, extf (F := Ideal) .f32 (rightTN da h) bitsLt_bf16_f32⟩] concatenates_S2816x512_S2816x512_S2816x1024_d1)
      transposes_S2816x1024_S1024x2816_1_0 = kW da h := by
  funext j
  pointwise [kW, colsTN, leftTN, rightTN]
  split_ifs with hlt
  · rfl
  · refine Finset.sum_congr rfl fun k _ => ?_
    refine congrArg (fun i : Fin 1024 => da (ix2 k (j 1)) * h (ix2 k i)) (Fin.ext ?_)
    show 512 + ((j 0 : ℕ) - 512) = (j 0 : ℕ)
    omega
  · exact absurd rfl ‹¬_›

/-- The one row of a [1, 1024] array. -/
def kRow (v : FVec Ideal S1x1024 .f32) : FVec Ideal S1024 .f32 := shapeCast S1024 v shapeCasts_S1x1024_S1024

/-- The rows of a [4096, 1024] array as a [2, 2048, 1024] array. -/
def kUn (v : FVec Ideal S4096x1024 .f32) : FVec Ideal S2x2048x1024 .f32 :=
  shapeCast S2x2048x1024 v shapeCasts_S4096x1024_S2x2048x1024

/-- The first result: the input's gradient. -/
theorem out_x (c : Dev nD) : W7 m ρ c main_v27
    = kUn (dxOf (kDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (kX (m ((c : Thread nD τ).loc main_arg0))) (kG (m ((c : Thread nD τ).loc main_arg1))) (kX (m ((c : Thread nD τ).loc main_arg5)))) := by
  have e : W7 m ρ c main_v27 = kUn (V6 m ρ c main_v26_0) := by
    unfold W7; after_results; rfl
  exact e.trans (congrArg kUn (six_dx m ρ c))

/-- The second result: the norm weight's gradient. -/
theorem out_g (c : Dev nD) : W7 m ρ c main_v28
    = kRow (ggOf (kDh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (kX (m ((c : Thread nD τ).loc main_arg0)))) := by
  have e : W7 m ρ c main_v28 = kRow (V6 m ρ c main_v26_2) := by
    unfold W7; after_results; rfl
  exact e.trans (congrArg kRow (six_gg m ρ c))

/-- The third result: the gate weight's gradient. -/
theorem out_wg (c : Dev nD) : W7 m ρ c main_v32
    = kW (kDa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (kH (m ((c : Thread nD τ).loc main_arg0)) (m ((c : Thread nD τ).loc main_arg1))) := by
  rw [← halves, ← six_1 m ρ c, ← six_2 m ρ c]
  unfold W7; after_results

/-- The fourth result: the up weight's gradient. -/
theorem out_wu (c : Dev nD) : W7 m ρ c main_v36
    = kW (kDb (m ((c : Thread nD τ).loc main_arg0)) (m ((c : Thread nD τ).loc main_arg1)) (m ((c : Thread nD τ).loc main_arg2)) (m ((c : Thread nD τ).loc main_arg4)) (m ((c : Thread nD τ).loc main_arg5))) (kH (m ((c : Thread nD τ).loc main_arg0)) (m ((c : Thread nD τ).loc main_arg1))) := by
  rw [← halves, ← six_3 m ρ c, ← six_4 m ρ c]
  unfold W7; after_results

/-- The fifth result: the down weight's gradient. -/
theorem out_wd (c : Dev nD) : W7 m ρ c main_v37
    = colsTN (fOf (kA (m ((c : Thread nD τ).loc main_arg0)) (m ((c : Thread nD τ).loc main_arg1)) (m ((c : Thread nD τ).loc main_arg2))) (kA (m ((c : Thread nD τ).loc main_arg0)) (m ((c : Thread nD τ).loc main_arg1)) (m ((c : Thread nD τ).loc main_arg3)))) (kX (m ((c : Thread nD τ).loc main_arg5))) := by
  rw [← six_0 m ρ c]
  unfold W7; after_results; rfl

end Cert.KernelIdeal.Ffn

end
-- ==== Proof.Stages.lean ====
/- The reference, stage by stage, in the forms of the calls. -/
module

public import proofs.«01_k».proof.Proof.Region0
public import proofs.«01_k».proof.Proof.Region1
public import proofs.«01_k».proof.Proof.Entry
public import proofs.«01_k».proof.Proof.Gen.ReferenceIdeal.Read

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

open Cert.ReferenceIdeal.Read

variable (x : FVec Ideal S2x2048x1024 .f32) (g : FVec Ideal S1024 .f32) (wg wu : FVec Ideal S1024x2816 .f32)
  (wd : FVec Ideal S2816x1024 .f32) (ct : FVec Ideal S2x2048x1024 .f32)

/-- The reference's rows of the input. -/
theorem ref_x : val_main_v0 (F := Ideal) x = kX x := rfl

/-- The reference's rows of the incoming gradient. -/
theorem ref_ct : val_main_v24 (F := Ideal) ct = kX ct := rfl

/-- The reference's mean square of a row, plus the small constant. -/
def ms (x : FVec Ideal S4096x1024 .f32) (i : Fin 4096) : EReal :=
  Ideal.div (∑ k : Fin 1024, x (ix2 i k) * x (ix2 i k)) (Ideal.ofBits .f32 0x44800000#32) + Ideal.ofBits .f32 0x358637BD#32

/-- The reference's mean square. -/
theorem ref_ms (i : Fin 4096) : val_main_v7 (F := Ideal) x (ix2 i 0) = ms (kX x) i := by
  rw [← ref_x]
  pointwise [val_main_v7, val_main_v6, val_main_v5, val_main_v4, val_main_v3, val_main_v2, val_main_v1, val_main_cst, val_main_cst_0, val_main_cst_1, ms]

/-- The reference's reciprocal root. -/
theorem ref_r (i : Fin 4096) : val_main_v8 (F := Ideal) x (ix2 i 0) = rinv (kX x) i := by
  have e : val_main_v8 (F := Ideal) x (ix2 i 0) = Ideal.rsqrt (val_main_v7 (F := Ideal) x (ix2 i 0)) := rfl
  rw [e, ref_ms]; rfl

/-- The reference's normalised rows before the weight. -/
theorem ref_n (j : S4096x1024.Idx) : val_main_v13 (F := Ideal) x j = kX x j * rinv (kX x) (j 0) := by
  rw [show rinv (kX x) (j 0) = _ from (ref_r x (j 0)).symm, ← ref_x]
  pointwise [val_main_v13, val_main_v12]

/-- The reference's normalised rows. -/
theorem ref_h : val_main_v16 (F := Ideal) x g = kH x g := by
  funext j
  have e : val_main_v16 (F := Ideal) x g j = val_main_v13 (F := Ideal) x j * val_main_v15 (F := Ideal) g j := rfl
  rw [e, ref_n]
  pointwise [val_main_v15, val_main_v14, kH]

/-- The reference's gate product. -/
theorem ref_a : val_main_v17 (F := Ideal) x g wg = rowsNT (kH x g) (kT wg) := by
  funext j
  rw [← ref_h]
  pointwise [val_main_v17, rowsNT, kT]

/-- The reference's up product. -/
theorem ref_b : val_main_v19 (F := Ideal) x g wu = rowsNT (kH x g) (kT wu) := ref_a x g wu

/-- The reference's gradient of the gated product. -/
theorem ref_d : val_main_v27 (F := Ideal) wd ct = rowsNT (kX ct) wd := by
  funext j
  rw [← ref_ct]
  pointwise [val_main_v27, rowsNT]

/-- The reference's sigmoid. -/
theorem ref_sg (j : S4096x2816.Idx) : val_main_v18_2 (F := Ideal) x g wg j = sg (rowsNT (kH x g) (kT wg) j) := by
  rw [← ref_a]
  pointwise [val_main_v18_2, val_main_call0_v4, val_main_call0_v3, val_main_call0_v2, val_main_call0_v1, val_main_call0_v0, val_main_call0_cst, val_main_call0_cst_0, sg, zero_sub]

/-- One minus the reference's sigmoid, times it. -/
theorem ref_sg' (j : S4096x2816.Idx) : val_main_v18_1 (F := Ideal) x g wg j
    = sg (rowsNT (kH x g) (kT wg) j) * (1 - sg (rowsNT (kH x g) (kT wg) j)) := by
  rw [← ref_sg]
  pointwise [val_main_v18_1, val_main_call0_v7, val_main_call0_v6, val_main_call0_cst_1]

/-- The reference's gated product. -/
theorem ref_f : val_main_v20 (F := Ideal) x g wg wu = fOf (rowsNT (kH x g) (kT wg)) (rowsNT (kH x g) (kT wu)) := by
  funext j
  have e : val_main_v20 (F := Ideal) x g wg wu j = val_main_v17 (F := Ideal) x g wg j * val_main_v18_2 (F := Ideal) x g wg j * val_main_v19 (F := Ideal) x g wu j := rfl
  rw [e, ref_sg, ref_a, ref_b]; rfl

/-- The reference's gradient of the up product. -/
theorem ref_db : val_main_v28 (F := Ideal) x g wg wd ct = dbOf (kX ct) wd (rowsNT (kH x g) (kT wg)) := by
  funext j
  have e : val_main_v28 (F := Ideal) x g wg wd ct j = val_main_v17 (F := Ideal) x g wg j * val_main_v18_2 (F := Ideal) x g wg j * val_main_v27 (F := Ideal) wd ct j := rfl
  rw [e, ref_sg, ref_a, ref_d]
  show (_ : EReal) = _ * _ * _
  rw [mul_comm, mul_assoc]

/-- The reference's gradient of the gate product, in the reference's own form. -/
theorem ref_da (j : S4096x2816.Idx) : val_main_v33 (F := Ideal) x g wg wu wd ct j
    = (rowsNT (kX ct) wd j * rowsNT (kH x g) (kT wu) j) * sg (rowsNT (kH x g) (kT wg) j)
      + (rowsNT (kH x g) (kT wg) j * (rowsNT (kX ct) wd j * rowsNT (kH x g) (kT wu) j))
        * (sg (rowsNT (kH x g) (kT wg) j) * (1 - sg (rowsNT (kH x g) (kT wg) j))) := by
  have e : val_main_v33 (F := Ideal) x g wg wu wd ct j
    = (val_main_v27 (F := Ideal) wd ct j * val_main_v19 (F := Ideal) x g wu j) * val_main_v18_2 (F := Ideal) x g wg j
      + (val_main_v17 (F := Ideal) x g wg j * (val_main_v27 (F := Ideal) wd ct j * val_main_v19 (F := Ideal) x g wu j)) * val_main_v18_1 (F := Ideal) x g wg j := rfl
  rw [e, ref_sg, ref_sg', ref_a, ref_b, ref_d]

end Cert.KernelIdeal.Ffn

end
-- ==== Proof.Precond.lean ====
/- What the precondition says of the arguments: the norm weight, the up and down weights and the incoming gradient are
   real numbers. -/
module

public import proofs.«01_k».proof.Proof.Entry
public import proofs.«01_k».proof.Defs

@[expose] public section

set_option maxRecDepth 16384

noncomputable section

open Idealize.ShloMosaic

namespace Cert.Pre_finite.Gen

open Cert.Pre_finite

/-- The shape relations of the precondition's operations. -/
instance facts : Facts where
  shapeCasts_S1024_S1x1024 := by decide
  shapeCasts_S2x2048x1024_S4096x1024 := by decide
  transposes_S1024x2816_S2816x1024_1_0 := by decide
  bcast_S_S1x1024 := by decide
  bcast_S_S2816x1024 := by decide
  bcast_S_S4096x1024 := by decide
  concatenates_S1x1024_S2816x1024_S4096x1024_S2816x1024_S9729x1024_d0 := by decide

end Cert.Pre_finite.Gen

namespace Cert.KernelIdeal.Ffn

open Cert.KernelIdeal Cert.KernelIdeal.Gen

/-- A number whose absolute value is below `⊤` is real. -/
theorem real_of_cmp {a : EReal} (h : Ideal.cmp .olt (FloatOps.absf (F := Ideal) (φ := .f32) a) (Ideal.ofBits .f32 0x7F800000#32) = 1#1) :
    ∃ r : ℝ, a = r := by
  rw [Ideal.cmp, show Ideal.ofBits .f32 0x7F800000#32 = (⊤ : EReal) by simp [Ideal.ofBits, Ideal.ieee]] at h
  induction a with
  | coe r => exact ⟨r, rfl⟩
  | top =>
    rw [show FloatOps.absf (F := Ideal) (φ := .f32) (⊤ : EReal) = (⊤ : EReal) from max_eq_left le_top] at h
    simp at h
  | bot =>
    rw [show FloatOps.absf (F := Ideal) (φ := .f32) (⊥ : EReal) = (⊤ : EReal) from max_eq_right bot_le] at h
    simp at h

variable (x : FVec Ideal S2x2048x1024 .f32) (g : FVec Ideal S1024 .f32) (wg wu : FVec Ideal S1024x2816 .f32)
  (wd : FVec Ideal S2816x1024 .f32) (ct : FVec Ideal S2x2048x1024 .f32)

/-- The norm weight is real. -/
theorem real_g (h : Cert.Pre_finite.fn (F := Ideal) x g wg wu wd ct = fun _ => 1#1) (k : Fin 1024) :
    ∃ r : ℝ, g (ix1 k) = r := by
  have e := congrFun h (ix2 (⟨0, by decide⟩ : Fin 9729) k)
  refine real_of_cmp (Eq.trans ?_ e)
  unfold Cert.Pre_finite.fn
  pointwise []

/-- The down weight is real. -/
theorem real_wd (h : Cert.Pre_finite.fn (F := Ideal) x g wg wu wd ct = fun _ => 1#1) (q : Fin 2816) (k : Fin 1024) :
    ∃ r : ℝ, wd (ix2 q k) = r := by
  have e := congrFun h (ix2 (⟨1 + q, Nat.add_lt_add_left q.isLt 1 |>.trans (by decide)⟩ : Fin 9729) k)
  refine real_of_cmp (Eq.trans ?_ e)
  unfold Cert.Pre_finite.fn
  pointwise []

/-- The rows of the incoming gradient are real. -/
theorem real_ct (h : Cert.Pre_finite.fn (F := Ideal) x g wg wu wd ct = fun _ => 1#1) (i : Fin 4096) (k : Fin 1024) :
    ∃ r : ℝ, kX ct (ix2 i k) = r := by
  have e := congrFun h (ix2 (⟨2817 + i, Nat.add_lt_add_left i.isLt 2817 |>.trans (by decide)⟩ : Fin 9729) k)
  refine real_of_cmp (Eq.trans ?_ e)
  unfold Cert.Pre_finite.fn
  pointwise [kX]
  rw [dif_neg (by omega), dif_neg (by omega), dif_pos (show 2817 + (i : ℕ) - 1 - 2816 < 4096 by have := i.isLt; omega)]
  congr! <;> omega

/-- The up weight is real. -/
theorem real_wu (h : Cert.Pre_finite.fn (F := Ideal) x g wg wu wd ct = fun _ => 1#1) (k : Fin 1024) (q : Fin 2816) :
    ∃ r : ℝ, wu (ix2 k q) = r := by
  have e := congrFun h (ix2 (⟨6913 + q, Nat.add_lt_add_left q.isLt 6913⟩ : Fin 9729) k)
  refine real_of_cmp (Eq.trans ?_ e)
  unfold Cert.Pre_finite.fn
  pointwise []
  rw [dif_neg (by omega), dif_neg (by omega), dif_neg (by omega)]
  refine congrArg (fun i : Fin 2816 => BitVec.ofBool (decide (FloatOps.absf (F := Ideal) (φ := .f32) (wu (ix2 k i))
    < Ideal.ofBits .f32 0x7F800000#32))) (Fin.ext ?_)
  show (q : ℕ) = 6913 + (q : ℕ) - 1 - 2816 - 4096
  omega

end Cert.KernelIdeal.Ffn

end
-- ==== Proof.Equation.lean ====
/- The equation of the two programs, result by result. -/
module

public import proofs.«01_k».proof.Proof.Exit
public import proofs.«01_k».proof.Proof.Scalars
public import proofs.«01_k».proof.Proof.Stages
public import proofs.«01_k».proof.Proof.Precond

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen

open Cert.ReferenceIdeal.Read

variable (x : FVec Ideal S2x2048x1024 .f32) (g : FVec Ideal S1024 .f32) (wg wu : FVec Ideal S1024x2816 .f32)
  (wd : FVec Ideal S2816x1024 .f32) (ct : FVec Ideal S2x2048x1024 .f32)

/-- A normalised row is a row of reals, whatever the input: a row with an infinity has a zero reciprocal root. -/
theorem norm_real (i : Fin 4096) (k : Fin 1024) : ∃ r : ℝ, kX x (ix2 i k) * rinv (kX x) i = r := by
  rcases root_cases (fun k => kX x (ix2 i k)) _ rfl with ⟨u, v, hv, hu, hM, hr⟩ | ⟨hr, hM⟩
  · exact ⟨u k * (Real.sqrt v)⁻¹, by rw [EReal.coe_mul, ← hu k, ← hr]; rfl⟩
  · refine ⟨0, ?_⟩
    rw [show rinv (kX x) i = 0 from hr, mul_zero]; rfl

/-- Under the precondition the gradient of the up product's other factor, times that product, is real. -/
theorem real_z (h : Cert.Pre_finite.fn (F := Ideal) x g wg wu wd ct = fun _ => 1#1) (j : S4096x2816.Idx) :
    ∃ z : ℝ, rowsNT (kX ct) wd j * rowsNT (kH x g) (kT wu) j = z := by
  obtain ⟨a, ha⟩ := real_dot (fun k : Fin 1024 => kX ct (ix2 (j 0) k)) (fun k => wd (ix2 (j 1) k))
    (fun k => real_ct x g wg wu wd ct h (j 0) k) (fun k => real_wd x g wg wu wd ct h (j 1) k)
  obtain ⟨b, hb⟩ := real_dot (fun k : Fin 1024 => kH x g (ix2 (j 0) k)) (fun k => kT wu (ix2 (j 1) k))
    (fun k => by
      obtain ⟨p, hp⟩ := norm_real x (j 0) k
      obtain ⟨q, hq⟩ := real_g x g wg wu wd ct h k
      refine ⟨p * q, ?_⟩
      rw [EReal.coe_mul, ← hp, ← hq]; rfl)
    (fun k => real_wu x g wg wu wd ct h k (j 1))
  refine ⟨a * b, ?_⟩
  rw [EReal.coe_mul, ← ha, ← hb]; rfl

/-- The gradient of the gate product. -/
theorem eq_da (h : Cert.Pre_finite.fn (F := Ideal) x g wg wu wd ct = fun _ => 1#1) :
    val_main_v33 (F := Ideal) x g wg wu wd ct = kDa x g wg wu wd ct := by
  funext j
  obtain ⟨z, hz⟩ := real_z x g wg wu wd ct h j
  refine (ref_da x g wg wu wd ct j).trans ?_
  rw [hz, ← silu_grad, ← hz]; rfl

/-- The down weight's gradient. -/
theorem eq_wd : val_main_v26 (F := Ideal) x g wg wu ct = colsTN (fOf (kA x g wg) (kA x g wu)) (kX ct) := by
  funext j
  have e : val_main_v26 (F := Ideal) x g wg wu ct j
      = ∑ k : Fin 4096, val_main_v24 (F := Ideal) ct (ix2 k (j 1)) * val_main_v20 (F := Ideal) x g wg wu (ix2 k (j 0)) := by
    generalize hy : val_main_v20 (F := Ideal) x g wg wu = y
    generalize hc : val_main_v24 (F := Ideal) ct = y'
    pointwise [val_main_v26, val_main_v25, hy, hc]
  rw [e, ref_f, ref_ct]
  exact Finset.sum_congr rfl fun k _ => mul_comm _ _

/-- The up weight's gradient. -/
theorem eq_wu : val_main_v31 (F := Ideal) x g wg wd ct = kW (kDb x g wg wd ct) (kH x g) := by
  funext j
  have e : val_main_v31 (F := Ideal) x g wg wd ct j
      = ∑ k : Fin 4096, val_main_v28 (F := Ideal) x g wg wd ct (ix2 k (j 1)) * val_main_v16 (F := Ideal) x g (ix2 k (j 0)) := by
    generalize hy : val_main_v28 (F := Ideal) x g wg wd ct = y
    generalize hc : val_main_v16 (F := Ideal) x g = y'
    pointwise [val_main_v31, val_main_v30, hy, hc]
  rw [e, ref_db, ref_h]; rfl

/-- The gate weight's gradient. -/
theorem eq_wg (h : Cert.Pre_finite.fn (F := Ideal) x g wg wu wd ct = fun _ => 1#1) :
    val_main_v35 (F := Ideal) x g wg wu wd ct = kW (kDa x g wg wu wd ct) (kH x g) := by
  funext j
  have e : val_main_v35 (F := Ideal) x g wg wu wd ct j
      = ∑ k : Fin 4096, val_main_v33 (F := Ideal) x g wg wu wd ct (ix2 k (j 1)) * val_main_v16 (F := Ideal) x g (ix2 k (j 0)) := by
    generalize hy : val_main_v33 (F := Ideal) x g wg wu wd ct = y
    generalize hc : val_main_v16 (F := Ideal) x g = y'
    pointwise [val_main_v35, val_main_v34, hy, hc]
  rw [e, eq_da x g wg wu wd ct h, ref_h]; rfl

/-- The gradient of the normalised rows. -/
theorem eq_dh (h : Cert.Pre_finite.fn (F := Ideal) x g wg wu wd ct = fun _ => 1#1) :
    val_main_v37 (F := Ideal) x g wg wu wd ct = kDh x g wg wu wd ct := by
  funext j
  have e : val_main_v37 (F := Ideal) x g wg wu wd ct j
      = (∑ k : Fin 2816, val_main_v28 (F := Ideal) x g wg wd ct (ix2 (j 0) k) * wu (ix2 (j 1) k))
        + ∑ k : Fin 2816, val_main_v33 (F := Ideal) x g wg wu wd ct (ix2 (j 0) k) * wg (ix2 (j 1) k) := by
    generalize hy : val_main_v28 (F := Ideal) x g wg wd ct = y
    generalize hc : val_main_v33 (F := Ideal) x g wg wu wd ct = y'
    pointwise [val_main_v37, val_main_v36, val_main_v32, hy, hc]
  rw [e, eq_da x g wg wu wd ct h, ref_db]
  show (_ : EReal) + _ = _
  rw [add_comm]; rfl

/-- The norm weight's gradient. -/
theorem eq_g (h : Cert.Pre_finite.fn (F := Ideal) x g wg wu wd ct = fun _ => 1#1) :
    val_main_v43 (F := Ideal) x g wg wu wd ct = kRow (ggOf (kDh x g wg wu wd ct) (kX x)) := by
  funext j
  have e : val_main_v43 (F := Ideal) x g wg wu wd ct j
      = ∑ i : Fin 4096, val_main_v13 (F := Ideal) x (ix2 i (j 0)) * val_main_v37 (F := Ideal) x g wg wu wd ct (ix2 i (j 0)) := by
    generalize hy : val_main_v13 (F := Ideal) x = y
    generalize hc : val_main_v37 (F := Ideal) x g wg wu wd ct = y'
    pointwise [val_main_v43, val_main_cst_4, val_main_v40, val_main_v39, val_main_cst_3, val_main_v38, hy, hc]
    simp only [Fin.sum_univ_one]
  have e' : kRow (ggOf (kDh x g wg wu wd ct) (kX x)) j = ggOf (kDh x g wg wu wd ct) (kX x) (ix2 0 (j 0)) := by
    generalize ggOf (kDh x g wg wu wd ct) (kX x) = y
    pointwise [kRow]
  rw [e, e', eq_dh x g wg wu wd ct h]
  refine Finset.sum_congr rfl fun i _ => ?_
  rw [ref_n]
  exact mul_comm _ _

/-- The input's gradient. -/
theorem eq_x (h : Cert.Pre_finite.fn (F := Ideal) x g wg wu wd ct = fun _ => 1#1) :
    val_main_v59 (F := Ideal) x g wg wu wd ct
      = kUn (dxOf (kDh x g wg wu wd ct) (kX x) (kG g) (kX ct)) := by
  refine congrArg kUn (a₁ := val_main_v58 (F := Ideal) x g wg wu wd ct) ?_
  funext j
  obtain ⟨p, q, rfl⟩ : ∃ (p : Fin 4096) (q : Fin 1024), j = ix2 p q :=
    ⟨j 0, j 1, by funext a; match a with | ⟨0, _⟩ => rfl | ⟨1, _⟩ => rfl⟩
  have e : val_main_v58 (F := Ideal) x g wg wu wd ct (ix2 p q)
      = val_main_v24 (F := Ideal) ct (ix2 p q) + val_main_v37 (F := Ideal) x g wg wu wd ct (ix2 p q) * g (ix1 q) * val_main_v8 (F := Ideal) x (ix2 p 0)
        + val_main_v0 (F := Ideal) x (ix2 p q) * Ideal.div ((∑ k : Fin 1024, val_main_v0 (F := Ideal) x (ix2 p k) * (val_main_v37 (F := Ideal) x g wg wu wd ct (ix2 p k) * g (ix1 k)))
            * (Ideal.ofBits .f32 0xBF000000#32 * Ideal.div (val_main_v8 (F := Ideal) x (ix2 p 0)) (val_main_v7 (F := Ideal) x (ix2 p 0)))) (Ideal.ofBits .f32 0x44800000#32)
        + Ideal.div ((∑ k : Fin 1024, val_main_v0 (F := Ideal) x (ix2 p k) * (val_main_v37 (F := Ideal) x g wg wu wd ct (ix2 p k) * g (ix1 k)))
            * (Ideal.ofBits .f32 0xBF000000#32 * Ideal.div (val_main_v8 (F := Ideal) x (ix2 p 0)) (val_main_v7 (F := Ideal) x (ix2 p 0)))) (Ideal.ofBits .f32 0x44800000#32)
          * val_main_v0 (F := Ideal) x (ix2 p q) := by
    generalize h0 : val_main_v0 (F := Ideal) x = y0
    generalize h7 : val_main_v7 (F := Ideal) x = y7
    generalize h8 : val_main_v8 (F := Ideal) x = y8
    generalize h24 : val_main_v24 (F := Ideal) ct = y24
    generalize h37 : val_main_v37 (F := Ideal) x g wg wu wd ct = y37
    pointwise [val_main_v58, val_main_v57, val_main_v56, val_main_v55, val_main_v54, val_main_v53, val_main_cst_7, val_main_v52,
      val_main_v51, val_main_cst_6, val_main_v50, val_main_v49, val_main_v48, val_main_v47, val_main_v46, val_main_v45,
      val_main_cst_5, val_main_v44, val_main_v42, val_main_v41, val_main_v14, val_main_v11, val_main_v10, val_main_cst_2,
      val_main_v9, h0, h7, h8, h24, h37]
    simp only [Fin.sum_univ_one]
  refine e.trans ?_
  rw [eq_dh x g wg wu wd ct h, ref_ct, ref_x]
  generalize kDh x g wg wu wd ct = dh
  rw [show val_main_v8 (F := Ideal) x (ix2 p 0) = rinv (kX x) p from ref_r x p,
    show val_main_v7 (F := Ideal) x (ix2 p 0) = ms (kX x) p from ref_ms x p]
  have key := norm_grad (fun k : Fin 1024 => kX x (ix2 p k)) (fun k => dh (ix2 p k) * g (ix1 k)) (ms (kX x) p)
    (kX ct (ix2 p q)) q rfl
  exact key.symm

end Cert.KernelIdeal.Ffn

end
-- ==== Proof.lean ====
module

public import proofs.«01_k».proof.Defs
public import proofs.«01_k».proof.Proof.Gen.Kernel.Frame
public import proofs.«01_k».proof.Proof.Gen.ReferenceIdeal.Run
public import proofs.«01_k».proof.Proof.Gen.Kernel2.Frame
public import proofs.«01_k».proof.Proof.ProjRun
public import proofs.«01_k».proof.Proof.ProjEq
public import proofs.«01_k».proof.Proof.Gen.Reference2Ideal.Run
public import proofs.«01_k».proof.Proof.Gen.Kernel3.Frame
public import proofs.«01_k».proof.Proof.LossEq
public import proofs.«01_k».proof.Proof.Gen.Reference3Ideal.Run
public import proofs.«01_k».proof.Proof.MixIdealFrame2
public import proofs.«01_k».proof.Proof.MergeRun
public import proofs.«01_k».proof.Proof.MergeOut
public import proofs.«01_k».proof.Proof.MergeEq
public import proofs.«01_k».proof.Proof.Gen.Kernel4
public import proofs.«01_k».proof.Proof.Gen.Kernel4Ideal.Points
public import proofs.«01_k».proof.Proof.Gen.Kernel4Ideal.Launch
public import proofs.«01_k».proof.Proof.Gen.Kernel4Ideal.Skeleton
public import proofs.«01_k».proof.Proof.Gen.Reference4Ideal.Run
public import proofs.«01_k».proof.Proof.Gen.Reference4Ideal.Read
public import proofs.«01_k».proof.Proof.Gen.Kernel5.Frame
public import proofs.«01_k».proof.Proof.BigRun
public import proofs.«01_k».proof.Proof.BigEq
public import proofs.«01_k».proof.Proof.Gen.Reference5Ideal.Run
public import proofs.«01_k».proof.Proof.Gen.Reference5Ideal.Read
public import proofs.«01_k».proof.Proof.Gen.Kernel6.Frame
public import proofs.«01_k».proof.Proof.AttnRun
public import proofs.«01_k».proof.Proof.AttnEq
public import proofs.«01_k».proof.Proof.Gen.Reference6Ideal.Run
public import proofs.«01_k».proof.Proof.Gen.Reference6Ideal.Read
public import proofs.«01_k».proof.Proof.Gen.Kernel7.Frame
public import proofs.«01_k».proof.Proof.SumRun
public import proofs.«01_k».proof.Proof.SumCalls
public import proofs.«01_k».proof.Proof.Gen.Reference7Ideal.Run
public import proofs.«01_k».proof.Proof.Gen.Reference7Ideal.Read
public import proofs.«01_k».proof.Proof.RunAll
public import proofs.«01_k».proof.Proof.Equation
public import Idealize.ShloMosaic.Adequacy
public import Idealize.ShloMosaic.Init

@[expose] public section

noncomputable section

namespace Cert.Proof

open Idealize.ShloMosaic Idealize.SL.Sem

/-- The reference runs, leaves its arguments as they were and every counter at zero. -/
theorem frame_reference : Cert.quiescent_ReferenceIdeal := by
  intro m g _
  exact (θ_run _ _ _).mono (fun r h => ⟨fun c => (h c).2.2.2.2.2, sem_eq_zero_of_no_sems (by decide) r.2⟩)
    (Cert.ReferenceIdeal.Value.run m g)

/-- The kernel and the reference end with equal results, under the precondition. -/
theorem algebraic : Cert.algebraic_KernelIdeal_ReferenceIdeal_pre_finite := by
  intro m g m' g' hpre hagree
  open Cert.KernelIdeal Cert.KernelIdeal.Gen Cert.KernelIdeal.Ffn in
  refine ⟨fun c => W7 m g c (Proc.devRef .tc main_v27), fun c => W7 m g c (Proc.devRef .tc main_v28), fun c => W7 m g c (Proc.devRef .tc main_v32), fun c => W7 m g c (Proc.devRef .tc main_v36),
    fun c => W7 m g c (Proc.devRef .tc main_v37), ?_, ?_⟩
  · open Cert.KernelIdeal Cert.KernelIdeal.Gen Cert.KernelIdeal.Ffn in
    exact (θ_run _ _ _).mono (fun r h c => ⟨h c _ (mem_uc main_v27 (by decide)), h c _ (mem_uc main_v28 (by decide)),
      h c _ (mem_uc main_v32 (by decide)), h c _ (mem_uc main_v36 (by decide)), h c _ (mem_uc main_v37 (by decide)),
      (h c _ (mem_uc main_arg0 (by decide))).trans (W7_main_arg0 m g c),
      (h c _ (mem_uc main_arg1 (by decide))).trans (W7_main_arg1 m g c),
      (h c _ (mem_uc main_arg2 (by decide))).trans (W7_main_arg2 m g c),
      (h c _ (mem_uc main_arg3 (by decide))).trans (W7_main_arg3 m g c),
      (h c _ (mem_uc main_arg4 (by decide))).trans (W7_main_arg4 m g c),
      (h c _ (mem_uc main_arg5 (by decide))).trans (W7_main_arg5 m g c)⟩) (run_all m g)
  · open Cert.ReferenceIdeal Cert.ReferenceIdeal.Read Cert.KernelIdeal.Ffn in
    refine (θ_run _ _ _).mono (fun r h c => ?_) (Cert.ReferenceIdeal.Value.run m' g')
    obtain ⟨h0, h1, h2, h3, h4, h5⟩ := hagree c
    obtain ⟨r0, r1, r2, r3, r4, hargs⟩ := h c
    have hc := hpre c
    refine ⟨?_, ?_, ?_, ?_, ?_, hargs⟩
    · refine r0.trans ((val_main_v59_eq m' c).trans ?_)
      rw [h0, h1, h2, h3, h4, h5]
      exact (eq_x _ _ _ _ _ _ hc).trans (out_x m g c).symm
    · refine r1.trans ((val_main_v43_eq m' c).trans ?_)
      rw [h0, h1, h2, h3, h4, h5]
      exact (eq_g _ _ _ _ _ _ hc).trans (out_g m g c).symm
    · refine r2.trans ((val_main_v35_eq m' c).trans ?_)
      rw [h0, h1, h2, h3, h4, h5]
      exact (eq_wg _ _ _ _ _ _ hc).trans (out_wg m g c).symm
    · refine r3.trans ((val_main_v31_eq _ _ _ _ _).trans ?_)
      rw [h0, h1, h2, h4, h5]
      exact (eq_wu _ _ _ _ _).trans (out_wu m g c).symm
    · refine r4.trans ((val_main_v26_eq _ _ _ _ _).trans ?_)
      rw [h0, h1, h2, h3, h5]
      exact (eq_wd _ _ _ _ _).trans (out_wd m g c).symm

/-- The projection's reference runs, leaves its arguments as they were and every counter at zero. -/
theorem frame_reference2 : Cert.quiescent_Reference2Ideal := by
  intro m g _
  exact (θ_run _ _ _).mono (fun r h => ⟨fun c => (h c).2.2.2, sem_eq_zero_of_no_sems (by decide) r.2⟩)
    (Cert.Reference2Ideal.Value.run m g)

/-- The loss head's reference runs, leaves its arguments as they were and every counter at zero. -/
theorem frame_reference3 : Cert.quiescent_Reference3Ideal := by
  intro m g _
  exact (θ_run _ _ _).mono (fun r h => ⟨fun c => (h c).2.2.2, sem_eq_zero_of_no_sems (by decide) r.2⟩)
    (Cert.Reference3Ideal.Value.run m g)

/-- The projection's gradient: kernel and reference end with equal results. -/
theorem algebraic2 : Cert.algebraic_Kernel2Ideal_Reference2Ideal := by
  intro m g m' g' _ hagree
  open Cert.Kernel2Ideal Cert.Kernel2Ideal.Gen Cert.Kernel2Ideal.Proj in
  refine ⟨fun c => W6 m g c (Proc.devRef .tc main_v24), fun c => W6 m g c (Proc.devRef .tc main_v25),
    fun c => W6 m g c (Proc.devRef .tc main_v29), ?_, ?_⟩
  · open Cert.Kernel2Ideal Cert.Kernel2Ideal.Gen Cert.Kernel2Ideal.Proj in
    exact (θ_run _ _ _).mono (fun r h c => ⟨h c _ (mem_uc main_v24 (by decide)), h c _ (mem_uc main_v25 (by decide)),
      h c _ (mem_uc main_v29 (by decide)),
      (h c _ (mem_uc main_arg0 (by decide))).trans (W6_main_arg0 m g c),
      (h c _ (mem_uc main_arg1 (by decide))).trans (W6_main_arg1 m g c),
      (h c _ (mem_uc main_arg2 (by decide))).trans (W6_main_arg2 m g c),
      (h c _ (mem_uc main_arg3 (by decide))).trans (W6_main_arg3 m g c),
      (h c _ (mem_uc main_arg4 (by decide))).trans (W6_main_arg4 m g c)⟩) (run_all m g)
  · open Cert.Reference2Ideal Cert.Reference2Ideal.Read Cert.Kernel2Ideal.Proj in
    refine (θ_run _ _ _).mono (fun r h c => ?_) (Cert.Reference2Ideal.Value.run m' g')
    obtain ⟨h0, h1, h2, h3, h4⟩ := hagree c
    obtain ⟨r0, r1, r2, hargs⟩ := h c
    refine ⟨?_, ?_, ?_, hargs⟩
    · refine r0.trans ((val_main_v44_eq m' c).trans ?_)
      rw [h0, h1, h2, h3, h4]
      exact (eq_x _ _ _ _ _).trans (out_x m g c).symm
    · refine r1.trans ((val_main_v28_eq _ _ _).trans ?_)
      rw [h0, h2, h3]
      exact (eq_g _ _ _).trans (out_g m g c).symm
    · refine r2.trans ((val_main_v21_eq _ _ _).trans ?_)
      rw [h0, h1, h3]
      exact (eq_w _ _ _).trans (out_w m g c).symm

/-- The loss head: kernel and reference end with equal results. -/
theorem algebraic3 : Cert.algebraic_Kernel3Ideal_Reference3Ideal := by
  intro m g m' g' _ hagree
  open Cert.Kernel3Ideal Cert.Kernel3Ideal.Gen Cert.Kernel3Ideal.Loss in
  refine ⟨fun c => Wend m c main_v8, fun c => Wend m c main_v9, fun c => Wend m c main_v10, ?_, ?_⟩
  · open Cert.Kernel3Ideal Cert.Kernel3Ideal.Gen Cert.Kernel3Ideal.Loss in
    exact (θ_run _ _ _).mono (fun r h c => ⟨(h.1 c).2 main_v8 (by decide), (h.1 c).2 main_v9 (by decide),
      (h.1 c).2 main_v10 (by decide), h.2 c⟩) (θ_run_and (run_main m g) (unchanged m g))
  · open Cert.Reference3Ideal Cert.Reference3Ideal.Read Cert.Kernel3Ideal.Loss in
    refine (θ_run _ _ _).mono (fun r h c => ?_) (Cert.Reference3Ideal.Value.run m' g')
    obtain ⟨h0, h1, h2, h3, h4⟩ := hagree c
    obtain ⟨r0, r1, r2, hargs⟩ := h c
    refine ⟨?_, ?_, ?_, hargs⟩
    · refine r0.trans ((val_main_v29_eq _ _ _ _ _).trans ?_)
      rw [h0, h1, h2, h3, h4]
      exact (eq_l _ _ _ _ _).trans (out_l m c).symm
    · refine r1.trans ((val_main_v56_eq m' c).trans ?_)
      rw [h0, h1, h2, h3, h4]
      exact (eq_x _ _ _ _ _).trans (out_x m c).symm
    · refine r2.trans ((val_main_v41_eq _ _ _ _ _).trans ?_)
      rw [h0, h1, h2, h3, h4]
      exact (eq_g _ _ _ _ _).trans (out_g m c).symm

/-- The frame of the merge's gradient on bits, said of the idealized program's text. -/
def bitsFrame : Prop :=
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

/-- The one run, taken on bits. -/
theorem bits_frame : bitsFrame := fun m g _ => Cert.Kernel4Ideal.Gen.frame (F := Bits) m g

/-- The two texts are one, and so are the two statements. -/
theorem same_frame : bitsFrame = Cert.quiescent_Kernel4 := by sl_kernel_rfl

/-- The merge's gradient runs on bits, and leaves its arguments as they were. -/
theorem frame_kernel4 : Cert.quiescent_Kernel4 := same_frame ▸ bits_frame

/-- The merge's reference runs, leaves its arguments as they were and every counter at zero. -/
theorem frame_reference4 : Cert.quiescent_Reference4Ideal := by
  intro m g _
  exact (θ_run _ _ _).mono (fun r h => ⟨fun c => (h c).2.2.2.2.2.2, sem_eq_zero_of_no_sems (by decide) r.2⟩)
    (Cert.Reference4Ideal.Value.run m g)

/-- The merge's gradient: kernel and reference end with equal results. -/
theorem algebraic4 : Cert.algebraic_Kernel4Ideal_Reference4Ideal := by
  intro m g m' g' _ hagree
  open Cert.Kernel4Ideal Cert.Kernel4Ideal.Gen Cert.Kernel4Ideal.Merge in
  refine ⟨fun c => W8 m g c (Proc.devRef .tc main_v57),
    fun c => W8 m g c (Proc.devRef .tc main_v58),
    fun c => W8 m g c (Proc.devRef .tc main_v60),
    fun c => W8 m g c (Proc.devRef .tc main_v62),
    fun c => W8 m g c (Proc.devRef .tc main_v64),
    fun c => W8 m g c (Proc.devRef .tc main_v65), ?_, ?_⟩
  · open Cert.Kernel4Ideal Cert.Kernel4Ideal.Gen Cert.Kernel4Ideal.Merge in
    exact (θ_run _ _ _).mono (fun r h c => ⟨h c _ (mem_uc main_v57 (by decide)),
      h c _ (mem_uc main_v58 (by decide)),
      h c _ (mem_uc main_v60 (by decide)),
      h c _ (mem_uc main_v62 (by decide)),
      h c _ (mem_uc main_v64 (by decide)),
      h c _ (mem_uc main_v65 (by decide)),
      (h c _ (mem_uc main_arg0 (by decide))).trans (W8_main_arg0 m g c),
      (h c _ (mem_uc main_arg1 (by decide))).trans (W8_main_arg1 m g c),
      (h c _ (mem_uc main_arg2 (by decide))).trans (W8_main_arg2 m g c),
      (h c _ (mem_uc main_arg3 (by decide))).trans (W8_main_arg3 m g c),
      (h c _ (mem_uc main_arg4 (by decide))).trans (W8_main_arg4 m g c),
      (h c _ (mem_uc main_arg5 (by decide))).trans (W8_main_arg5 m g c),
      (h c _ (mem_uc main_arg6 (by decide))).trans (W8_main_arg6 m g c)⟩) (run_all m g)
  · open Cert.Reference4Ideal Cert.Reference4Ideal.Read Cert.Kernel4Ideal.Merge in
    refine (θ_run _ _ _).mono (fun r h c => ?_) (Cert.Reference4Ideal.Value.run m' g')
    obtain ⟨h0, h1, h2, h3, h4, h5, h6⟩ := hagree c
    obtain ⟨r0, r1, r2, r3, r4, r5, hargs⟩ := h c
    refine ⟨?_, ?_, ?_, ?_, ?_, ?_, hargs⟩
    · refine r0.trans ((val_main_v62_eq _ _ _ _).trans ?_)
      rw [h2, h3, h5, h6]
      exact (eq_a _ _ _ _).trans (out_v57 m g c).symm
    · refine r1.trans ((val_main_v58_eq _ _ _ _ _).trans ?_)
      rw [h1, h2, h4, h5, h6]
      exact (eq_y _ _ _ _ _).trans (out_v58 m g c).symm
    · refine r2.trans ((val_main_v65_eq _ _ _ _ _ _ _).trans ?_)
      rw [h0, h1, h2, h3, h4, h5, h6]
      exact (eq_p _ _ _ _ _ _ _).trans (out_v60 m g c).symm
    · refine r3.trans ((val_main_v60_eq _ _ _ _).trans ?_)
      rw [h0, h2, h5, h6]
      exact (eq_wa _ _ _ _).trans (out_v62 m g c).symm
    · refine r4.trans ((val_main_v56_eq _ _ _ _ _).trans ?_)
      rw [h1, h2, h4, h5, h6]
      exact (eq_wg _ _ _ _ _).trans (out_v64 m g c).symm
    · refine r5.trans ((val_main_v38_eq _ _ _ _ _ _).trans ?_)
      rw [h0, h1, h2, h3, h4, h6]
      exact (eq_wo _ _ _ _ _ _).trans (out_v65 m g c).symm

/-- The reference of the gating's matrix's update runs, leaves its arguments as they were and every counter at zero. -/
theorem frame_reference5 : Cert.quiescent_Reference5Ideal := by
  intro m g _
  exact (θ_run _ _ _).mono (fun r h => ⟨fun c => (h c).2.2.2.2, sem_eq_zero_of_no_sems (by decide) r.2⟩)
    (Cert.Reference5Ideal.Value.run m g)

/-- The update of the gating's matrix: kernel and reference end with equal results. -/
theorem algebraic5 : Cert.algebraic_Kernel5Ideal_Reference5Ideal := by
  intro m g m' g' _ hagree
  open Cert.Kernel5Ideal Cert.Kernel5Ideal.Gen Cert.Kernel5Ideal.Big in
  refine ⟨fun c => W4 m g c (Proc.devRef .tc main_v4_0), fun c => W4 m g c (Proc.devRef .tc main_v4_1),
    fun c => W4 m g c (Proc.devRef .tc main_v4_2), fun c => W4 m g c (Proc.devRef .tc main_v4_3), ?_, ?_⟩
  · open Cert.Kernel5Ideal Cert.Kernel5Ideal.Gen Cert.Kernel5Ideal.Big in
    exact (θ_run _ _ _).mono (fun r h c => ⟨h c _ (mem_uc main_v4_0 (by decide)), h c _ (mem_uc main_v4_1 (by decide)),
      h c _ (mem_uc main_v4_2 (by decide)), h c _ (mem_uc main_v4_3 (by decide)),
      (h c _ (mem_uc main_arg0 (by decide))).trans (W4_main_arg0 m g c),
      (h c _ (mem_uc main_arg1 (by decide))).trans (W4_main_arg1 m g c),
      (h c _ (mem_uc main_arg2 (by decide))).trans (W4_main_arg2 m g c),
      (h c _ (mem_uc main_arg3 (by decide))).trans (W4_main_arg3 m g c)⟩) (run_all m g)
  · open Cert.Reference5Ideal Cert.Reference5Ideal.Read Cert.Kernel5Ideal.Big in
    refine (θ_run _ _ _).mono (fun r h c => ?_) (Cert.Reference5Ideal.Value.run m' g')
    obtain ⟨h0, h1, h2, h3⟩ := hagree c
    obtain ⟨r0, r1, r2, r3, hargs⟩ := h c
    refine ⟨?_, ?_, ?_, ?_, hargs⟩
    · refine r0.trans ((val_main_v1_eq _).trans ?_)
      rw [h0]
      exact (eq_g _).trans (out_g m g c).symm
    · refine r1.trans ((val_main_v25_eq _ _ _ _).trans ?_)
      rw [h0, h1, h2, h3]
      exact (eq_d _ _ _ _).trans (out_d m g c).symm
    · refine r2.trans ((val_main_v6_eq _ _).trans ?_)
      rw [h0, h2]
      exact (eq_m _ _).trans (out_m m g c).symm
    · refine r3.trans ((val_main_v12_eq _ _).trans ?_)
      rw [h0, h3]
      exact (eq_v _ _).trans (out_v m g c).symm

/-- The reference of the attention branch's matrix's update runs, leaves its arguments as they were and every counter at zero. -/
theorem frame_reference6 : Cert.quiescent_Reference6Ideal := by
  intro m g _
  exact (θ_run _ _ _).mono (fun r h => ⟨fun c => (h c).2.2.2.2, sem_eq_zero_of_no_sems (by decide) r.2⟩)
    (Cert.Reference6Ideal.Value.run m g)

/-- The update of the attention branch's matrix: kernel and reference end with equal results. -/
theorem algebraic6 : Cert.algebraic_Kernel6Ideal_Reference6Ideal := by
  intro m g m' g' _ hagree
  open Cert.Kernel6Ideal Cert.Kernel6Ideal.Gen Cert.Kernel6Ideal.Attn in
  refine ⟨fun c => W4 m g c (Proc.devRef .tc main_v4_0), fun c => W4 m g c (Proc.devRef .tc main_v4_1),
    fun c => W4 m g c (Proc.devRef .tc main_v4_2), fun c => W4 m g c (Proc.devRef .tc main_v4_3), ?_, ?_⟩
  · open Cert.Kernel6Ideal Cert.Kernel6Ideal.Gen Cert.Kernel6Ideal.Attn in
    exact (θ_run _ _ _).mono (fun r h c => ⟨h c _ (mem_uc main_v4_0 (by decide)), h c _ (mem_uc main_v4_1 (by decide)),
      h c _ (mem_uc main_v4_2 (by decide)), h c _ (mem_uc main_v4_3 (by decide)),
      (h c _ (mem_uc main_arg0 (by decide))).trans (W4_main_arg0 m g c),
      (h c _ (mem_uc main_arg1 (by decide))).trans (W4_main_arg1 m g c),
      (h c _ (mem_uc main_arg2 (by decide))).trans (W4_main_arg2 m g c),
      (h c _ (mem_uc main_arg3 (by decide))).trans (W4_main_arg3 m g c)⟩) (run_all m g)
  · open Cert.Reference6Ideal Cert.Reference6Ideal.Read Cert.Kernel6Ideal.Attn in
    refine (θ_run _ _ _).mono (fun r h c => ?_) (Cert.Reference6Ideal.Value.run m' g')
    obtain ⟨h0, h1, h2, h3⟩ := hagree c
    obtain ⟨r0, r1, r2, r3, hargs⟩ := h c
    refine ⟨?_, ?_, ?_, ?_, hargs⟩
    · refine r0.trans ((val_main_v1_eq _).trans ?_)
      rw [h0]
      exact (eq_g _).trans (out_g m g c).symm
    · refine r1.trans ((val_main_v25_eq _ _ _ _).trans ?_)
      rw [h0, h1, h2, h3]
      exact (eq_d _ _ _ _).trans (out_d m g c).symm
    · refine r2.trans ((val_main_v6_eq _ _).trans ?_)
      rw [h0, h2]
      exact (eq_m _ _).trans (out_m m g c).symm
    · refine r3.trans ((val_main_v12_eq _ _).trans ?_)
      rw [h0, h3]
      exact (eq_v _ _).trans (out_v m g c).symm

/-- The reference of the small sums runs, leaves its arguments as they were and every counter at zero. -/
theorem frame_reference7 : Cert.quiescent_Reference7Ideal := by
  intro m g _
  exact (θ_run _ _ _).mono (fun r h => ⟨fun c => (h c).2.2.2.2.2.2.2.2.2.2.2.2, sem_eq_zero_of_no_sems (by decide) r.2⟩)
    (Cert.Reference7Ideal.Value.run m g)

/-- The sums of the small gradients and of the loss: kernel and reference end with equal results. -/
theorem algebraic7 : Cert.algebraic_Kernel7Ideal_Reference7Ideal := by
  intro m g m' g' _ hagree
  open Cert.Kernel7Ideal Cert.Kernel7Ideal.Gen Cert.Kernel7Ideal.Sums in
  refine ⟨fun c => W4 m g c (Proc.devRef .tc main_v38),
    fun c => W4 m g c (Proc.devRef .tc main_v1),
    fun c => W4 m g c (Proc.devRef .tc main_v11),
    fun c => W4 m g c (Proc.devRef .tc main_v14),
    fun c => W4 m g c (Proc.devRef .tc main_v17),
    fun c => W4 m g c (Proc.devRef .tc main_v39),
    fun c => W4 m g c (Proc.devRef .tc main_v40),
    fun c => W4 m g c (Proc.devRef .tc main_v32),
    fun c => W4 m g c (Proc.devRef .tc main_v36),
    fun c => W4 m g c (Proc.devRef .tc main_v20),
    fun c => W4 m g c (Proc.devRef .tc main_v5),
    fun c => W4 m g c (Proc.devRef .tc main_v41), ?_, ?_⟩
  · open Cert.Kernel7Ideal Cert.Kernel7Ideal.Gen Cert.Kernel7Ideal.Sums in
    exact (θ_run _ _ _).mono (fun r h c => ⟨h c _ (mem_uc main_v38 (by decide)),
      h c _ (mem_uc main_v1 (by decide)),
      h c _ (mem_uc main_v11 (by decide)),
      h c _ (mem_uc main_v14 (by decide)),
      h c _ (mem_uc main_v17 (by decide)),
      h c _ (mem_uc main_v39 (by decide)),
      h c _ (mem_uc main_v40 (by decide)),
      h c _ (mem_uc main_v32 (by decide)),
      h c _ (mem_uc main_v36 (by decide)),
      h c _ (mem_uc main_v20 (by decide)),
      h c _ (mem_uc main_v5 (by decide)),
      h c _ (mem_uc main_v41 (by decide)),
      (h c _ (mem_uc main_arg0 (by decide))).trans (W4_main_arg0 m g c),
      (h c _ (mem_uc main_arg1 (by decide))).trans (W4_main_arg1 m g c)⟩) (run_all m g)
  · open Cert.Reference7Ideal Cert.Reference7Ideal.Read Cert.Kernel7Ideal.Sums in
    refine (θ_run _ _ _).mono (fun r h c => ?_) (Cert.Reference7Ideal.Value.run m' g')
    obtain ⟨h0, h1⟩ := hagree c
    obtain ⟨r0, r1, r2, r3, r4, r5, r6, r7, r8, r9, r10, r11, hargs⟩ := h c
    refine ⟨?_, ?_, ?_, ?_, ?_, ?_, ?_, ?_, ?_, ?_, ?_, ?_, hargs⟩
    · refine r0.trans ((val_main_v38_eq _).trans ?_)
      rw [h0]
      exact (out_v38 m g c).symm
    · refine r1.trans ((val_main_v2_eq _).trans ?_)
      rw [h1]
      exact (out_v1 m g c).symm
    · refine r2.trans ((val_main_v11_eq _).trans ?_)
      rw [h0]
      exact (out_v11 m g c).symm
    · refine r3.trans ((val_main_v14_eq _).trans ?_)
      rw [h0]
      exact (out_v14 m g c).symm
    · refine r4.trans ((val_main_v17_eq _).trans ?_)
      rw [h0]
      exact (out_v17 m g c).symm
    · refine r5.trans ((val_main_v39_eq _).trans ?_)
      rw [h0]
      exact (out_v39 m g c).symm
    · refine r6.trans ((val_main_v40_eq _).trans ?_)
      rw [h0]
      exact (out_v40 m g c).symm
    · refine r7.trans ((val_main_v32_eq _).trans ?_)
      rw [h0]
      exact (out_v32 m g c).symm
    · refine r8.trans ((val_main_v36_eq _).trans ?_)
      rw [h0]
      exact (out_v36 m g c).symm
    · refine r9.trans ((val_main_v20_eq _).trans ?_)
      rw [h0]
      exact (out_v20 m g c).symm
    · refine r10.trans ((val_main_v5_eq _).trans ?_)
      rw [h0]
      exact (out_v5 m g c).symm
    · refine r11.trans ((val_main_v41_eq _).trans ?_)
      rw [h0]
      exact (out_v41 m g c).symm

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.Kernel2.Gen.frame m g,
    fun m g _ => Cert.Kernel2Ideal.Gen.frame m g,
    frame_reference2,
    fun m g _ => Cert.Kernel3.Gen.frame m g,
    fun m g _ => Cert.Kernel3Ideal.Gen.frame m g,
    frame_reference3,
    frame_kernel4,
    fun m g _ => Cert.Kernel4Ideal.Gen.frame m g,
    frame_reference4,
    fun m g _ => Cert.Kernel5.Gen.frame m g,
    fun m g _ => Cert.Kernel5Ideal.Gen.frame m g,
    frame_reference5,
    fun m g _ => Cert.Kernel6.Gen.frame m g,
    fun m g _ => Cert.Kernel6Ideal.Gen.frame m g,
    frame_reference6,
    fun m g _ => Cert.Kernel7.Gen.frame m g,
    fun m g _ => Cert.Kernel7Ideal.Gen.frame m g,
    frame_reference7,
    trivial,
    algebraic,
    trivial,
    algebraic2,
    trivial,
    algebraic3,
    trivial,
    algebraic4,
    trivial,
    algebraic5,
    trivial,
    algebraic6,
    trivial,
    algebraic7⟩

end Cert.Proof

end
